-- ==== Defs.lean ====
def Pre_Seqmix (m : (ℓ : Loc Cert.Seqmix.nD Cert.Seqmix.τ Cert.Seqmix.sig) → Buf (Elt Bits) ℓ) : Prop :=
  True

def Pre_SeqmixIdeal (m : (ℓ : Loc Cert.SeqmixIdeal.nD Cert.SeqmixIdeal.τ Cert.SeqmixIdeal.sig) → Buf (Elt Ideal) ℓ) : Prop :=
  True

def Pre_SeqmixIdeal_finite_mixer_inputs [hPre_finite_mixer_inputs : Cert.Pre_finite_mixer_inputs.Facts] (m : (ℓ : Loc Cert.SeqmixIdeal.nD Cert.SeqmixIdeal.τ Cert.SeqmixIdeal.sig) → Buf (Elt Ideal) ℓ) : Prop :=
  ∀ c : Dev Cert.SeqmixIdeal.nD,
    (Cert.Pre_finite_mixer_inputs.fn (F := Ideal) (m ((c.tc : Thread Cert.SeqmixIdeal.nD Cert.SeqmixIdeal.τ).loc Cert.SeqmixIdeal.main_arg0)) (m ((c.tc : Thread Cert.SeqmixIdeal.nD Cert.SeqmixIdeal.τ).loc Cert.SeqmixIdeal.main_arg1))) = (fun _ => 1#1)

def Pre_SeqmixReferenceIdeal (m : (ℓ : Loc Cert.SeqmixReferenceIdeal.nD Cert.SeqmixReferenceIdeal.τ Cert.SeqmixReferenceIdeal.sig) → Buf (Elt Ideal) ℓ) : Prop :=
  True

def Pre_SeqmixReferenceIdeal_finite_mixer_inputs [hPre_finite_mixer_inputs : Cert.Pre_finite_mixer_inputs.Facts] (m : (ℓ : Loc Cert.SeqmixReferenceIdeal.nD Cert.SeqmixReferenceIdeal.τ Cert.SeqmixReferenceIdeal.sig) → Buf (Elt Ideal) ℓ) : Prop :=
  ∀ c : Dev Cert.SeqmixReferenceIdeal.nD,
    (Cert.Pre_finite_mixer_inputs.fn (F := Ideal) (m ((c.tc : Thread Cert.SeqmixReferenceIdeal.nD Cert.SeqmixReferenceIdeal.τ).loc Cert.SeqmixReferenceIdeal.main_arg0)) (m ((c.tc : Thread Cert.SeqmixReferenceIdeal.nD Cert.SeqmixReferenceIdeal.τ).loc Cert.SeqmixReferenceIdeal.main_arg1))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_router [hPre_finite_router : Cert.Pre_finite_router.Facts] (m : (ℓ : Loc Cert.TailIdeal.nD Cert.TailIdeal.τ Cert.TailIdeal.sig) → Buf (Elt Ideal) ℓ) : Prop :=
  ∀ c : Dev Cert.TailIdeal.nD,
    (Cert.Pre_finite_router.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_finite_router [hPre_finite_router : Cert.Pre_finite_router.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_finite_router.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9))) = (fun _ => 1#1)

def Pre_Fold (m : (ℓ : Loc Cert.Fold.nD Cert.Fold.τ Cert.Fold.sig) → Buf (Elt Bits) ℓ) : Prop :=
  True

def Pre_FoldIdeal (m : (ℓ : Loc Cert.FoldIdeal.nD Cert.FoldIdeal.τ Cert.FoldIdeal.sig) → Buf (Elt Ideal) ℓ) : Prop :=
  True

def Pre_FoldReferenceIdeal (m : (ℓ : Loc Cert.FoldReferenceIdeal.nD Cert.FoldReferenceIdeal.τ Cert.FoldReferenceIdeal.sig) → Buf (Elt Ideal) ℓ) : Prop :=
  True

def Pre_Route (m : (ℓ : Loc Cert.Route.nD Cert.Route.τ Cert.Route.sig) → Buf (Elt Bits) ℓ) : Prop :=
  True

def quiescent_Seqmix [hSeqmix : Cert.Seqmix.Facts] : Prop :=
  ∀ (m : (ℓ : Loc Cert.Seqmix.nD Cert.Seqmix.τ Cert.Seqmix.sig) → Buf (Elt Bits) ℓ) (g : Dev Cert.Seqmix.nD → PrngReg), Pre_Seqmix m →
    θ_run (Cert.Seqmix.defs (F := Bits)) (onTc (τ := Cert.Seqmix.τ) (Cert.Seqmix.main (F := Bits))) ⟨m, fun _ => 0, g⟩ (fun r => (∀ c : Dev Cert.Seqmix.nD,
      r.2.mem ((c.tc : Thread Cert.Seqmix.nD Cert.Seqmix.τ).loc Cert.Seqmix.main_arg0) = m ((c.tc : Thread Cert.Seqmix.nD Cert.Seqmix.τ).loc Cert.Seqmix.main_arg0)
      ∧ r.2.mem ((c.tc : Thread Cert.Seqmix.nD Cert.Seqmix.τ).loc Cert.Seqmix.main_arg1) = m ((c.tc : Thread Cert.Seqmix.nD Cert.Seqmix.τ).loc Cert.Seqmix.main_arg1))
      ∧ r.2.sem = fun _ => 0)

def quiescent_SeqmixIdeal [hSeqmixIdeal : Cert.SeqmixIdeal.Facts] : Prop :=
  ∀ (m : (ℓ : Loc Cert.SeqmixIdeal.nD Cert.SeqmixIdeal.τ Cert.SeqmixIdeal.sig) → Buf (Elt Ideal) ℓ) (g : Dev Cert.SeqmixIdeal.nD → PrngReg), Pre_SeqmixIdeal m →
    θ_run (Cert.SeqmixIdeal.defs (F := Ideal)) (onTc (τ := Cert.SeqmixIdeal.τ) (Cert.SeqmixIdeal.main (F := Ideal))) ⟨m, fun _ => 0, g⟩ (fun r => (∀ c : Dev Cert.SeqmixIdeal.nD,
      r.2.mem ((c.tc : Thread Cert.SeqmixIdeal.nD Cert.SeqmixIdeal.τ).loc Cert.SeqmixIdeal.main_arg0) = m ((c.tc : Thread Cert.SeqmixIdeal.nD Cert.SeqmixIdeal.τ).loc Cert.SeqmixIdeal.main_arg0)
      ∧ r.2.mem ((c.tc : Thread Cert.SeqmixIdeal.nD Cert.SeqmixIdeal.τ).loc Cert.SeqmixIdeal.main_arg1) = m ((c.tc : Thread Cert.SeqmixIdeal.nD Cert.SeqmixIdeal.τ).loc Cert.SeqmixIdeal.main_arg1))
      ∧ r.2.sem = fun _ => 0)

def quiescent_SeqmixIdeal_pre_finite_mixer_inputs [hSeqmixIdeal : Cert.SeqmixIdeal.Facts] [hPre_finite_mixer_inputs : Cert.Pre_finite_mixer_inputs.Facts] : Prop :=
  ∀ (m : (ℓ : Loc Cert.SeqmixIdeal.nD Cert.SeqmixIdeal.τ Cert.SeqmixIdeal.sig) → Buf (Elt Ideal) ℓ) (g : Dev Cert.SeqmixIdeal.nD → PrngReg), Pre_SeqmixIdeal_finite_mixer_inputs m →
    θ_run (Cert.SeqmixIdeal.defs (F := Ideal)) (onTc (τ := Cert.SeqmixIdeal.τ) (Cert.SeqmixIdeal.main (F := Ideal))) ⟨m, fun _ => 0, g⟩ (fun r => (∀ c : Dev Cert.SeqmixIdeal.nD,
      r.2.mem ((c.tc : Thread Cert.SeqmixIdeal.nD Cert.SeqmixIdeal.τ).loc Cert.SeqmixIdeal.main_arg0) = m ((c.tc : Thread Cert.SeqmixIdeal.nD Cert.SeqmixIdeal.τ).loc Cert.SeqmixIdeal.main_arg0)
      ∧ r.2.mem ((c.tc : Thread Cert.SeqmixIdeal.nD Cert.SeqmixIdeal.τ).loc Cert.SeqmixIdeal.main_arg1) = m ((c.tc : Thread Cert.SeqmixIdeal.nD Cert.SeqmixIdeal.τ).loc Cert.SeqmixIdeal.main_arg1))
      ∧ r.2.sem = fun _ => 0)

def quiescent_SeqmixReferenceIdeal [hSeqmixReferenceIdeal : Cert.SeqmixReferenceIdeal.Facts] : Prop :=
  ∀ (m : (ℓ : Loc Cert.SeqmixReferenceIdeal.nD Cert.SeqmixReferenceIdeal.τ Cert.SeqmixReferenceIdeal.sig) → Buf (Elt Ideal) ℓ) (g : Dev Cert.SeqmixReferenceIdeal.nD → PrngReg), Pre_SeqmixReferenceIdeal m →
    θ_run (Cert.SeqmixReferenceIdeal.defs (F := Ideal)) (onTc (τ := Cert.SeqmixReferenceIdeal.τ) (Cert.SeqmixReferenceIdeal.main (F := Ideal))) ⟨m, fun _ => 0, g⟩ (fun r => (∀ c : Dev Cert.SeqmixReferenceIdeal.nD,
      r.2.mem ((c.tc : Thread Cert.SeqmixReferenceIdeal.nD Cert.SeqmixReferenceIdeal.τ).loc Cert.SeqmixReferenceIdeal.main_arg0) = m ((c.tc : Thread Cert.SeqmixReferenceIdeal.nD Cert.SeqmixReferenceIdeal.τ).loc Cert.SeqmixReferenceIdeal.main_arg0)
      ∧ r.2.mem ((c.tc : Thread Cert.SeqmixReferenceIdeal.nD Cert.SeqmixReferenceIdeal.τ).loc Cert.SeqmixReferenceIdeal.main_arg1) = m ((c.tc : Thread Cert.SeqmixReferenceIdeal.nD Cert.SeqmixReferenceIdeal.τ).loc Cert.SeqmixReferenceIdeal.main_arg1))
      ∧ r.2.sem = fun _ => 0)

def quiescent_SeqmixReferenceIdeal_pre_finite_mixer_inputs [hSeqmixReferenceIdeal : Cert.SeqmixReferenceIdeal.Facts] [hPre_finite_mixer_inputs : Cert.Pre_finite_mixer_inputs.Facts] : Prop :=
  ∀ (m : (ℓ : Loc Cert.SeqmixReferenceIdeal.nD Cert.SeqmixReferenceIdeal.τ Cert.SeqmixReferenceIdeal.sig) → Buf (Elt Ideal) ℓ) (g : Dev Cert.SeqmixReferenceIdeal.nD → PrngReg), Pre_SeqmixReferenceIdeal_finite_mixer_inputs m →
    θ_run (Cert.SeqmixReferenceIdeal.defs (F := Ideal)) (onTc (τ := Cert.SeqmixReferenceIdeal.τ) (Cert.SeqmixReferenceIdeal.main (F := Ideal))) ⟨m, fun _ => 0, g⟩ (fun r => (∀ c : Dev Cert.SeqmixReferenceIdeal.nD,
      r.2.mem ((c.tc : Thread Cert.SeqmixReferenceIdeal.nD Cert.SeqmixReferenceIdeal.τ).loc Cert.SeqmixReferenceIdeal.main_arg0) = m ((c.tc : Thread Cert.SeqmixReferenceIdeal.nD Cert.SeqmixReferenceIdeal.τ).loc Cert.SeqmixReferenceIdeal.main_arg0)
      ∧ r.2.mem ((c.tc : Thread Cert.SeqmixReferenceIdeal.nD Cert.SeqmixReferenceIdeal.τ).loc Cert.SeqmixReferenceIdeal.main_arg1) = m ((c.tc : Thread Cert.SeqmixReferenceIdeal.nD Cert.SeqmixReferenceIdeal.τ).loc Cert.SeqmixReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailIdeal_pre_finite_router [hTailIdeal : Cert.TailIdeal.Facts] [hPre_finite_router : Cert.Pre_finite_router.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_router m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9))
      ∧ r.2.sem = fun _ => 0)

def quiescent_TailReferenceIdeal_pre_finite_router [hTailReferenceIdeal : Cert.TailReferenceIdeal.Facts] [hPre_finite_router : Cert.Pre_finite_router.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_finite_router m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9))
      ∧ r.2.sem = fun _ => 0)

def quiescent_Fold [hFold : Cert.Fold.Facts] : Prop :=
  ∀ (m : (ℓ : Loc Cert.Fold.nD Cert.Fold.τ Cert.Fold.sig) → Buf (Elt Bits) ℓ) (g : Dev Cert.Fold.nD → PrngReg), Pre_Fold m →
    θ_run (Cert.Fold.defs (F := Bits)) (onTc (τ := Cert.Fold.τ) (Cert.Fold.main (F := Bits))) ⟨m, fun _ => 0, g⟩ (fun r => (∀ c : Dev Cert.Fold.nD,
      r.2.mem ((c.tc : Thread Cert.Fold.nD Cert.Fold.τ).loc Cert.Fold.main_arg0) = m ((c.tc : Thread Cert.Fold.nD Cert.Fold.τ).loc Cert.Fold.main_arg0)
      ∧ r.2.mem ((c.tc : Thread Cert.Fold.nD Cert.Fold.τ).loc Cert.Fold.main_arg1) = m ((c.tc : Thread Cert.Fold.nD Cert.Fold.τ).loc Cert.Fold.main_arg1)
      ∧ r.2.mem ((c.tc : Thread Cert.Fold.nD Cert.Fold.τ).loc Cert.Fold.main_arg2) = m ((c.tc : Thread Cert.Fold.nD Cert.Fold.τ).loc Cert.Fold.main_arg2)
      ∧ r.2.mem ((c.tc : Thread Cert.Fold.nD Cert.Fold.τ).loc Cert.Fold.main_arg3) = m ((c.tc : Thread Cert.Fold.nD Cert.Fold.τ).loc Cert.Fold.main_arg3)
      ∧ r.2.mem ((c.tc : Thread Cert.Fold.nD Cert.Fold.τ).loc Cert.Fold.main_arg4) = m ((c.tc : Thread Cert.Fold.nD Cert.Fold.τ).loc Cert.Fold.main_arg4))
      ∧ r.2.sem = fun _ => 0)

def quiescent_FoldIdeal [hFoldIdeal : Cert.FoldIdeal.Facts] : Prop :=
  ∀ (m : (ℓ : Loc Cert.FoldIdeal.nD Cert.FoldIdeal.τ Cert.FoldIdeal.sig) → Buf (Elt Ideal) ℓ) (g : Dev Cert.FoldIdeal.nD → PrngReg), Pre_FoldIdeal m →
    θ_run (Cert.FoldIdeal.defs (F := Ideal)) (onTc (τ := Cert.FoldIdeal.τ) (Cert.FoldIdeal.main (F := Ideal))) ⟨m, fun _ => 0, g⟩ (fun r => (∀ c : Dev Cert.FoldIdeal.nD,
      r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
      ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1)
      ∧ r.2.mem ((c.tc : Thread Cert.FoldIdeal.nD Cert.FoldIdeal.τ).loc Cert.FoldIdeal.main_arg2) = m ((c.tc : Thread Cert.FoldIdeal.nD Cert.FoldIdeal.τ).loc Cert.FoldIdeal.main_arg2)
      ∧ r.2.mem ((c.tc : Thread Cert.FoldIdeal.nD Cert.FoldIdeal.τ).loc Cert.FoldIdeal.main_arg3) = m ((c.tc : Thread Cert.FoldIdeal.nD Cert.FoldIdeal.τ).loc Cert.FoldIdeal.main_arg3)
      ∧ r.2.mem ((c.tc : Thread Cert.FoldIdeal.nD Cert.FoldIdeal.τ).loc Cert.FoldIdeal.main_arg4) = m ((c.tc : Thread Cert.FoldIdeal.nD Cert.FoldIdeal.τ).loc Cert.FoldIdeal.main_arg4))
      ∧ r.2.sem = fun _ => 0)

def quiescent_FoldReferenceIdeal [hFoldReferenceIdeal : Cert.FoldReferenceIdeal.Facts] : Prop :=
  ∀ (m : (ℓ : Loc Cert.FoldReferenceIdeal.nD Cert.FoldReferenceIdeal.τ Cert.FoldReferenceIdeal.sig) → Buf (Elt Ideal) ℓ) (g : Dev Cert.FoldReferenceIdeal.nD → PrngReg), Pre_FoldReferenceIdeal m →
    θ_run (Cert.FoldReferenceIdeal.defs (F := Ideal)) (onTc (τ := Cert.FoldReferenceIdeal.τ) (Cert.FoldReferenceIdeal.main (F := Ideal))) ⟨m, fun _ => 0, g⟩ (fun r => (∀ c : Dev Cert.FoldReferenceIdeal.nD,
      r.2.mem ((c.tc : Thread Cert.FoldReferenceIdeal.nD Cert.FoldReferenceIdeal.τ).loc Cert.FoldReferenceIdeal.main_arg0) = m ((c.tc : Thread Cert.FoldReferenceIdeal.nD Cert.FoldReferenceIdeal.τ).loc Cert.FoldReferenceIdeal.main_arg0)
      ∧ r.2.mem ((c.tc : Thread Cert.FoldReferenceIdeal.nD Cert.FoldReferenceIdeal.τ).loc Cert.FoldReferenceIdeal.main_arg1) = m ((c.tc : Thread Cert.FoldReferenceIdeal.nD Cert.FoldReferenceIdeal.τ).loc Cert.FoldReferenceIdeal.main_arg1)
      ∧ r.2.mem ((c.tc : Thread Cert.FoldReferenceIdeal.nD Cert.FoldReferenceIdeal.τ).loc Cert.FoldReferenceIdeal.main_arg2) = m ((c.tc : Thread Cert.FoldReferenceIdeal.nD Cert.FoldReferenceIdeal.τ).loc Cert.FoldReferenceIdeal.main_arg2)
      ∧ r.2.mem ((c.tc : Thread Cert.FoldReferenceIdeal.nD Cert.FoldReferenceIdeal.τ).loc Cert.FoldReferenceIdeal.main_arg3) = m ((c.tc : Thread Cert.FoldReferenceIdeal.nD Cert.FoldReferenceIdeal.τ).loc Cert.FoldReferenceIdeal.main_arg3)
      ∧ r.2.mem ((c.tc : Thread Cert.FoldReferenceIdeal.nD Cert.FoldReferenceIdeal.τ).loc Cert.FoldReferenceIdeal.main_arg4) = m ((c.tc : Thread Cert.FoldReferenceIdeal.nD Cert.FoldReferenceIdeal.τ).loc Cert.FoldReferenceIdeal.main_arg4))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0))
      ∧ r.2.sem = fun _ => 0)

def preserves_Seqmix_SeqmixIdeal : Prop :=
  True

def algebraic_SeqmixIdeal_SeqmixReferenceIdeal_pre_finite_mixer_inputs [hSeqmixIdeal : Cert.SeqmixIdeal.Facts] [hSeqmixReferenceIdeal : Cert.SeqmixReferenceIdeal.Facts] [hPre_finite_mixer_inputs : Cert.Pre_finite_mixer_inputs.Facts] : Prop :=
  ∀ (m : (ℓ : Loc Cert.SeqmixIdeal.nD Cert.SeqmixIdeal.τ Cert.SeqmixIdeal.sig) → Buf (Elt Ideal) ℓ) (g : Dev Cert.SeqmixIdeal.nD → PrngReg)
    (m' : (ℓ : Loc Cert.SeqmixReferenceIdeal.nD Cert.SeqmixReferenceIdeal.τ Cert.SeqmixReferenceIdeal.sig) → Buf (Elt Ideal) ℓ) (g' : Dev Cert.SeqmixReferenceIdeal.nD → PrngReg), Pre_SeqmixIdeal_finite_mixer_inputs m →
    (∀ c : Dev Cert.SeqmixIdeal.nD,
      m' ((c.tc : Thread Cert.SeqmixReferenceIdeal.nD Cert.SeqmixReferenceIdeal.τ).loc Cert.SeqmixReferenceIdeal.main_arg0) = m ((c.tc : Thread Cert.SeqmixIdeal.nD Cert.SeqmixIdeal.τ).loc Cert.SeqmixIdeal.main_arg0)
      ∧ m' ((c.tc : Thread Cert.SeqmixReferenceIdeal.nD Cert.SeqmixReferenceIdeal.τ).loc Cert.SeqmixReferenceIdeal.main_arg1) = m ((c.tc : Thread Cert.SeqmixIdeal.nD Cert.SeqmixIdeal.τ).loc Cert.SeqmixIdeal.main_arg1)) →
    ∃ (v0 : (c : Dev Cert.SeqmixIdeal.nD) → Buf (Elt Ideal) ((c.tc : Thread Cert.SeqmixIdeal.nD Cert.SeqmixIdeal.τ).loc Cert.SeqmixIdeal.main_v371_0)) (v1 : (c : Dev Cert.SeqmixIdeal.nD) → Buf (Elt Ideal) ((c.tc : Thread Cert.SeqmixIdeal.nD Cert.SeqmixIdeal.τ).loc Cert.SeqmixIdeal.main_v371_1)) (v2 : (c : Dev Cert.SeqmixIdeal.nD) → Buf (Elt Ideal) ((c.tc : Thread Cert.SeqmixIdeal.nD Cert.SeqmixIdeal.τ).loc Cert.SeqmixIdeal.main_v371_2)),
      θ_run (Cert.SeqmixIdeal.defs (F := Ideal)) (onTc (τ := Cert.SeqmixIdeal.τ) (Cert.SeqmixIdeal.main (F := Ideal))) ⟨m, fun _ => 0, g⟩ (fun r => ∀ c : Dev Cert.SeqmixIdeal.nD,
          r.2.mem ((c.tc : Thread Cert.SeqmixIdeal.nD Cert.SeqmixIdeal.τ).loc Cert.SeqmixIdeal.main_v371_0) = v0 c
          ∧ r.2.mem ((c.tc : Thread Cert.SeqmixIdeal.nD Cert.SeqmixIdeal.τ).loc Cert.SeqmixIdeal.main_v371_1) = v1 c
          ∧ r.2.mem ((c.tc : Thread Cert.SeqmixIdeal.nD Cert.SeqmixIdeal.τ).loc Cert.SeqmixIdeal.main_v371_2) = v2 c
          ∧ r.2.mem ((c.tc : Thread Cert.SeqmixIdeal.nD Cert.SeqmixIdeal.τ).loc Cert.SeqmixIdeal.main_arg0) = m ((c.tc : Thread Cert.SeqmixIdeal.nD Cert.SeqmixIdeal.τ).loc Cert.SeqmixIdeal.main_arg0)
          ∧ r.2.mem ((c.tc : Thread Cert.SeqmixIdeal.nD Cert.SeqmixIdeal.τ).loc Cert.SeqmixIdeal.main_arg1) = m ((c.tc : Thread Cert.SeqmixIdeal.nD Cert.SeqmixIdeal.τ).loc Cert.SeqmixIdeal.main_arg1))
      ∧ θ_run (Cert.SeqmixReferenceIdeal.defs (F := Ideal)) (onTc (τ := Cert.SeqmixReferenceIdeal.τ) (Cert.SeqmixReferenceIdeal.main (F := Ideal))) ⟨m', fun _ => 0, g'⟩ (fun r => ∀ c : Dev Cert.SeqmixReferenceIdeal.nD,
          r.2.mem ((c.tc : Thread Cert.SeqmixReferenceIdeal.nD Cert.SeqmixReferenceIdeal.τ).loc Cert.SeqmixReferenceIdeal.main_v21) = v0 c
          ∧ r.2.mem ((c.tc : Thread Cert.SeqmixReferenceIdeal.nD Cert.SeqmixReferenceIdeal.τ).loc Cert.SeqmixReferenceIdeal.main_v27) = v1 c
          ∧ r.2.mem ((c.tc : Thread Cert.SeqmixReferenceIdeal.nD Cert.SeqmixReferenceIdeal.τ).loc Cert.SeqmixReferenceIdeal.main_v85) = v2 c
          ∧ r.2.mem ((c.tc : Thread Cert.SeqmixReferenceIdeal.nD Cert.SeqmixReferenceIdeal.τ).loc Cert.SeqmixReferenceIdeal.main_arg0) = m' ((c.tc : Thread Cert.SeqmixReferenceIdeal.nD Cert.SeqmixReferenceIdeal.τ).loc Cert.SeqmixReferenceIdeal.main_arg0)
          ∧ r.2.mem ((c.tc : Thread Cert.SeqmixReferenceIdeal.nD Cert.SeqmixReferenceIdeal.τ).loc Cert.SeqmixReferenceIdeal.main_arg1) = m' ((c.tc : Thread Cert.SeqmixReferenceIdeal.nD Cert.SeqmixReferenceIdeal.τ).loc Cert.SeqmixReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v14_0)) (v1 : (c : Dev Cert.ProjIdeal.nD) → Buf (Elt Ideal) ((c.tc : Thread Cert.ProjIdeal.nD Cert.ProjIdeal.τ).loc Cert.ProjIdeal.main_v14_1)) (v2 : (c : Dev Cert.ProjIdeal.nD) → Buf (Elt Ideal) ((c.tc : Thread Cert.ProjIdeal.nD Cert.ProjIdeal.τ).loc Cert.ProjIdeal.main_v14_2)) (v3 : (c : Dev Cert.ProjIdeal.nD) → Buf (Elt Ideal) ((c.tc : Thread Cert.ProjIdeal.nD Cert.ProjIdeal.τ).loc Cert.ProjIdeal.main_v14_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14_0) = v0 c
          ∧ r.2.mem ((c.tc : Thread Cert.ProjIdeal.nD Cert.ProjIdeal.τ).loc Cert.ProjIdeal.main_v14_1) = v1 c
          ∧ r.2.mem ((c.tc : Thread Cert.ProjIdeal.nD Cert.ProjIdeal.τ).loc Cert.ProjIdeal.main_v14_2) = v2 c
          ∧ r.2.mem ((c.tc : Thread Cert.ProjIdeal.nD Cert.ProjIdeal.τ).loc Cert.ProjIdeal.main_v14_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v31) = v0 c
          ∧ r.2.mem ((c.tc : Thread Cert.ProjReferenceIdeal.nD Cert.ProjReferenceIdeal.τ).loc Cert.ProjReferenceIdeal.main_v33) = v1 c
          ∧ r.2.mem ((c.tc : Thread Cert.ProjReferenceIdeal.nD Cert.ProjReferenceIdeal.τ).loc Cert.ProjReferenceIdeal.main_v35) = v2 c
          ∧ r.2.mem ((c.tc : Thread Cert.ProjReferenceIdeal.nD Cert.ProjReferenceIdeal.τ).loc Cert.ProjReferenceIdeal.main_v37) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def preserves_Tail_TailIdeal : Prop :=
  True

def algebraic_TailIdeal_TailReferenceIdeal_pre_finite_router [hTailIdeal : Cert.TailIdeal.Facts] [hTailReferenceIdeal : Cert.TailReferenceIdeal.Facts] [hPre_finite_router : Cert.Pre_finite_router.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal_finite_router m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)) →
    ∃ (v0 : (c : Dev Cert.TailIdeal.nD) → Buf (Elt Ideal) ((c.tc : Thread Cert.TailIdeal.nD Cert.TailIdeal.τ).loc Cert.TailIdeal.main_v33_0)) (v1 : (c : Dev Cert.TailIdeal.nD) → Buf (Elt Ideal) ((c.tc : Thread Cert.TailIdeal.nD Cert.TailIdeal.τ).loc Cert.TailIdeal.main_v33_1)) (v2 : (c : Dev Cert.TailIdeal.nD) → Buf (Elt Ideal) ((c.tc : Thread Cert.TailIdeal.nD Cert.TailIdeal.τ).loc Cert.TailIdeal.main_v33_2)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v33_0) = v0 c
          ∧ r.2.mem ((c.tc : Thread Cert.TailIdeal.nD Cert.TailIdeal.τ).loc Cert.TailIdeal.main_v33_1) = v1 c
          ∧ r.2.mem ((c.tc : Thread Cert.TailIdeal.nD Cert.TailIdeal.τ).loc Cert.TailIdeal.main_v33_2) = v2 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v43) = v0 c
          ∧ r.2.mem ((c.tc : Thread Cert.TailReferenceIdeal.nD Cert.TailReferenceIdeal.τ).loc Cert.TailReferenceIdeal.main_v58) = v1 c
          ∧ r.2.mem ((c.tc : Thread Cert.TailReferenceIdeal.nD Cert.TailReferenceIdeal.τ).loc Cert.TailReferenceIdeal.main_v60) = v2 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9))

def preserves_Fold_FoldIdeal : Prop :=
  True

def algebraic_FoldIdeal_FoldReferenceIdeal [hFoldIdeal : Cert.FoldIdeal.Facts] [hFoldReferenceIdeal : Cert.FoldReferenceIdeal.Facts] : Prop :=
  ∀ (m : (ℓ : Loc Cert.FoldIdeal.nD Cert.FoldIdeal.τ Cert.FoldIdeal.sig) → Buf (Elt Ideal) ℓ) (g : Dev Cert.FoldIdeal.nD → PrngReg)
    (m' : (ℓ : Loc Cert.FoldReferenceIdeal.nD Cert.FoldReferenceIdeal.τ Cert.FoldReferenceIdeal.sig) → Buf (Elt Ideal) ℓ) (g' : Dev Cert.FoldReferenceIdeal.nD → PrngReg), Pre_FoldIdeal m →
    (∀ c : Dev Cert.FoldIdeal.nD,
      m' ((c.tc : Thread Cert.FoldReferenceIdeal.nD Cert.FoldReferenceIdeal.τ).loc Cert.FoldReferenceIdeal.main_arg0) = m ((c.tc : Thread Cert.FoldIdeal.nD Cert.FoldIdeal.τ).loc Cert.FoldIdeal.main_arg0)
      ∧ m' ((c.tc : Thread Cert.FoldReferenceIdeal.nD Cert.FoldReferenceIdeal.τ).loc Cert.FoldReferenceIdeal.main_arg1) = m ((c.tc : Thread Cert.FoldIdeal.nD Cert.FoldIdeal.τ).loc Cert.FoldIdeal.main_arg1)
      ∧ m' ((c.tc : Thread Cert.FoldReferenceIdeal.nD Cert.FoldReferenceIdeal.τ).loc Cert.FoldReferenceIdeal.main_arg2) = m ((c.tc : Thread Cert.FoldIdeal.nD Cert.FoldIdeal.τ).loc Cert.FoldIdeal.main_arg2)
      ∧ m' ((c.tc : Thread Cert.FoldReferenceIdeal.nD Cert.FoldReferenceIdeal.τ).loc Cert.FoldReferenceIdeal.main_arg3) = m ((c.tc : Thread Cert.FoldIdeal.nD Cert.FoldIdeal.τ).loc Cert.FoldIdeal.main_arg3)
      ∧ m' ((c.tc : Thread Cert.FoldReferenceIdeal.nD Cert.FoldReferenceIdeal.τ).loc Cert.FoldReferenceIdeal.main_arg4) = m ((c.tc : Thread Cert.FoldIdeal.nD Cert.FoldIdeal.τ).loc Cert.FoldIdeal.main_arg4)) →
    ∃ (v0 : (c : Dev Cert.FoldIdeal.nD) → Buf (Elt Ideal) ((c.tc : Thread Cert.FoldIdeal.nD Cert.FoldIdeal.τ).loc Cert.FoldIdeal.main_v6_0)) (v1 : (c : Dev Cert.FoldIdeal.nD) → Buf (Elt Ideal) ((c.tc : Thread Cert.FoldIdeal.nD Cert.FoldIdeal.τ).loc Cert.FoldIdeal.main_v6_1)),
      θ_run (Cert.FoldIdeal.defs (F := Ideal)) (onTc (τ := Cert.FoldIdeal.τ) (Cert.FoldIdeal.main (F := Ideal))) ⟨m, fun _ => 0, g⟩ (fun r => ∀ c : Dev Cert.FoldIdeal.nD,
          r.2.mem ((c.tc : Thread Cert.FoldIdeal.nD Cert.FoldIdeal.τ).loc Cert.FoldIdeal.main_v6_0) = v0 c
          ∧ r.2.mem ((c.tc : Thread Cert.FoldIdeal.nD Cert.FoldIdeal.τ).loc Cert.FoldIdeal.main_v6_1) = v1 c
          ∧ r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
          ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1)
          ∧ r.2.mem ((c.tc : Thread Cert.FoldIdeal.nD Cert.FoldIdeal.τ).loc Cert.FoldIdeal.main_arg2) = m ((c.tc : Thread Cert.FoldIdeal.nD Cert.FoldIdeal.τ).loc Cert.FoldIdeal.main_arg2)
          ∧ r.2.mem ((c.tc : Thread Cert.FoldIdeal.nD Cert.FoldIdeal.τ).loc Cert.FoldIdeal.main_arg3) = m ((c.tc : Thread Cert.FoldIdeal.nD Cert.FoldIdeal.τ).loc Cert.FoldIdeal.main_arg3)
          ∧ r.2.mem ((c.tc : Thread Cert.FoldIdeal.nD Cert.FoldIdeal.τ).loc Cert.FoldIdeal.main_arg4) = m ((c.tc : Thread Cert.FoldIdeal.nD Cert.FoldIdeal.τ).loc Cert.FoldIdeal.main_arg4))
      ∧ θ_run (Cert.FoldReferenceIdeal.defs (F := Ideal)) (onTc (τ := Cert.FoldReferenceIdeal.τ) (Cert.FoldReferenceIdeal.main (F := Ideal))) ⟨m', fun _ => 0, g'⟩ (fun r => ∀ c : Dev Cert.FoldReferenceIdeal.nD,
          r.2.mem ((c.tc : Thread Cert.FoldReferenceIdeal.nD Cert.FoldReferenceIdeal.τ).loc Cert.FoldReferenceIdeal.main_v13) = v0 c
          ∧ r.2.mem ((c.tc : Thread Cert.FoldReferenceIdeal.nD Cert.FoldReferenceIdeal.τ).loc Cert.FoldReferenceIdeal.main_v15) = v1 c
          ∧ r.2.mem ((c.tc : Thread Cert.FoldReferenceIdeal.nD Cert.FoldReferenceIdeal.τ).loc Cert.FoldReferenceIdeal.main_arg0) = m' ((c.tc : Thread Cert.FoldReferenceIdeal.nD Cert.FoldReferenceIdeal.τ).loc Cert.FoldReferenceIdeal.main_arg0)
          ∧ r.2.mem ((c.tc : Thread Cert.FoldReferenceIdeal.nD Cert.FoldReferenceIdeal.τ).loc Cert.FoldReferenceIdeal.main_arg1) = m' ((c.tc : Thread Cert.FoldReferenceIdeal.nD Cert.FoldReferenceIdeal.τ).loc Cert.FoldReferenceIdeal.main_arg1)
          ∧ r.2.mem ((c.tc : Thread Cert.FoldReferenceIdeal.nD Cert.FoldReferenceIdeal.τ).loc Cert.FoldReferenceIdeal.main_arg2) = m' ((c.tc : Thread Cert.FoldReferenceIdeal.nD Cert.FoldReferenceIdeal.τ).loc Cert.FoldReferenceIdeal.main_arg2)
          ∧ r.2.mem ((c.tc : Thread Cert.FoldReferenceIdeal.nD Cert.FoldReferenceIdeal.τ).loc Cert.FoldReferenceIdeal.main_arg3) = m' ((c.tc : Thread Cert.FoldReferenceIdeal.nD Cert.FoldReferenceIdeal.τ).loc Cert.FoldReferenceIdeal.main_arg3)
          ∧ r.2.mem ((c.tc : Thread Cert.FoldReferenceIdeal.nD Cert.FoldReferenceIdeal.τ).loc Cert.FoldReferenceIdeal.main_arg4) = m' ((c.tc : Thread Cert.FoldReferenceIdeal.nD Cert.FoldReferenceIdeal.τ).loc Cert.FoldReferenceIdeal.main_arg4))

def Claim : Prop :=
  ∃ (hSeqmix : Cert.Seqmix.Facts) (hSeqmixIdeal : Cert.SeqmixIdeal.Facts) (hSeqmixReferenceIdeal : Cert.SeqmixReferenceIdeal.Facts) (hProj : Cert.Proj.Facts) (hProjIdeal : Cert.ProjIdeal.Facts) (hProjReferenceIdeal : Cert.ProjReferenceIdeal.Facts) (hTail : Cert.Tail.Facts) (hTailIdeal : Cert.TailIdeal.Facts) (hTailReferenceIdeal : Cert.TailReferenceIdeal.Facts) (hFold : Cert.Fold.Facts) (hFoldIdeal : Cert.FoldIdeal.Facts) (hFoldReferenceIdeal : Cert.FoldReferenceIdeal.Facts) (hRoute : Cert.Route.Facts) (hPre_finite_mixer_inputs : Cert.Pre_finite_mixer_inputs.Facts) (hPre_finite_router : Cert.Pre_finite_router.Facts),
    quiescent_Seqmix (hSeqmix := hSeqmix)
    ∧ quiescent_SeqmixIdeal (hSeqmixIdeal := hSeqmixIdeal)
    ∧ quiescent_SeqmixIdeal_pre_finite_mixer_inputs (hSeqmixIdeal := hSeqmixIdeal) (hPre_finite_mixer_inputs := hPre_finite_mixer_inputs)
    ∧ quiescent_SeqmixReferenceIdeal (hSeqmixReferenceIdeal := hSeqmixReferenceIdeal)
    ∧ quiescent_SeqmixReferenceIdeal_pre_finite_mixer_inputs (hSeqmixReferenceIdeal := hSeqmixReferenceIdeal) (hPre_finite_mixer_inputs := hPre_finite_mixer_inputs)
    ∧ quiescent_Proj (hProj := hProj)
    ∧ quiescent_ProjIdeal (hProjIdeal := hProjIdeal)
    ∧ quiescent_ProjReferenceIdeal (hProjReferenceIdeal := hProjReferenceIdeal)
    ∧ quiescent_Tail (hTail := hTail)
    ∧ quiescent_TailIdeal (hTailIdeal := hTailIdeal)
    ∧ quiescent_TailIdeal_pre_finite_router (hTailIdeal := hTailIdeal) (hPre_finite_router := hPre_finite_router)
    ∧ quiescent_TailReferenceIdeal (hTailReferenceIdeal := hTailReferenceIdeal)
    ∧ quiescent_TailReferenceIdeal_pre_finite_router (hTailReferenceIdeal := hTailReferenceIdeal) (hPre_finite_router := hPre_finite_router)
    ∧ quiescent_Fold (hFold := hFold)
    ∧ quiescent_FoldIdeal (hFoldIdeal := hFoldIdeal)
    ∧ quiescent_FoldReferenceIdeal (hFoldReferenceIdeal := hFoldReferenceIdeal)
    ∧ quiescent_Route (hRoute := hRoute)
    ∧ preserves_Seqmix_SeqmixIdeal
    ∧ algebraic_SeqmixIdeal_SeqmixReferenceIdeal_pre_finite_mixer_inputs (hSeqmixIdeal := hSeqmixIdeal) (hSeqmixReferenceIdeal := hSeqmixReferenceIdeal) (hPre_finite_mixer_inputs := hPre_finite_mixer_inputs)
    ∧ preserves_Proj_ProjIdeal
    ∧ algebraic_ProjIdeal_ProjReferenceIdeal (hProjIdeal := hProjIdeal) (hProjReferenceIdeal := hProjReferenceIdeal)
    ∧ preserves_Tail_TailIdeal
    ∧ algebraic_TailIdeal_TailReferenceIdeal_pre_finite_router (hTailIdeal := hTailIdeal) (hTailReferenceIdeal := hTailReferenceIdeal) (hPre_finite_router := hPre_finite_router)
    ∧ preserves_Fold_FoldIdeal
    ∧ algebraic_FoldIdeal_FoldReferenceIdeal (hFoldIdeal := hFoldIdeal) (hFoldReferenceIdeal := hFoldReferenceIdeal)
-- ==== Pre_finite_mixer_inputs.lean ====
abbrev S8x512x4096 : Shape := ⟨3, ![8, 512, 4096]⟩
abbrev S8x2048x1024 : Shape := ⟨3, ![8, 2048, 1024]⟩
abbrev S_ : Shape := ⟨0, ![]⟩

class Facts : Prop where
  bitsLt_bf16_f32 : FTy.bits .bf16 < FTy.bits .f32
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_

variable [Facts]

def fn {F : FTy → Type} [FloatOps F] (main_arg0 : FVec F S8x512x4096 .bf16) (main_arg1 : FVec F S8x2048x1024 .bf16) : IVec S_ 1 :=
  let main_v0 : FVec F S8x512x4096 .f32 := (extf .f32 · bitsLt_bf16_f32) main_arg0
  let main_v1 : FVec F S8x512x4096 .f32 := Host.absf main_v0
  let main_cst : FVec F S_ .f32 := constant S_ .f32 0x7F800000#32
  let main_v2 : FVec F S8x512x4096 .f32 := broadcastInDim S8x512x4096 ![] bcast_S_S8x512x4096 main_cst
  let main_v3 : IVec S8x512x4096 1 := cmpf .olt main_v1 main_v2
  let main_c : IVec S_ 1 := constantI S_ 1 1#1
  let main_v4 : IVec S_ 1 := (fun x v => Host.reduce IntOp.andi x v reducesTo_S8x512x4096_S_d0_1_2 h_S_) main_v3 main_c
  let main_v5 : FVec F S8x2048x1024 .f32 := (extf .f32 · bitsLt_bf16_f32) main_arg1
  let main_v6 : FVec F S8x2048x1024 .f32 := Host.absf main_v5
  let main_cst_0 : FVec F S_ .f32 := constant S_ .f32 0x7F800000#32
  let main_v7 : FVec F S8x2048x1024 .f32 := broadcastInDim S8x2048x1024 ![] bcast_S_S8x2048x1024 main_cst_0
  let main_v8 : IVec S8x2048x1024 1 := cmpf .olt main_v6 main_v7
  let main_c_1 : IVec S_ 1 := constantI S_ 1 1#1
  let main_v9 : IVec S_ 1 := (fun x v => Host.reduce IntOp.andi x v reducesTo_S8x2048x1024_S_d0_1_2 h_S_) main_v8 main_c_1
  let main_v10 : IVec S_ 1 := andi main_v4 main_v9
  main_v10
-- ==== Pre_finite_router.lean ====
abbrev S16384x1024 : Shape := ⟨2, ![16384, 1024]⟩
abbrev S16384x4096 : Shape := ⟨2, ![16384, 4096]⟩
abbrev S16384x2048 : Shape := ⟨2, ![16384, 2048]⟩
abbrev S1024x2048 : Shape := ⟨2, ![1024, 2048]⟩
abbrev S2048x2048 : Shape := ⟨2, ![2048, 2048]⟩
abbrev S1x2048 : Shape := ⟨2, ![1, 2048]⟩
abbrev S1x2048x16 : Shape := ⟨3, ![1, 2048, 16]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1x2048x16 : S_.BroadcastsInDim S1x2048x16 (![] : Fin 0 → Fin S1x2048x16.rank)
  reducesTo_S1x2048x16_S_d0_1_2 : S1x2048x16.ReducesTo [0, 1, 2] S_

variable [Facts]

def fn {F : FTy → Type} [FloatOps F] (main_arg0 : FVec F S16384x1024 .bf16) (main_arg1 : FVec F S16384x1024 .bf16) (main_arg2 : FVec F S16384x1024 .bf16) (main_arg3 : FVec F S16384x4096 .bf16) (main_arg4 : FVec F S16384x2048 .f32) (main_arg5 : FVec F S1024x2048 .bf16) (main_arg6 : FVec F S1024x2048 .bf16) (main_arg7 : FVec F S2048x2048 .bf16) (main_arg8 : FVec F S1x2048 .f32) (main_arg9 : FVec F S1x2048x16 .f32) : IVec S_ 1 :=
  let main_v0 : FVec F S1x2048 .f32 := Host.absf main_arg8
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S1x2048x16 .f32 := Host.absf main_arg9
  let main_cst_0 : FVec F S_ .f32 := constant S_ .f32 0x7F800000#32
  let main_v5 : FVec F S1x2048x16 .f32 := broadcastInDim S1x2048x16 ![] bcast_S_S1x2048x16 main_cst_0
  let main_v6 : IVec S1x2048x16 1 := cmpf .olt main_v4 main_v5
  let main_c_1 : IVec S_ 1 := constantI S_ 1 1#1
  let main_v7 : IVec S_ 1 := (fun x v => Host.reduce IntOp.andi x v reducesTo_S1x2048x16_S_d0_1_2 h_S_) main_v6 main_c_1
  let main_v8 : IVec S_ 1 := andi main_v3 main_v7
  main_v8
-- ==== Seqmix.lean ====
abbrev S8x512x4096 : Shape := ⟨3, ![8, 512, 4096]⟩
abbrev S8x2048x1024 : Shape := ⟨3, ![8, 2048, 1024]⟩
abbrev S512 : Shape := ⟨1, ![512]⟩
abbrev S_ : Shape := ⟨0, ![]⟩
abbrev S16 : Shape := ⟨1, ![16]⟩
abbrev S32 : Shape := ⟨1, ![32]⟩
abbrev S16x1 : Shape := ⟨2, ![16, 1]⟩
abbrev S1x512 : Shape := ⟨2, ![1, 512]⟩
abbrev S16x512 : Shape := ⟨2, ![16, 512]⟩
abbrev S32x1 : Shape := ⟨2, ![32, 1]⟩
abbrev S32x512 : Shape := ⟨2, ![32, 512]⟩
abbrev S16x1x512 : Shape := ⟨3, ![16, 1, 512]⟩
abbrev S1x32x512 : Shape := ⟨3, ![1, 32, 512]⟩
abbrev S16x32x512 : Shape := ⟨3, ![16, 32, 512]⟩
abbrev S512x512 : Shape := ⟨2, ![512, 512]⟩
abbrev S1x512x512 : Shape := ⟨3, ![1, 512, 512]⟩
abbrev S8x512x512 : Shape := ⟨3, ![8, 512, 512]⟩
abbrev S2048 : Shape := ⟨1, ![2048]⟩
abbrev S2048x1 : Shape := ⟨2, ![2048, 1]⟩
abbrev S2048x512 : Shape := ⟨2, ![2048, 512]⟩
abbrev S1x2048x512 : Shape := ⟨3, ![1, 2048, 512]⟩
abbrev S4x2048x512 : Shape := ⟨3, ![4, 2048, 512]⟩
abbrev S1x256x512 : Shape := ⟨3, ![1, 256, 512]⟩
abbrev S256x512 : Shape := ⟨2, ![256, 512]⟩
abbrev S1x256x384 : Shape := ⟨3, ![1, 256, 384]⟩
abbrev S256x384 : Shape := ⟨2, ![256, 384]⟩
abbrev S1x384x256 : Shape := ⟨3, ![1, 384, 256]⟩
abbrev S384x256 : Shape := ⟨2, ![384, 256]⟩
abbrev S256x256 : Shape := ⟨2, ![256, 256]⟩
abbrev S1x256x256 : Shape := ⟨3, ![1, 256, 256]⟩
abbrev S1x512x256 : Shape := ⟨3, ![1, 512, 256]⟩
abbrev S512x256 : Shape := ⟨2, ![512, 256]⟩

abbrev nBuf : Space → Nat
  | .hbm => 707
  | .vmem => 18
  | .smem => 0
  | _ => 0

abbrev hbmTy0_0 (i : Nat) : BufTy := match i % 128 with
  | 0 => ⟨S8x512x4096, .bf16⟩
  | 1 => ⟨S8x2048x1024, .bf16⟩
  | 2 => ⟨S512, .i32⟩
  | 3 => ⟨S_, .i32⟩
  | 4 => ⟨S512, .i32⟩
  | 5 => ⟨S512, .i32⟩
  | 6 => ⟨S_, .i32⟩
  | 7 => ⟨S512, .i32⟩
  | 8 => ⟨S512, .i32⟩
  | 9 => ⟨S16, .i32⟩
  | 10 => ⟨S_, .i32⟩
  | 11 => ⟨S16, .i32⟩
  | 12 => ⟨S16, .i32⟩
  | 13 => ⟨S32, .i32⟩
  | 14 => ⟨S16x1, .i32⟩
  | 15 => ⟨S1x512, .i32⟩
  | 16 => ⟨S16x512, .i32⟩
  | 17 => ⟨S16x512, .i32⟩
  | 18 => ⟨S16x512, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S16x512, .i32⟩
  | 26 => ⟨S16x512, .i32⟩
  | 27 => ⟨S_, .i32⟩
  | 28 => ⟨S16x512, .i32⟩
  | 29 => ⟨S16x512, .i1⟩
  | 30 => ⟨S_, .i32⟩
  | 31 => ⟨S16x512, .i32⟩
  | 32 => ⟨S16x512, .i1⟩
  | 33 => ⟨S_, .i32⟩
  | 34 => ⟨S_, .i1⟩
  | 35 => ⟨S16x512, .i1⟩
  | 36 => ⟨S16x512, .i1⟩
  | 37 => ⟨S16x512, .i1⟩
  | 38 => ⟨S16x512, .i32⟩
  | 39 => ⟨S16x512, .i32⟩
  | 40 => ⟨S16x512, .i32⟩
  | 41 => ⟨S16x512, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S16x512, .f32⟩
  | 49 => ⟨S16x512, .f32⟩
  | 50 => ⟨S16x512, .f32⟩
  | 51 => ⟨S16x512, .f32⟩
  | 52 => ⟨S32x1, .i32⟩
  | 53 => ⟨S1x512, .i32⟩
  | 54 => ⟨S32x512, .i32⟩
  | 55 => ⟨S32x512, .i32⟩
  | 56 => ⟨S32x512, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S32x512, .i32⟩
  | 64 => ⟨S32x512, .i32⟩
  | 65 => ⟨S_, .i32⟩
  | 66 => ⟨S32x512, .i32⟩
  | 67 => ⟨S32x512, .i1⟩
  | 68 => ⟨S_, .i32⟩
  | 69 => ⟨S32x512, .i32⟩
  | 70 => ⟨S32x512, .i1⟩
  | 71 => ⟨S_, .i32⟩
  | 72 => ⟨S_, .i1⟩
  | 73 => ⟨S32x512, .i1⟩
  | 74 => ⟨S32x512, .i1⟩
  | 75 => ⟨S32x512, .i1⟩
  | 76 => ⟨S32x512, .i32⟩
  | 77 => ⟨S32x512, .i32⟩
  | 78 => ⟨S32x512, .i32⟩
  | 79 => ⟨S32x512, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S32x512, .f32⟩
  | 87 => ⟨S32x512, .f32⟩
  | 88 => ⟨S32x512, .f32⟩
  | 89 => ⟨S32x512, .f32⟩
  | 90 => ⟨S_, .f32⟩
  | 91 => ⟨S_, .f32⟩
  | 92 => ⟨S_, .f32⟩
  | 93 => ⟨S_, .f32⟩
  | 94 => ⟨S16x512, .f32⟩
  | 95 => ⟨S16x512, .f32⟩
  | 96 => ⟨S16x1x512, .f32⟩
  | 97 => ⟨S16x512, .f32⟩
  | 98 => ⟨S16x512, .f32⟩
  | 99 => ⟨S16x1x512, .f32⟩
  | 100 => ⟨S1x32x512, .f32⟩
  | 101 => ⟨S1x32x512, .f32⟩
  | 102 => ⟨S16x32x512, .f32⟩
  | 103 => ⟨S16x32x512, .f32⟩
  | 104 => ⟨S16x32x512, .f32⟩
  | 105 => ⟨S16x32x512, .f32⟩
  | 106 => ⟨S16x32x512, .f32⟩
  | 107 => ⟨S16x32x512, .f32⟩
  | 108 => ⟨S16x32x512, .f32⟩
  | 109 => ⟨S512x512, .f32⟩
  | 110 => ⟨S16x32x512, .f32⟩
  | 111 => ⟨S16x32x512, .f32⟩
  | 112 => ⟨S16x32x512, .f32⟩
  | 113 => ⟨S16x32x512, .f32⟩
  | 114 => ⟨S16x32x512, .f32⟩
  | 115 => ⟨S16x32x512, .f32⟩
  | 116 => ⟨S16x32x512, .f32⟩
  | 117 => ⟨S512x512, .f32⟩
  | 118 => ⟨S512x512, .bf16⟩
  | 119 => ⟨S512x512, .bf16⟩
  | 120 => ⟨S_, .i32⟩
  | 121 => ⟨S512, .i32⟩
  | 122 => ⟨S512, .i32⟩
  | 123 => ⟨S_, .i32⟩
  | 124 => ⟨S512, .i32⟩
  | 125 => ⟨S512, .i32⟩
  | 126 => ⟨S16, .i32⟩
  | 127 => ⟨S_, .i32⟩
  | _ => ⟨S8x512x4096, .bf16⟩

abbrev hbmTy0_1 (i : Nat) : BufTy := match i % 128 with
  | 0 => ⟨S16, .i32⟩
  | 1 => ⟨S16, .i32⟩
  | 2 => ⟨S32, .i32⟩
  | 3 => ⟨S16x1, .i32⟩
  | 4 => ⟨S1x512, .i32⟩
  | 5 => ⟨S16x512, .i32⟩
  | 6 => ⟨S16x512, .i32⟩
  | 7 => ⟨S16x512, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S16x512, .i32⟩
  | 15 => ⟨S16x512, .i32⟩
  | 16 => ⟨S_, .i32⟩
  | 17 => ⟨S16x512, .i32⟩
  | 18 => ⟨S16x512, .i1⟩
  | 19 => ⟨S_, .i32⟩
  | 20 => ⟨S16x512, .i32⟩
  | 21 => ⟨S16x512, .i1⟩
  | 22 => ⟨S_, .i32⟩
  | 23 => ⟨S_, .i1⟩
  | 24 => ⟨S16x512, .i1⟩
  | 25 => ⟨S16x512, .i1⟩
  | 26 => ⟨S16x512, .i1⟩
  | 27 => ⟨S16x512, .i32⟩
  | 28 => ⟨S16x512, .i32⟩
  | 29 => ⟨S16x512, .i32⟩
  | 30 => ⟨S16x512, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S16x512, .f32⟩
  | 38 => ⟨S16x512, .f32⟩
  | 39 => ⟨S16x512, .f32⟩
  | 40 => ⟨S16x512, .f32⟩
  | 41 => ⟨S32x1, .i32⟩
  | 42 => ⟨S1x512, .i32⟩
  | 43 => ⟨S32x512, .i32⟩
  | 44 => ⟨S32x512, .i32⟩
  | 45 => ⟨S32x512, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S32x512, .i32⟩
  | 53 => ⟨S32x512, .i32⟩
  | 54 => ⟨S_, .i32⟩
  | 55 => ⟨S32x512, .i32⟩
  | 56 => ⟨S32x512, .i1⟩
  | 57 => ⟨S_, .i32⟩
  | 58 => ⟨S32x512, .i32⟩
  | 59 => ⟨S32x512, .i1⟩
  | 60 => ⟨S_, .i32⟩
  | 61 => ⟨S_, .i1⟩
  | 62 => ⟨S32x512, .i1⟩
  | 63 => ⟨S32x512, .i1⟩
  | 64 => ⟨S32x512, .i1⟩
  | 65 => ⟨S32x512, .i32⟩
  | 66 => ⟨S32x512, .i32⟩
  | 67 => ⟨S32x512, .i32⟩
  | 68 => ⟨S32x512, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S32x512, .f32⟩
  | 76 => ⟨S32x512, .f32⟩
  | 77 => ⟨S32x512, .f32⟩
  | 78 => ⟨S32x512, .f32⟩
  | 79 => ⟨S_, .f32⟩
  | 80 => ⟨S_, .f32⟩
  | 81 => ⟨S_, .f32⟩
  | 82 => ⟨S_, .f32⟩
  | 83 => ⟨S16x512, .f32⟩
  | 84 => ⟨S16x512, .f32⟩
  | 85 => ⟨S16x1x512, .f32⟩
  | 86 => ⟨S16x512, .f32⟩
  | 87 => ⟨S16x512, .f32⟩
  | 88 => ⟨S16x1x512, .f32⟩
  | 89 => ⟨S1x32x512, .f32⟩
  | 90 => ⟨S1x32x512, .f32⟩
  | 91 => ⟨S16x32x512, .f32⟩
  | 92 => ⟨S16x32x512, .f32⟩
  | 93 => ⟨S16x32x512, .f32⟩
  | 94 => ⟨S16x32x512, .f32⟩
  | 95 => ⟨S16x32x512, .f32⟩
  | 96 => ⟨S16x32x512, .f32⟩
  | 97 => ⟨S16x32x512, .f32⟩
  | 98 => ⟨S512x512, .f32⟩
  | 99 => ⟨S16x32x512, .f32⟩
  | 100 => ⟨S16x32x512, .f32⟩
  | 101 => ⟨S16x32x512, .f32⟩
  | 102 => ⟨S16x32x512, .f32⟩
  | 103 => ⟨S16x32x512, .f32⟩
  | 104 => ⟨S16x32x512, .f32⟩
  | 105 => ⟨S16x32x512, .f32⟩
  | 106 => ⟨S512x512, .f32⟩
  | 107 => ⟨S512x512, .bf16⟩
  | 108 => ⟨S512x512, .bf16⟩
  | 109 => ⟨S_, .i32⟩
  | 110 => ⟨S512, .i32⟩
  | 111 => ⟨S512, .i32⟩
  | 112 => ⟨S_, .i32⟩
  | 113 => ⟨S512, .i32⟩
  | 114 => ⟨S512, .i32⟩
  | 115 => ⟨S16, .i32⟩
  | 116 => ⟨S_, .i32⟩
  | 117 => ⟨S16, .i32⟩
  | 118 => ⟨S16, .i32⟩
  | 119 => ⟨S32, .i32⟩
  | 120 => ⟨S16x1, .i32⟩
  | 121 => ⟨S1x512, .i32⟩
  | 122 => ⟨S16x512, .i32⟩
  | 123 => ⟨S16x512, .i32⟩
  | 124 => ⟨S16x512, .i32⟩
  | 125 => ⟨S_, .i32⟩
  | 126 => ⟨S_, .i32⟩
  | 127 => ⟨S_, .i32⟩
  | _ => ⟨S8x512x4096, .bf16⟩

abbrev hbmTy0_2 (i : Nat) : BufTy := match i % 128 with
  | 0 => ⟨S_, .i1⟩
  | 1 => ⟨S_, .i32⟩
  | 2 => ⟨S_, .i32⟩
  | 3 => ⟨S16x512, .i32⟩
  | 4 => ⟨S16x512, .i32⟩
  | 5 => ⟨S_, .i32⟩
  | 6 => ⟨S16x512, .i32⟩
  | 7 => ⟨S16x512, .i1⟩
  | 8 => ⟨S_, .i32⟩
  | 9 => ⟨S16x512, .i32⟩
  | 10 => ⟨S16x512, .i1⟩
  | 11 => ⟨S_, .i32⟩
  | 12 => ⟨S_, .i1⟩
  | 13 => ⟨S16x512, .i1⟩
  | 14 => ⟨S16x512, .i1⟩
  | 15 => ⟨S16x512, .i1⟩
  | 16 => ⟨S16x512, .i32⟩
  | 17 => ⟨S16x512, .i32⟩
  | 18 => ⟨S16x512, .i32⟩
  | 19 => ⟨S16x512, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S16x512, .f32⟩
  | 27 => ⟨S16x512, .f32⟩
  | 28 => ⟨S16x512, .f32⟩
  | 29 => ⟨S16x512, .f32⟩
  | 30 => ⟨S32x1, .i32⟩
  | 31 => ⟨S1x512, .i32⟩
  | 32 => ⟨S32x512, .i32⟩
  | 33 => ⟨S32x512, .i32⟩
  | 34 => ⟨S32x512, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S32x512, .i32⟩
  | 42 => ⟨S32x512, .i32⟩
  | 43 => ⟨S_, .i32⟩
  | 44 => ⟨S32x512, .i32⟩
  | 45 => ⟨S32x512, .i1⟩
  | 46 => ⟨S_, .i32⟩
  | 47 => ⟨S32x512, .i32⟩
  | 48 => ⟨S32x512, .i1⟩
  | 49 => ⟨S_, .i32⟩
  | 50 => ⟨S_, .i1⟩
  | 51 => ⟨S32x512, .i1⟩
  | 52 => ⟨S32x512, .i1⟩
  | 53 => ⟨S32x512, .i1⟩
  | 54 => ⟨S32x512, .i32⟩
  | 55 => ⟨S32x512, .i32⟩
  | 56 => ⟨S32x512, .i32⟩
  | 57 => ⟨S32x512, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S32x512, .f32⟩
  | 65 => ⟨S32x512, .f32⟩
  | 66 => ⟨S32x512, .f32⟩
  | 67 => ⟨S32x512, .f32⟩
  | 68 => ⟨S_, .f32⟩
  | 69 => ⟨S_, .f32⟩
  | 70 => ⟨S_, .f32⟩
  | 71 => ⟨S_, .f32⟩
  | 72 => ⟨S16x512, .f32⟩
  | 73 => ⟨S16x512, .f32⟩
  | 74 => ⟨S16x1x512, .f32⟩
  | 75 => ⟨S16x512, .f32⟩
  | 76 => ⟨S16x512, .f32⟩
  | 77 => ⟨S16x1x512, .f32⟩
  | 78 => ⟨S1x32x512, .f32⟩
  | 79 => ⟨S1x32x512, .f32⟩
  | 80 => ⟨S16x32x512, .f32⟩
  | 81 => ⟨S16x32x512, .f32⟩
  | 82 => ⟨S16x32x512, .f32⟩
  | 83 => ⟨S16x32x512, .f32⟩
  | 84 => ⟨S16x32x512, .f32⟩
  | 85 => ⟨S16x32x512, .f32⟩
  | 86 => ⟨S16x32x512, .f32⟩
  | 87 => ⟨S512x512, .f32⟩
  | 88 => ⟨S16x32x512, .f32⟩
  | 89 => ⟨S16x32x512, .f32⟩
  | 90 => ⟨S16x32x512, .f32⟩
  | 91 => ⟨S16x32x512, .f32⟩
  | 92 => ⟨S16x32x512, .f32⟩
  | 93 => ⟨S16x32x512, .f32⟩
  | 94 => ⟨S16x32x512, .f32⟩
  | 95 => ⟨S512x512, .f32⟩
  | 96 => ⟨S512x512, .bf16⟩
  | 97 => ⟨S512x512, .bf16⟩
  | 98 => ⟨S_, .i32⟩
  | 99 => ⟨S512, .i32⟩
  | 100 => ⟨S512, .i32⟩
  | 101 => ⟨S_, .i32⟩
  | 102 => ⟨S512, .i32⟩
  | 103 => ⟨S512, .i32⟩
  | 104 => ⟨S16, .i32⟩
  | 105 => ⟨S_, .i32⟩
  | 106 => ⟨S16, .i32⟩
  | 107 => ⟨S16, .i32⟩
  | 108 => ⟨S32, .i32⟩
  | 109 => ⟨S16x1, .i32⟩
  | 110 => ⟨S1x512, .i32⟩
  | 111 => ⟨S16x512, .i32⟩
  | 112 => ⟨S16x512, .i32⟩
  | 113 => ⟨S16x512, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S16x512, .i32⟩
  | 121 => ⟨S16x512, .i32⟩
  | 122 => ⟨S_, .i32⟩
  | 123 => ⟨S16x512, .i32⟩
  | 124 => ⟨S16x512, .i1⟩
  | 125 => ⟨S_, .i32⟩
  | 126 => ⟨S16x512, .i32⟩
  | 127 => ⟨S16x512, .i1⟩
  | _ => ⟨S8x512x4096, .bf16⟩

abbrev hbmTy0_3 (i : Nat) : BufTy := match i % 128 with
  | 0 => ⟨S_, .i32⟩
  | 1 => ⟨S_, .i1⟩
  | 2 => ⟨S16x512, .i1⟩
  | 3 => ⟨S16x512, .i1⟩
  | 4 => ⟨S16x512, .i1⟩
  | 5 => ⟨S16x512, .i32⟩
  | 6 => ⟨S16x512, .i32⟩
  | 7 => ⟨S16x512, .i32⟩
  | 8 => ⟨S16x512, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S16x512, .f32⟩
  | 16 => ⟨S16x512, .f32⟩
  | 17 => ⟨S16x512, .f32⟩
  | 18 => ⟨S16x512, .f32⟩
  | 19 => ⟨S32x1, .i32⟩
  | 20 => ⟨S1x512, .i32⟩
  | 21 => ⟨S32x512, .i32⟩
  | 22 => ⟨S32x512, .i32⟩
  | 23 => ⟨S32x512, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S32x512, .i32⟩
  | 31 => ⟨S32x512, .i32⟩
  | 32 => ⟨S_, .i32⟩
  | 33 => ⟨S32x512, .i32⟩
  | 34 => ⟨S32x512, .i1⟩
  | 35 => ⟨S_, .i32⟩
  | 36 => ⟨S32x512, .i32⟩
  | 37 => ⟨S32x512, .i1⟩
  | 38 => ⟨S_, .i32⟩
  | 39 => ⟨S_, .i1⟩
  | 40 => ⟨S32x512, .i1⟩
  | 41 => ⟨S32x512, .i1⟩
  | 42 => ⟨S32x512, .i1⟩
  | 43 => ⟨S32x512, .i32⟩
  | 44 => ⟨S32x512, .i32⟩
  | 45 => ⟨S32x512, .i32⟩
  | 46 => ⟨S32x512, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S32x512, .f32⟩
  | 54 => ⟨S32x512, .f32⟩
  | 55 => ⟨S32x512, .f32⟩
  | 56 => ⟨S32x512, .f32⟩
  | 57 => ⟨S_, .f32⟩
  | 58 => ⟨S_, .f32⟩
  | 59 => ⟨S_, .f32⟩
  | 60 => ⟨S_, .f32⟩
  | 61 => ⟨S16x512, .f32⟩
  | 62 => ⟨S16x512, .f32⟩
  | 63 => ⟨S16x1x512, .f32⟩
  | 64 => ⟨S16x512, .f32⟩
  | 65 => ⟨S16x512, .f32⟩
  | 66 => ⟨S16x1x512, .f32⟩
  | 67 => ⟨S1x32x512, .f32⟩
  | 68 => ⟨S1x32x512, .f32⟩
  | 69 => ⟨S16x32x512, .f32⟩
  | 70 => ⟨S16x32x512, .f32⟩
  | 71 => ⟨S16x32x512, .f32⟩
  | 72 => ⟨S16x32x512, .f32⟩
  | 73 => ⟨S16x32x512, .f32⟩
  | 74 => ⟨S16x32x512, .f32⟩
  | 75 => ⟨S16x32x512, .f32⟩
  | 76 => ⟨S512x512, .f32⟩
  | 77 => ⟨S16x32x512, .f32⟩
  | 78 => ⟨S16x32x512, .f32⟩
  | 79 => ⟨S16x32x512, .f32⟩
  | 80 => ⟨S16x32x512, .f32⟩
  | 81 => ⟨S16x32x512, .f32⟩
  | 82 => ⟨S16x32x512, .f32⟩
  | 83 => ⟨S16x32x512, .f32⟩
  | 84 => ⟨S512x512, .f32⟩
  | 85 => ⟨S512x512, .bf16⟩
  | 86 => ⟨S512x512, .bf16⟩
  | 87 => ⟨S1x512x512, .bf16⟩
  | 88 => ⟨S1x512x512, .bf16⟩
  | 89 => ⟨S1x512x512, .bf16⟩
  | 90 => ⟨S1x512x512, .bf16⟩
  | 91 => ⟨S1x512x512, .bf16⟩
  | 92 => ⟨S1x512x512, .bf16⟩
  | 93 => ⟨S1x512x512, .bf16⟩
  | 94 => ⟨S1x512x512, .bf16⟩
  | 95 => ⟨S8x512x512, .bf16⟩
  | 96 => ⟨S2048, .i32⟩
  | 97 => ⟨S2048x1, .i32⟩
  | 98 => ⟨S_, .i32⟩
  | 99 => ⟨S_, .i32⟩
  | 100 => ⟨S2048x1, .i32⟩
  | 101 => ⟨S2048x1, .i32⟩
  | 102 => ⟨S2048x1, .i32⟩
  | 103 => ⟨S_, .i32⟩
  | 104 => ⟨S2048x1, .i32⟩
  | 105 => ⟨S2048x1, .i1⟩
  | 106 => ⟨S2048x1, .i32⟩
  | 107 => ⟨S2048x1, .i32⟩
  | 108 => ⟨S_, .i32⟩
  | 109 => ⟨S2048x1, .i32⟩
  | 110 => ⟨S2048x1, .i1⟩
  | 111 => ⟨S2048x1, .i1⟩
  | 112 => ⟨S_, .i32⟩
  | 113 => ⟨S2048x1, .i32⟩
  | 114 => ⟨S2048x1, .i32⟩
  | 115 => ⟨S2048x1, .i32⟩
  | 116 => ⟨S_, .i32⟩
  | 117 => ⟨S2048x1, .i32⟩
  | 118 => ⟨S2048x1, .i32⟩
  | 119 => ⟨S_, .i32⟩
  | 120 => ⟨S2048x1, .i32⟩
  | 121 => ⟨S2048x1, .i32⟩
  | 122 => ⟨S512, .i32⟩
  | 123 => ⟨S1x512, .i32⟩
  | 124 => ⟨S2048x512, .i32⟩
  | 125 => ⟨S2048x512, .i32⟩
  | 126 => ⟨S2048x512, .i32⟩
  | 127 => ⟨S_, .i32⟩
  | _ => ⟨S8x512x4096, .bf16⟩

abbrev hbmTy0_4 (i : Nat) : BufTy := match i % 128 with
  | 0 => ⟨S2048x1, .i32⟩
  | 1 => ⟨S2048x1, .i32⟩
  | 2 => ⟨S_, .i32⟩
  | 3 => ⟨S_, .i32⟩
  | 4 => ⟨S_, .i32⟩
  | 5 => ⟨S2048x1, .i32⟩
  | 6 => ⟨S2048x1, .i32⟩
  | 7 => ⟨S_, .i32⟩
  | 8 => ⟨S2048x1, .i32⟩
  | 9 => ⟨S2048x1, .i32⟩
  | 10 => ⟨S_, .i32⟩
  | 11 => ⟨S2048x1, .i32⟩
  | 12 => ⟨S2048x1, .i32⟩
  | 13 => ⟨S_, .i32⟩
  | 14 => ⟨S_, .i32⟩
  | 15 => ⟨S_, .i32⟩
  | 16 => ⟨S2048x1, .i32⟩
  | 17 => ⟨S2048x1, .i32⟩
  | 18 => ⟨S_, .i32⟩
  | 19 => ⟨S2048x1, .i32⟩
  | 20 => ⟨S2048x1, .i32⟩
  | 21 => ⟨S2048x512, .i32⟩
  | 22 => ⟨S2048x512, .i1⟩
  | 23 => ⟨S2048x512, .i32⟩
  | 24 => ⟨S2048x512, .i1⟩
  | 25 => ⟨S2048x512, .i1⟩
  | 26 => ⟨S2048x1, .i32⟩
  | 27 => ⟨S2048x1, .f32⟩
  | 28 => ⟨S_, .f32⟩
  | 29 => ⟨S2048x1, .f32⟩
  | 30 => ⟨S2048x1, .f32⟩
  | 31 => ⟨S_, .f32⟩
  | 32 => ⟨S_, .f32⟩
  | 33 => ⟨S2048x512, .f32⟩
  | 34 => ⟨S2048x512, .f32⟩
  | 35 => ⟨S2048x512, .f32⟩
  | 36 => ⟨S2048x512, .i32⟩
  | 37 => ⟨S2048x512, .i1⟩
  | 38 => ⟨S_, .f32⟩
  | 39 => ⟨S_, .f32⟩
  | 40 => ⟨S2048x512, .f32⟩
  | 41 => ⟨S2048x512, .f32⟩
  | 42 => ⟨S2048x512, .f32⟩
  | 43 => ⟨S2048x512, .f32⟩
  | 44 => ⟨S2048x512, .f32⟩
  | 45 => ⟨S2048x512, .bf16⟩
  | 46 => ⟨S_, .i32⟩
  | 47 => ⟨S2048x1, .i32⟩
  | 48 => ⟨S2048x1, .i32⟩
  | 49 => ⟨S_, .i32⟩
  | 50 => ⟨S_, .i32⟩
  | 51 => ⟨S_, .i32⟩
  | 52 => ⟨S2048x1, .i32⟩
  | 53 => ⟨S2048x1, .i32⟩
  | 54 => ⟨S_, .i32⟩
  | 55 => ⟨S2048x1, .i32⟩
  | 56 => ⟨S2048x1, .i32⟩
  | 57 => ⟨S_, .i32⟩
  | 58 => ⟨S2048x1, .i32⟩
  | 59 => ⟨S2048x1, .i32⟩
  | 60 => ⟨S_, .i32⟩
  | 61 => ⟨S_, .i32⟩
  | 62 => ⟨S_, .i32⟩
  | 63 => ⟨S2048x1, .i32⟩
  | 64 => ⟨S2048x1, .i32⟩
  | 65 => ⟨S_, .i32⟩
  | 66 => ⟨S2048x1, .i32⟩
  | 67 => ⟨S2048x1, .i32⟩
  | 68 => ⟨S2048x512, .i32⟩
  | 69 => ⟨S2048x512, .i1⟩
  | 70 => ⟨S2048x512, .i32⟩
  | 71 => ⟨S2048x512, .i1⟩
  | 72 => ⟨S2048x512, .i1⟩
  | 73 => ⟨S2048x1, .i32⟩
  | 74 => ⟨S2048x1, .f32⟩
  | 75 => ⟨S_, .f32⟩
  | 76 => ⟨S2048x1, .f32⟩
  | 77 => ⟨S2048x1, .f32⟩
  | 78 => ⟨S_, .f32⟩
  | 79 => ⟨S_, .f32⟩
  | 80 => ⟨S2048x512, .f32⟩
  | 81 => ⟨S2048x512, .f32⟩
  | 82 => ⟨S2048x512, .f32⟩
  | 83 => ⟨S2048x512, .i32⟩
  | 84 => ⟨S2048x512, .i1⟩
  | 85 => ⟨S_, .f32⟩
  | 86 => ⟨S_, .f32⟩
  | 87 => ⟨S2048x512, .f32⟩
  | 88 => ⟨S2048x512, .f32⟩
  | 89 => ⟨S2048x512, .f32⟩
  | 90 => ⟨S2048x512, .f32⟩
  | 91 => ⟨S2048x512, .f32⟩
  | 92 => ⟨S2048x512, .bf16⟩
  | 93 => ⟨S_, .i32⟩
  | 94 => ⟨S2048x1, .i32⟩
  | 95 => ⟨S2048x1, .i32⟩
  | 96 => ⟨S_, .i32⟩
  | 97 => ⟨S_, .i32⟩
  | 98 => ⟨S_, .i32⟩
  | 99 => ⟨S2048x1, .i32⟩
  | 100 => ⟨S2048x1, .i32⟩
  | 101 => ⟨S_, .i32⟩
  | 102 => ⟨S2048x1, .i32⟩
  | 103 => ⟨S2048x1, .i32⟩
  | 104 => ⟨S_, .i32⟩
  | 105 => ⟨S2048x1, .i32⟩
  | 106 => ⟨S2048x1, .i32⟩
  | 107 => ⟨S_, .i32⟩
  | 108 => ⟨S_, .i32⟩
  | 109 => ⟨S_, .i32⟩
  | 110 => ⟨S2048x1, .i32⟩
  | 111 => ⟨S2048x1, .i32⟩
  | 112 => ⟨S_, .i32⟩
  | 113 => ⟨S2048x1, .i32⟩
  | 114 => ⟨S2048x1, .i32⟩
  | 115 => ⟨S2048x512, .i32⟩
  | 116 => ⟨S2048x512, .i1⟩
  | 117 => ⟨S2048x512, .i32⟩
  | 118 => ⟨S2048x512, .i1⟩
  | 119 => ⟨S2048x512, .i1⟩
  | 120 => ⟨S2048x1, .i32⟩
  | 121 => ⟨S2048x1, .f32⟩
  | 122 => ⟨S_, .f32⟩
  | 123 => ⟨S2048x1, .f32⟩
  | 124 => ⟨S2048x1, .f32⟩
  | 125 => ⟨S_, .f32⟩
  | 126 => ⟨S_, .f32⟩
  | 127 => ⟨S2048x512, .f32⟩
  | _ => ⟨S8x512x4096, .bf16⟩

abbrev hbmTy0_5 (i : Nat) : BufTy := match i % 128 with
  | 0 => ⟨S2048x512, .f32⟩
  | 1 => ⟨S2048x512, .f32⟩
  | 2 => ⟨S2048x512, .i32⟩
  | 3 => ⟨S2048x512, .i1⟩
  | 4 => ⟨S_, .f32⟩
  | 5 => ⟨S_, .f32⟩
  | 6 => ⟨S2048x512, .f32⟩
  | 7 => ⟨S2048x512, .f32⟩
  | 8 => ⟨S2048x512, .f32⟩
  | 9 => ⟨S2048x512, .f32⟩
  | 10 => ⟨S2048x512, .f32⟩
  | 11 => ⟨S2048x512, .bf16⟩
  | 12 => ⟨S_, .i32⟩
  | 13 => ⟨S2048x1, .i32⟩
  | 14 => ⟨S2048x1, .i32⟩
  | 15 => ⟨S_, .i32⟩
  | 16 => ⟨S_, .i32⟩
  | 17 => ⟨S_, .i32⟩
  | 18 => ⟨S2048x1, .i32⟩
  | 19 => ⟨S2048x1, .i32⟩
  | 20 => ⟨S_, .i32⟩
  | 21 => ⟨S2048x1, .i32⟩
  | 22 => ⟨S2048x1, .i32⟩
  | 23 => ⟨S_, .i32⟩
  | 24 => ⟨S2048x1, .i32⟩
  | 25 => ⟨S2048x1, .i32⟩
  | 26 => ⟨S_, .i32⟩
  | 27 => ⟨S_, .i32⟩
  | 28 => ⟨S_, .i32⟩
  | 29 => ⟨S2048x1, .i32⟩
  | 30 => ⟨S2048x1, .i32⟩
  | 31 => ⟨S_, .i32⟩
  | 32 => ⟨S2048x1, .i32⟩
  | 33 => ⟨S2048x1, .i32⟩
  | 34 => ⟨S2048x512, .i32⟩
  | 35 => ⟨S2048x512, .i1⟩
  | 36 => ⟨S2048x512, .i32⟩
  | 37 => ⟨S2048x512, .i1⟩
  | 38 => ⟨S2048x512, .i1⟩
  | 39 => ⟨S2048x1, .i32⟩
  | 40 => ⟨S2048x1, .f32⟩
  | 41 => ⟨S_, .f32⟩
  | 42 => ⟨S2048x1, .f32⟩
  | 43 => ⟨S2048x1, .f32⟩
  | 44 => ⟨S_, .f32⟩
  | 45 => ⟨S_, .f32⟩
  | 46 => ⟨S2048x512, .f32⟩
  | 47 => ⟨S2048x512, .f32⟩
  | 48 => ⟨S2048x512, .f32⟩
  | 49 => ⟨S2048x512, .i32⟩
  | 50 => ⟨S2048x512, .i1⟩
  | 51 => ⟨S_, .f32⟩
  | 52 => ⟨S_, .f32⟩
  | 53 => ⟨S2048x512, .f32⟩
  | 54 => ⟨S2048x512, .f32⟩
  | 55 => ⟨S2048x512, .f32⟩
  | 56 => ⟨S2048x512, .f32⟩
  | 57 => ⟨S2048x512, .f32⟩
  | 58 => ⟨S2048x512, .bf16⟩
  | 59 => ⟨S1x2048x512, .bf16⟩
  | 60 => ⟨S1x2048x512, .bf16⟩
  | 61 => ⟨S1x2048x512, .bf16⟩
  | 62 => ⟨S1x2048x512, .bf16⟩
  | 63 => ⟨S4x2048x512, .bf16⟩
  | 64 => ⟨S8x2048x1024, .bf16⟩
  | 65 => ⟨S8x2048x1024, .bf16⟩
  | 66 => ⟨S8x2048x1024, .bf16⟩
  | _ => ⟨S8x512x4096, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x512x4096, .bf16⟩

abbrev bufTy : (tb : Table) → Fin (tcTables nBuf tb) → BufTy
  | .hbm, ⟨i, _⟩ => hbmTy i
  | .local _ .vmem, ⟨0, _⟩ => ⟨S8x512x512, .bf16⟩
  | .local _ .vmem, ⟨1, _⟩ => ⟨S4x2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S1x2048x512, .bf16⟩
  | .local _ .vmem, ⟨17, _⟩ => ⟨S1x2048x512, .bf16⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v14 : Ref sig .tc := ⟨.hbm, 40, rfl⟩
abbrev main_v15 : Ref sig .tc := ⟨.hbm, 41, rfl⟩
abbrev main_cst : Ref sig .tc := ⟨.hbm, 42, rfl⟩
abbrev main_v16 : Ref sig .tc := ⟨.hbm, 43, rfl⟩
abbrev main_cst_3 : Ref sig .tc := ⟨.hbm, 44, rfl⟩
abbrev main_v17 : Ref sig .tc := ⟨.hbm, 45, rfl⟩
abbrev main_cst_4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_c_1 : Ref sig .tc := ⟨.hbm, 65, rfl⟩
abbrev main_call1_v5 : Ref sig .tc := ⟨.hbm, 66, rfl⟩
abbrev main_call1_v6 : Ref sig .tc := ⟨.hbm, 67, rfl⟩
abbrev main_call1_c_2 : Ref sig .tc := ⟨.hbm, 68, rfl⟩
abbrev main_call1_v7 : Ref sig .tc := ⟨.hbm, 69, rfl⟩
abbrev main_call1_v8 : Ref sig .tc := ⟨.hbm, 70, rfl⟩
abbrev main_call1_c_3 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_v28 : Ref sig .tc := ⟨.hbm, 78, rfl⟩
abbrev main_v29 : Ref sig .tc := ⟨.hbm, 79, rfl⟩
abbrev main_cst_6 : Ref sig .tc := ⟨.hbm, 80, rfl⟩
abbrev main_v30 : Ref sig .tc := ⟨.hbm, 81, rfl⟩
abbrev main_cst_7 : Ref sig .tc := ⟨.hbm, 82, rfl⟩
abbrev main_v31 : Ref sig .tc := ⟨.hbm, 83, rfl⟩
abbrev main_cst_8 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_cst_9 : Ref sig .tc := ⟨.hbm, 90, rfl⟩
abbrev main_v37 : Ref sig .tc := ⟨.hbm, 91, rfl⟩
abbrev main_cst_10 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_c_11 : Ref sig .tc := ⟨.hbm, 120, rfl⟩
abbrev main_v65 : Ref sig .tc := ⟨.hbm, 121, rfl⟩
abbrev main_v66 : Ref sig .tc := ⟨.hbm, 122, rfl⟩
abbrev main_c_12 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_c_13 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_c_14 : Ref sig .tc := ⟨.hbm, 136, rfl⟩
abbrev main_call2_v0 : Ref sig .tc := ⟨.hbm, 137, rfl⟩
abbrev main_call2_c : Ref sig .tc := ⟨.hbm, 138, rfl⟩
abbrev main_call2_v1 : Ref sig .tc := ⟨.hbm, 139, rfl⟩
abbrev main_call2_c_0 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_call2_c_1 : Ref sig .tc := ⟨.hbm, 144, rfl⟩
abbrev main_call2_v5 : Ref sig .tc := ⟨.hbm, 145, rfl⟩
abbrev main_call2_v6 : Ref sig .tc := ⟨.hbm, 146, rfl⟩
abbrev main_call2_c_2 : Ref sig .tc := ⟨.hbm, 147, rfl⟩
abbrev main_call2_v7 : Ref sig .tc := ⟨.hbm, 148, rfl⟩
abbrev main_call2_v8 : Ref sig .tc := ⟨.hbm, 149, rfl⟩
abbrev main_call2_c_3 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_v12 : Ref sig .tc := ⟨.hbm, 154, rfl⟩
abbrev main_call2_v13 : Ref sig .tc := ⟨.hbm, 155, rfl⟩
abbrev main_call2_v14 : Ref sig .tc := ⟨.hbm, 156, rfl⟩
abbrev main_v78 : Ref sig .tc := ⟨.hbm, 157, rfl⟩
abbrev main_v79 : Ref sig .tc := ⟨.hbm, 158, rfl⟩
abbrev main_cst_15 : Ref sig .tc := ⟨.hbm, 159, rfl⟩
abbrev main_v80 : Ref sig .tc := ⟨.hbm, 160, rfl⟩
abbrev main_cst_16 : Ref sig .tc := ⟨.hbm, 161, rfl⟩
abbrev main_v81 : Ref sig .tc := ⟨.hbm, 162, rfl⟩
abbrev main_cst_17 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_c_18 : Ref sig .tc := ⟨.hbm, 174, rfl⟩
abbrev main_call3_v0 : Ref sig .tc := ⟨.hbm, 175, rfl⟩
abbrev main_call3_c : Ref sig .tc := ⟨.hbm, 176, rfl⟩
abbrev main_call3_v1 : Ref sig .tc := ⟨.hbm, 177, rfl⟩
abbrev main_call3_c_0 : Ref sig .tc := ⟨.hbm, 178, rfl⟩
abbrev main_call3_v2 : Ref sig .tc := ⟨.hbm, 179, rfl⟩
abbrev main_call3_v3 : Ref sig .tc := ⟨.hbm, 180, rfl⟩
abbrev main_call3_v4 : Ref sig .tc := ⟨.hbm, 181, rfl⟩
abbrev main_call3_c_1 : Ref sig .tc := ⟨.hbm, 182, rfl⟩
abbrev main_call3_v5 : Ref sig .tc := ⟨.hbm, 183, rfl⟩
abbrev main_call3_v6 : Ref sig .tc := ⟨.hbm, 184, rfl⟩
abbrev main_call3_c_2 : Ref sig .tc := ⟨.hbm, 185, rfl⟩
abbrev main_call3_v7 : Ref sig .tc := ⟨.hbm, 186, rfl⟩
abbrev main_call3_v8 : Ref sig .tc := ⟨.hbm, 187, rfl⟩
abbrev main_call3_c_3 : Ref sig .tc := ⟨.hbm, 188, rfl⟩
abbrev main_call3_v9 : Ref sig .tc := ⟨.hbm, 189, rfl⟩
abbrev main_call3_v10 : Ref sig .tc := ⟨.hbm, 190, rfl⟩
abbrev main_call3_v11 : Ref sig .tc := ⟨.hbm, 191, rfl⟩
abbrev main_call3_v12 : Ref sig .tc := ⟨.hbm, 192, rfl⟩
abbrev main_call3_v13 : Ref sig .tc := ⟨.hbm, 193, rfl⟩
abbrev main_call3_v14 : Ref sig .tc := ⟨.hbm, 194, rfl⟩
abbrev main_v92 : Ref sig .tc := ⟨.hbm, 195, rfl⟩
abbrev main_v93 : Ref sig .tc := ⟨.hbm, 196, rfl⟩
abbrev main_cst_19 : Ref sig .tc := ⟨.hbm, 197, rfl⟩
abbrev main_v94 : Ref sig .tc := ⟨.hbm, 198, rfl⟩
abbrev main_cst_20 : Ref sig .tc := ⟨.hbm, 199, rfl⟩
abbrev main_v95 : Ref sig .tc := ⟨.hbm, 200, rfl⟩
abbrev main_cst_21 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_cst_22 : Ref sig .tc := ⟨.hbm, 207, rfl⟩
abbrev main_v101 : Ref sig .tc := ⟨.hbm, 208, rfl⟩
abbrev main_cst_23 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩
abbrev main_v126 : Ref sig .tc := ⟨.hbm, 234, rfl⟩
abbrev main_v127 : Ref sig .tc := ⟨.hbm, 235, rfl⟩
abbrev main_v128 : Ref sig .tc := ⟨.hbm, 236, rfl⟩
abbrev main_c_24 : Ref sig .tc := ⟨.hbm, 237, rfl⟩
abbrev main_v129 : Ref sig .tc := ⟨.hbm, 238, rfl⟩
abbrev main_v130 : Ref sig .tc := ⟨.hbm, 239, rfl⟩
abbrev main_c_25 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_c_26 : Ref sig .tc := ⟨.hbm, 244, rfl⟩
abbrev main_v134 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_c_27 : Ref sig .tc := ⟨.hbm, 253, rfl⟩
abbrev main_call4_v0 : Ref sig .tc := ⟨.hbm, 254, rfl⟩
abbrev main_call4_c : Ref sig .tc := ⟨.hbm, 255, rfl⟩
abbrev main_call4_v1 : Ref sig .tc := ⟨.hbm, 256, rfl⟩
abbrev main_call4_c_0 : Ref sig .tc := ⟨.hbm, 257, rfl⟩
abbrev main_call4_v2 : Ref sig .tc := ⟨.hbm, 258, rfl⟩
abbrev main_call4_v3 : Ref sig .tc := ⟨.hbm, 259, rfl⟩
abbrev main_call4_v4 : Ref sig .tc := ⟨.hbm, 260, rfl⟩
abbrev main_call4_c_1 : Ref sig .tc := ⟨.hbm, 261, rfl⟩
abbrev main_call4_v5 : Ref sig .tc := ⟨.hbm, 262, rfl⟩
abbrev main_call4_v6 : Ref sig .tc := ⟨.hbm, 263, rfl⟩
abbrev main_call4_c_2 : Ref sig .tc := ⟨.hbm, 264, rfl⟩
abbrev main_call4_v7 : Ref sig .tc := ⟨.hbm, 265, rfl⟩
abbrev main_call4_v8 : Ref sig .tc := ⟨.hbm, 266, rfl⟩
abbrev main_call4_c_3 : Ref sig .tc := ⟨.hbm, 267, rfl⟩
abbrev main_call4_v9 : Ref sig .tc := ⟨.hbm, 268, rfl⟩
abbrev main_call4_v10 : Ref sig .tc := ⟨.hbm, 269, rfl⟩
abbrev main_call4_v11 : Ref sig .tc := ⟨.hbm, 270, rfl⟩
abbrev main_call4_v12 : Ref sig .tc := ⟨.hbm, 271, rfl⟩
abbrev main_call4_v13 : Ref sig .tc := ⟨.hbm, 272, rfl⟩
abbrev main_call4_v14 : Ref sig .tc := ⟨.hbm, 273, rfl⟩
abbrev main_v142 : Ref sig .tc := ⟨.hbm, 274, rfl⟩
abbrev main_v143 : Ref sig .tc := ⟨.hbm, 275, rfl⟩
abbrev main_cst_28 : Ref sig .tc := ⟨.hbm, 276, rfl⟩
abbrev main_v144 : Ref sig .tc := ⟨.hbm, 277, rfl⟩
abbrev main_cst_29 : Ref sig .tc := ⟨.hbm, 278, rfl⟩
abbrev main_v145 : Ref sig .tc := ⟨.hbm, 279, rfl⟩
abbrev main_cst_30 : Ref sig .tc := ⟨.hbm, 280, rfl⟩
abbrev main_v146 : Ref sig .tc := ⟨.hbm, 281, rfl⟩
abbrev main_v147 : Ref sig .tc := ⟨.hbm, 282, rfl⟩
abbrev main_v148 : Ref sig .tc := ⟨.hbm, 283, rfl⟩
abbrev main_v149 : Ref sig .tc := ⟨.hbm, 284, rfl⟩
abbrev main_v150 : Ref sig .tc := ⟨.hbm, 285, rfl⟩
abbrev main_v151 : Ref sig .tc := ⟨.hbm, 286, rfl⟩
abbrev main_v152 : Ref sig .tc := ⟨.hbm, 287, rfl⟩
abbrev main_v153 : Ref sig .tc := ⟨.hbm, 288, rfl⟩
abbrev main_v154 : Ref sig .tc := ⟨.hbm, 289, rfl⟩
abbrev main_v155 : Ref sig .tc := ⟨.hbm, 290, rfl⟩
abbrev main_c_31 : Ref sig .tc := ⟨.hbm, 291, rfl⟩
abbrev main_call5_v0 : Ref sig .tc := ⟨.hbm, 292, rfl⟩
abbrev main_call5_c : Ref sig .tc := ⟨.hbm, 293, rfl⟩
abbrev main_call5_v1 : Ref sig .tc := ⟨.hbm, 294, rfl⟩
abbrev main_call5_c_0 : Ref sig .tc := ⟨.hbm, 295, rfl⟩
abbrev main_call5_v2 : Ref sig .tc := ⟨.hbm, 296, rfl⟩
abbrev main_call5_v3 : Ref sig .tc := ⟨.hbm, 297, rfl⟩
abbrev main_call5_v4 : Ref sig .tc := ⟨.hbm, 298, rfl⟩
abbrev main_call5_c_1 : Ref sig .tc := ⟨.hbm, 299, rfl⟩
abbrev main_call5_v5 : Ref sig .tc := ⟨.hbm, 300, rfl⟩
abbrev main_call5_v6 : Ref sig .tc := ⟨.hbm, 301, rfl⟩
abbrev main_call5_c_2 : Ref sig .tc := ⟨.hbm, 302, rfl⟩
abbrev main_call5_v7 : Ref sig .tc := ⟨.hbm, 303, rfl⟩
abbrev main_call5_v8 : Ref sig .tc := ⟨.hbm, 304, rfl⟩
abbrev main_call5_c_3 : Ref sig .tc := ⟨.hbm, 305, rfl⟩
abbrev main_call5_v9 : Ref sig .tc := ⟨.hbm, 306, rfl⟩
abbrev main_call5_v10 : Ref sig .tc := ⟨.hbm, 307, rfl⟩
abbrev main_call5_v11 : Ref sig .tc := ⟨.hbm, 308, rfl⟩
abbrev main_call5_v12 : Ref sig .tc := ⟨.hbm, 309, rfl⟩
abbrev main_call5_v13 : Ref sig .tc := ⟨.hbm, 310, rfl⟩
abbrev main_call5_v14 : Ref sig .tc := ⟨.hbm, 311, rfl⟩
abbrev main_v156 : Ref sig .tc := ⟨.hbm, 312, rfl⟩
abbrev main_v157 : Ref sig .tc := ⟨.hbm, 313, rfl⟩
abbrev main_cst_32 : Ref sig .tc := ⟨.hbm, 314, rfl⟩
abbrev main_v158 : Ref sig .tc := ⟨.hbm, 315, rfl⟩
abbrev main_cst_33 : Ref sig .tc := ⟨.hbm, 316, rfl⟩
abbrev main_v159 : Ref sig .tc := ⟨.hbm, 317, rfl⟩
abbrev main_cst_34 : Ref sig .tc := ⟨.hbm, 318, rfl⟩
abbrev main_v160 : Ref sig .tc := ⟨.hbm, 319, rfl⟩
abbrev main_v161 : Ref sig .tc := ⟨.hbm, 320, rfl⟩
abbrev main_v162 : Ref sig .tc := ⟨.hbm, 321, rfl⟩
abbrev main_v163 : Ref sig .tc := ⟨.hbm, 322, rfl⟩
abbrev main_v164 : Ref sig .tc := ⟨.hbm, 323, rfl⟩
abbrev main_cst_35 : Ref sig .tc := ⟨.hbm, 324, rfl⟩
abbrev main_v165 : Ref sig .tc := ⟨.hbm, 325, rfl⟩
abbrev main_cst_36 : Ref sig .tc := ⟨.hbm, 326, rfl⟩
abbrev main_v166 : Ref sig .tc := ⟨.hbm, 327, rfl⟩
abbrev main_v167 : Ref sig .tc := ⟨.hbm, 328, rfl⟩
abbrev main_v168 : Ref sig .tc := ⟨.hbm, 329, rfl⟩
abbrev main_v169 : Ref sig .tc := ⟨.hbm, 330, rfl⟩
abbrev main_v170 : Ref sig .tc := ⟨.hbm, 331, rfl⟩
abbrev main_v171 : Ref sig .tc := ⟨.hbm, 332, rfl⟩
abbrev main_v172 : Ref sig .tc := ⟨.hbm, 333, rfl⟩
abbrev main_v173 : Ref sig .tc := ⟨.hbm, 334, rfl⟩
abbrev main_v174 : Ref sig .tc := ⟨.hbm, 335, rfl⟩
abbrev main_v175 : Ref sig .tc := ⟨.hbm, 336, rfl⟩
abbrev main_v176 : Ref sig .tc := ⟨.hbm, 337, rfl⟩
abbrev main_v177 : Ref sig .tc := ⟨.hbm, 338, rfl⟩
abbrev main_v178 : Ref sig .tc := ⟨.hbm, 339, rfl⟩
abbrev main_v179 : Ref sig .tc := ⟨.hbm, 340, rfl⟩
abbrev main_v180 : Ref sig .tc := ⟨.hbm, 341, rfl⟩
abbrev main_v181 : Ref sig .tc := ⟨.hbm, 342, rfl⟩
abbrev main_v182 : Ref sig .tc := ⟨.hbm, 343, rfl⟩
abbrev main_v183 : Ref sig .tc := ⟨.hbm, 344, rfl⟩
abbrev main_v184 : Ref sig .tc := ⟨.hbm, 345, rfl⟩
abbrev main_v185 : Ref sig .tc := ⟨.hbm, 346, rfl⟩
abbrev main_v186 : Ref sig .tc := ⟨.hbm, 347, rfl⟩
abbrev main_v187 : Ref sig .tc := ⟨.hbm, 348, rfl⟩
abbrev main_v188 : Ref sig .tc := ⟨.hbm, 349, rfl⟩
abbrev main_v189 : Ref sig .tc := ⟨.hbm, 350, rfl⟩
abbrev main_v190 : Ref sig .tc := ⟨.hbm, 351, rfl⟩
abbrev main_v191 : Ref sig .tc := ⟨.hbm, 352, rfl⟩
abbrev main_v192 : Ref sig .tc := ⟨.hbm, 353, rfl⟩
abbrev main_c_37 : Ref sig .tc := ⟨.hbm, 354, rfl⟩
abbrev main_v193 : Ref sig .tc := ⟨.hbm, 355, rfl⟩
abbrev main_v194 : Ref sig .tc := ⟨.hbm, 356, rfl⟩
abbrev main_c_38 : Ref sig .tc := ⟨.hbm, 357, rfl⟩
abbrev main_v195 : Ref sig .tc := ⟨.hbm, 358, rfl⟩
abbrev main_v196 : Ref sig .tc := ⟨.hbm, 359, rfl⟩
abbrev main_v197 : Ref sig .tc := ⟨.hbm, 360, rfl⟩
abbrev main_c_39 : Ref sig .tc := ⟨.hbm, 361, rfl⟩
abbrev main_v198 : Ref sig .tc := ⟨.hbm, 362, rfl⟩
abbrev main_v199 : Ref sig .tc := ⟨.hbm, 363, rfl⟩
abbrev main_v200 : Ref sig .tc := ⟨.hbm, 364, rfl⟩
abbrev main_v201 : Ref sig .tc := ⟨.hbm, 365, rfl⟩
abbrev main_v202 : Ref sig .tc := ⟨.hbm, 366, rfl⟩
abbrev main_v203 : Ref sig .tc := ⟨.hbm, 367, rfl⟩
abbrev main_v204 : Ref sig .tc := ⟨.hbm, 368, rfl⟩
abbrev main_v205 : Ref sig .tc := ⟨.hbm, 369, rfl⟩
abbrev main_c_40 : Ref sig .tc := ⟨.hbm, 370, rfl⟩
abbrev main_call6_v0 : Ref sig .tc := ⟨.hbm, 371, rfl⟩
abbrev main_call6_c : Ref sig .tc := ⟨.hbm, 372, rfl⟩
abbrev main_call6_v1 : Ref sig .tc := ⟨.hbm, 373, rfl⟩
abbrev main_call6_c_0 : Ref sig .tc := ⟨.hbm, 374, rfl⟩
abbrev main_call6_v2 : Ref sig .tc := ⟨.hbm, 375, rfl⟩
abbrev main_call6_v3 : Ref sig .tc := ⟨.hbm, 376, rfl⟩
abbrev main_call6_v4 : Ref sig .tc := ⟨.hbm, 377, rfl⟩
abbrev main_call6_c_1 : Ref sig .tc := ⟨.hbm, 378, rfl⟩
abbrev main_call6_v5 : Ref sig .tc := ⟨.hbm, 379, rfl⟩
abbrev main_call6_v6 : Ref sig .tc := ⟨.hbm, 380, rfl⟩
abbrev main_call6_c_2 : Ref sig .tc := ⟨.hbm, 381, rfl⟩
abbrev main_call6_v7 : Ref sig .tc := ⟨.hbm, 382, rfl⟩
abbrev main_call6_v8 : Ref sig .tc := ⟨.hbm, 383, rfl⟩
abbrev main_call6_c_3 : Ref sig .tc := ⟨.hbm, 384, rfl⟩
abbrev main_call6_v9 : Ref sig .tc := ⟨.hbm, 385, rfl⟩
abbrev main_call6_v10 : Ref sig .tc := ⟨.hbm, 386, rfl⟩
abbrev main_call6_v11 : Ref sig .tc := ⟨.hbm, 387, rfl⟩
abbrev main_call6_v12 : Ref sig .tc := ⟨.hbm, 388, rfl⟩
abbrev main_call6_v13 : Ref sig .tc := ⟨.hbm, 389, rfl⟩
abbrev main_call6_v14 : Ref sig .tc := ⟨.hbm, 390, rfl⟩
abbrev main_v206 : Ref sig .tc := ⟨.hbm, 391, rfl⟩
abbrev main_v207 : Ref sig .tc := ⟨.hbm, 392, rfl⟩
abbrev main_cst_41 : Ref sig .tc := ⟨.hbm, 393, rfl⟩
abbrev main_v208 : Ref sig .tc := ⟨.hbm, 394, rfl⟩
abbrev main_cst_42 : Ref sig .tc := ⟨.hbm, 395, rfl⟩
abbrev main_v209 : Ref sig .tc := ⟨.hbm, 396, rfl⟩
abbrev main_cst_43 : Ref sig .tc := ⟨.hbm, 397, rfl⟩
abbrev main_v210 : Ref sig .tc := ⟨.hbm, 398, rfl⟩
abbrev main_v211 : Ref sig .tc := ⟨.hbm, 399, rfl⟩
abbrev main_v212 : Ref sig .tc := ⟨.hbm, 400, rfl⟩
abbrev main_v213 : Ref sig .tc := ⟨.hbm, 401, rfl⟩
abbrev main_v214 : Ref sig .tc := ⟨.hbm, 402, rfl⟩
abbrev main_v215 : Ref sig .tc := ⟨.hbm, 403, rfl⟩
abbrev main_v216 : Ref sig .tc := ⟨.hbm, 404, rfl⟩
abbrev main_v217 : Ref sig .tc := ⟨.hbm, 405, rfl⟩
abbrev main_v218 : Ref sig .tc := ⟨.hbm, 406, rfl⟩
abbrev main_v219 : Ref sig .tc := ⟨.hbm, 407, rfl⟩
abbrev main_c_44 : Ref sig .tc := ⟨.hbm, 408, rfl⟩
abbrev main_call7_v0 : Ref sig .tc := ⟨.hbm, 409, rfl⟩
abbrev main_call7_c : Ref sig .tc := ⟨.hbm, 410, rfl⟩
abbrev main_call7_v1 : Ref sig .tc := ⟨.hbm, 411, rfl⟩
abbrev main_call7_c_0 : Ref sig .tc := ⟨.hbm, 412, rfl⟩
abbrev main_call7_v2 : Ref sig .tc := ⟨.hbm, 413, rfl⟩
abbrev main_call7_v3 : Ref sig .tc := ⟨.hbm, 414, rfl⟩
abbrev main_call7_v4 : Ref sig .tc := ⟨.hbm, 415, rfl⟩
abbrev main_call7_c_1 : Ref sig .tc := ⟨.hbm, 416, rfl⟩
abbrev main_call7_v5 : Ref sig .tc := ⟨.hbm, 417, rfl⟩
abbrev main_call7_v6 : Ref sig .tc := ⟨.hbm, 418, rfl⟩
abbrev main_call7_c_2 : Ref sig .tc := ⟨.hbm, 419, rfl⟩
abbrev main_call7_v7 : Ref sig .tc := ⟨.hbm, 420, rfl⟩
abbrev main_call7_v8 : Ref sig .tc := ⟨.hbm, 421, rfl⟩
abbrev main_call7_c_3 : Ref sig .tc := ⟨.hbm, 422, rfl⟩
abbrev main_call7_v9 : Ref sig .tc := ⟨.hbm, 423, rfl⟩
abbrev main_call7_v10 : Ref sig .tc := ⟨.hbm, 424, rfl⟩
abbrev main_call7_v11 : Ref sig .tc := ⟨.hbm, 425, rfl⟩
abbrev main_call7_v12 : Ref sig .tc := ⟨.hbm, 426, rfl⟩
abbrev main_call7_v13 : Ref sig .tc := ⟨.hbm, 427, rfl⟩
abbrev main_call7_v14 : Ref sig .tc := ⟨.hbm, 428, rfl⟩
abbrev main_v220 : Ref sig .tc := ⟨.hbm, 429, rfl⟩
abbrev main_v221 : Ref sig .tc := ⟨.hbm, 430, rfl⟩
abbrev main_cst_45 : Ref sig .tc := ⟨.hbm, 431, rfl⟩
abbrev main_v222 : Ref sig .tc := ⟨.hbm, 432, rfl⟩
abbrev main_cst_46 : Ref sig .tc := ⟨.hbm, 433, rfl⟩
abbrev main_v223 : Ref sig .tc := ⟨.hbm, 434, rfl⟩
abbrev main_cst_47 : Ref sig .tc := ⟨.hbm, 435, rfl⟩
abbrev main_v224 : Ref sig .tc := ⟨.hbm, 436, rfl⟩
abbrev main_v225 : Ref sig .tc := ⟨.hbm, 437, rfl⟩
abbrev main_v226 : Ref sig .tc := ⟨.hbm, 438, rfl⟩
abbrev main_v227 : Ref sig .tc := ⟨.hbm, 439, rfl⟩
abbrev main_v228 : Ref sig .tc := ⟨.hbm, 440, rfl⟩
abbrev main_cst_48 : Ref sig .tc := ⟨.hbm, 441, rfl⟩
abbrev main_v229 : Ref sig .tc := ⟨.hbm, 442, rfl⟩
abbrev main_cst_49 : Ref sig .tc := ⟨.hbm, 443, rfl⟩
abbrev main_v230 : Ref sig .tc := ⟨.hbm, 444, rfl⟩
abbrev main_v231 : Ref sig .tc := ⟨.hbm, 445, rfl⟩
abbrev main_v232 : Ref sig .tc := ⟨.hbm, 446, rfl⟩
abbrev main_v233 : Ref sig .tc := ⟨.hbm, 447, rfl⟩
abbrev main_v234 : Ref sig .tc := ⟨.hbm, 448, rfl⟩
abbrev main_v235 : Ref sig .tc := ⟨.hbm, 449, rfl⟩
abbrev main_v236 : Ref sig .tc := ⟨.hbm, 450, rfl⟩
abbrev main_v237 : Ref sig .tc := ⟨.hbm, 451, rfl⟩
abbrev main_v238 : Ref sig .tc := ⟨.hbm, 452, rfl⟩
abbrev main_v239 : Ref sig .tc := ⟨.hbm, 453, rfl⟩
abbrev main_v240 : Ref sig .tc := ⟨.hbm, 454, rfl⟩
abbrev main_v241 : Ref sig .tc := ⟨.hbm, 455, rfl⟩
abbrev main_v242 : Ref sig .tc := ⟨.hbm, 456, rfl⟩
abbrev main_v243 : Ref sig .tc := ⟨.hbm, 457, rfl⟩
abbrev main_v244 : Ref sig .tc := ⟨.hbm, 458, rfl⟩
abbrev main_v245 : Ref sig .tc := ⟨.hbm, 459, rfl⟩
abbrev main_v246 : Ref sig .tc := ⟨.hbm, 460, rfl⟩
abbrev main_v247 : Ref sig .tc := ⟨.hbm, 461, rfl⟩
abbrev main_v248 : Ref sig .tc := ⟨.hbm, 462, rfl⟩
abbrev main_v249 : Ref sig .tc := ⟨.hbm, 463, rfl⟩
abbrev main_v250 : Ref sig .tc := ⟨.hbm, 464, rfl⟩
abbrev main_v251 : Ref sig .tc := ⟨.hbm, 465, rfl⟩
abbrev main_v252 : Ref sig .tc := ⟨.hbm, 466, rfl⟩
abbrev main_v253 : Ref sig .tc := ⟨.hbm, 467, rfl⟩
abbrev main_v254 : Ref sig .tc := ⟨.hbm, 468, rfl⟩
abbrev main_v255 : Ref sig .tc := ⟨.hbm, 469, rfl⟩
abbrev main_v256 : Ref sig .tc := ⟨.hbm, 470, rfl⟩
abbrev main_v257 : Ref sig .tc := ⟨.hbm, 471, rfl⟩
abbrev main_v258 : Ref sig .tc := ⟨.hbm, 472, rfl⟩
abbrev main_v259 : Ref sig .tc := ⟨.hbm, 473, rfl⟩
abbrev main_v260 : Ref sig .tc := ⟨.hbm, 474, rfl⟩
abbrev main_v261 : Ref sig .tc := ⟨.hbm, 475, rfl⟩
abbrev main_v262 : Ref sig .tc := ⟨.hbm, 476, rfl⟩
abbrev main_v263 : Ref sig .tc := ⟨.hbm, 477, rfl⟩
abbrev main_v264 : Ref sig .tc := ⟨.hbm, 478, rfl⟩
abbrev main_v265 : Ref sig .tc := ⟨.hbm, 479, rfl⟩
abbrev main_v266 : Ref sig .tc := ⟨.hbm, 480, rfl⟩
abbrev main_v267 : Ref sig .tc := ⟨.hbm, 481, rfl⟩
abbrev main_c_50 : Ref sig .tc := ⟨.hbm, 482, rfl⟩
abbrev main_call8_v0 : Ref sig .tc := ⟨.hbm, 483, rfl⟩
abbrev main_call8_v1 : Ref sig .tc := ⟨.hbm, 484, rfl⟩
abbrev main_call8_v2 : Ref sig .tc := ⟨.hbm, 485, rfl⟩
abbrev main_call8_v3 : Ref sig .tc := ⟨.hbm, 486, rfl⟩
abbrev main_call8_v4 : Ref sig .tc := ⟨.hbm, 487, rfl⟩
abbrev main_call8_v5 : Ref sig .tc := ⟨.hbm, 488, rfl⟩
abbrev main_call8_v6 : Ref sig .tc := ⟨.hbm, 489, rfl⟩
abbrev main_call8_v7 : Ref sig .tc := ⟨.hbm, 490, rfl⟩
abbrev main_call8_v8 : Ref sig .tc := ⟨.hbm, 491, rfl⟩
abbrev main_call8_c : Ref sig .tc := ⟨.hbm, 492, rfl⟩
abbrev main_call8_v9 : Ref sig .tc := ⟨.hbm, 493, rfl⟩
abbrev main_call8_v10 : Ref sig .tc := ⟨.hbm, 494, rfl⟩
abbrev main_call8_v11 : Ref sig .tc := ⟨.hbm, 495, rfl⟩
abbrev main_call8_c_0 : Ref sig .tc := ⟨.hbm, 496, rfl⟩
abbrev main_call8_v12 : Ref sig .tc := ⟨.hbm, 497, rfl⟩
abbrev main_call8_v13 : Ref sig .tc := ⟨.hbm, 498, rfl⟩
abbrev main_v268 : Ref sig .tc := ⟨.hbm, 499, rfl⟩
abbrev main_c_51 : Ref sig .tc := ⟨.hbm, 500, rfl⟩
abbrev main_v269 : Ref sig .tc := ⟨.hbm, 501, rfl⟩
abbrev main_v270 : Ref sig .tc := ⟨.hbm, 502, rfl⟩
abbrev main_c_52 : Ref sig .tc := ⟨.hbm, 503, rfl⟩
abbrev main_v271 : Ref sig .tc := ⟨.hbm, 504, rfl⟩
abbrev main_v272 : Ref sig .tc := ⟨.hbm, 505, rfl⟩
abbrev main_v273 : Ref sig .tc := ⟨.hbm, 506, rfl⟩
abbrev main_v274 : Ref sig .tc := ⟨.hbm, 507, rfl⟩
abbrev main_v275 : Ref sig .tc := ⟨.hbm, 508, rfl⟩
abbrev main_v276 : Ref sig .tc := ⟨.hbm, 509, rfl⟩
abbrev main_v277 : Ref sig .tc := ⟨.hbm, 510, rfl⟩
abbrev main_c_53 : Ref sig .tc := ⟨.hbm, 511, rfl⟩
abbrev main_v278 : Ref sig .tc := ⟨.hbm, 512, rfl⟩
abbrev main_v279 : Ref sig .tc := ⟨.hbm, 513, rfl⟩
abbrev main_c_54 : Ref sig .tc := ⟨.hbm, 514, rfl⟩
abbrev main_c_55 : Ref sig .tc := ⟨.hbm, 515, rfl⟩
abbrev main_call9_v0 : Ref sig .tc := ⟨.hbm, 516, rfl⟩
abbrev main_call9_v1 : Ref sig .tc := ⟨.hbm, 517, rfl⟩
abbrev main_call9_v2 : Ref sig .tc := ⟨.hbm, 518, rfl⟩
abbrev main_call9_v3 : Ref sig .tc := ⟨.hbm, 519, rfl⟩
abbrev main_call9_v4 : Ref sig .tc := ⟨.hbm, 520, rfl⟩
abbrev main_v280 : Ref sig .tc := ⟨.hbm, 521, rfl⟩
abbrev main_c_56 : Ref sig .tc := ⟨.hbm, 522, rfl⟩
abbrev main_v281 : Ref sig .tc := ⟨.hbm, 523, rfl⟩
abbrev main_v282 : Ref sig .tc := ⟨.hbm, 524, rfl⟩
abbrev main_c_57 : Ref sig .tc := ⟨.hbm, 525, rfl⟩
abbrev main_c_58 : Ref sig .tc := ⟨.hbm, 526, rfl⟩
abbrev main_call10_v0 : Ref sig .tc := ⟨.hbm, 527, rfl⟩
abbrev main_call10_v1 : Ref sig .tc := ⟨.hbm, 528, rfl⟩
abbrev main_call10_v2 : Ref sig .tc := ⟨.hbm, 529, rfl⟩
abbrev main_call10_v3 : Ref sig .tc := ⟨.hbm, 530, rfl⟩
abbrev main_call10_v4 : Ref sig .tc := ⟨.hbm, 531, rfl⟩
abbrev main_v283 : Ref sig .tc := ⟨.hbm, 532, rfl⟩
abbrev main_v284 : Ref sig .tc := ⟨.hbm, 533, rfl⟩
abbrev main_v285 : Ref sig .tc := ⟨.hbm, 534, rfl⟩
abbrev main_v286 : Ref sig .tc := ⟨.hbm, 535, rfl⟩
abbrev main_v287 : Ref sig .tc := ⟨.hbm, 536, rfl⟩
abbrev main_v288 : Ref sig .tc := ⟨.hbm, 537, rfl⟩
abbrev main_v289 : Ref sig .tc := ⟨.hbm, 538, rfl⟩
abbrev main_v290 : Ref sig .tc := ⟨.hbm, 539, rfl⟩
abbrev main_cst_59 : Ref sig .tc := ⟨.hbm, 540, rfl⟩
abbrev main_v291 : Ref sig .tc := ⟨.hbm, 541, rfl⟩
abbrev main_v292 : Ref sig .tc := ⟨.hbm, 542, rfl⟩
abbrev main_cst_60 : Ref sig .tc := ⟨.hbm, 543, rfl⟩
abbrev main_call11_v0 : Ref sig .tc := ⟨.hbm, 544, rfl⟩
abbrev main_call11_v1 : Ref sig .tc := ⟨.hbm, 545, rfl⟩
abbrev main_call11_v2 : Ref sig .tc := ⟨.hbm, 546, rfl⟩
abbrev main_v293 : Ref sig .tc := ⟨.hbm, 547, rfl⟩
abbrev main_v294 : Ref sig .tc := ⟨.hbm, 548, rfl⟩
abbrev main_v295 : Ref sig .tc := ⟨.hbm, 549, rfl⟩
abbrev main_cst_61 : Ref sig .tc := ⟨.hbm, 550, rfl⟩
abbrev main_cst_62 : Ref sig .tc := ⟨.hbm, 551, rfl⟩
abbrev main_call12_v0 : Ref sig .tc := ⟨.hbm, 552, rfl⟩
abbrev main_call12_v1 : Ref sig .tc := ⟨.hbm, 553, rfl⟩
abbrev main_v296 : Ref sig .tc := ⟨.hbm, 554, rfl⟩
abbrev main_v297 : Ref sig .tc := ⟨.hbm, 555, rfl⟩
abbrev main_v298 : Ref sig .tc := ⟨.hbm, 556, rfl⟩
abbrev main_v299 : Ref sig .tc := ⟨.hbm, 557, rfl⟩
abbrev main_c_63 : Ref sig .tc := ⟨.hbm, 558, rfl⟩
abbrev main_v300 : Ref sig .tc := ⟨.hbm, 559, rfl⟩
abbrev main_v301 : Ref sig .tc := ⟨.hbm, 560, rfl⟩
abbrev main_c_64 : Ref sig .tc := ⟨.hbm, 561, rfl⟩
abbrev main_c_65 : Ref sig .tc := ⟨.hbm, 562, rfl⟩
abbrev main_call13_v0 : Ref sig .tc := ⟨.hbm, 563, rfl⟩
abbrev main_call13_v1 : Ref sig .tc := ⟨.hbm, 564, rfl⟩
abbrev main_call13_v2 : Ref sig .tc := ⟨.hbm, 565, rfl⟩
abbrev main_call13_v3 : Ref sig .tc := ⟨.hbm, 566, rfl⟩
abbrev main_call13_v4 : Ref sig .tc := ⟨.hbm, 567, rfl⟩
abbrev main_v302 : Ref sig .tc := ⟨.hbm, 568, rfl⟩
abbrev main_c_66 : Ref sig .tc := ⟨.hbm, 569, rfl⟩
abbrev main_v303 : Ref sig .tc := ⟨.hbm, 570, rfl⟩
abbrev main_v304 : Ref sig .tc := ⟨.hbm, 571, rfl⟩
abbrev main_c_67 : Ref sig .tc := ⟨.hbm, 572, rfl⟩
abbrev main_c_68 : Ref sig .tc := ⟨.hbm, 573, rfl⟩
abbrev main_call14_v0 : Ref sig .tc := ⟨.hbm, 574, rfl⟩
abbrev main_call14_v1 : Ref sig .tc := ⟨.hbm, 575, rfl⟩
abbrev main_call14_v2 : Ref sig .tc := ⟨.hbm, 576, rfl⟩
abbrev main_call14_v3 : Ref sig .tc := ⟨.hbm, 577, rfl⟩
abbrev main_call14_v4 : Ref sig .tc := ⟨.hbm, 578, rfl⟩
abbrev main_v305 : Ref sig .tc := ⟨.hbm, 579, rfl⟩
abbrev main_v306 : Ref sig .tc := ⟨.hbm, 580, rfl⟩
abbrev main_v307 : Ref sig .tc := ⟨.hbm, 581, rfl⟩
abbrev main_v308 : Ref sig .tc := ⟨.hbm, 582, rfl⟩
abbrev main_v309 : Ref sig .tc := ⟨.hbm, 583, rfl⟩
abbrev main_v310 : Ref sig .tc := ⟨.hbm, 584, rfl⟩
abbrev main_v311 : Ref sig .tc := ⟨.hbm, 585, rfl⟩
abbrev main_v312 : Ref sig .tc := ⟨.hbm, 586, rfl⟩
abbrev main_cst_69 : Ref sig .tc := ⟨.hbm, 587, rfl⟩
abbrev main_v313 : Ref sig .tc := ⟨.hbm, 588, rfl⟩
abbrev main_v314 : Ref sig .tc := ⟨.hbm, 589, rfl⟩
abbrev main_cst_70 : Ref sig .tc := ⟨.hbm, 590, rfl⟩
abbrev main_call15_v0 : Ref sig .tc := ⟨.hbm, 591, rfl⟩
abbrev main_call15_v1 : Ref sig .tc := ⟨.hbm, 592, rfl⟩
abbrev main_call15_v2 : Ref sig .tc := ⟨.hbm, 593, rfl⟩
abbrev main_v315 : Ref sig .tc := ⟨.hbm, 594, rfl⟩
abbrev main_v316 : Ref sig .tc := ⟨.hbm, 595, rfl⟩
abbrev main_v317 : Ref sig .tc := ⟨.hbm, 596, rfl⟩
abbrev main_cst_71 : Ref sig .tc := ⟨.hbm, 597, rfl⟩
abbrev main_cst_72 : Ref sig .tc := ⟨.hbm, 598, rfl⟩
abbrev main_call16_v0 : Ref sig .tc := ⟨.hbm, 599, rfl⟩
abbrev main_call16_v1 : Ref sig .tc := ⟨.hbm, 600, rfl⟩
abbrev main_v318 : Ref sig .tc := ⟨.hbm, 601, rfl⟩
abbrev main_v319 : Ref sig .tc := ⟨.hbm, 602, rfl⟩
abbrev main_v320 : Ref sig .tc := ⟨.hbm, 603, rfl⟩
abbrev main_v321 : Ref sig .tc := ⟨.hbm, 604, rfl⟩
abbrev main_c_73 : Ref sig .tc := ⟨.hbm, 605, rfl⟩
abbrev main_v322 : Ref sig .tc := ⟨.hbm, 606, rfl⟩
abbrev main_v323 : Ref sig .tc := ⟨.hbm, 607, rfl⟩
abbrev main_c_74 : Ref sig .tc := ⟨.hbm, 608, rfl⟩
abbrev main_c_75 : Ref sig .tc := ⟨.hbm, 609, rfl⟩
abbrev main_call17_v0 : Ref sig .tc := ⟨.hbm, 610, rfl⟩
abbrev main_call17_v1 : Ref sig .tc := ⟨.hbm, 611, rfl⟩
abbrev main_call17_v2 : Ref sig .tc := ⟨.hbm, 612, rfl⟩
abbrev main_call17_v3 : Ref sig .tc := ⟨.hbm, 613, rfl⟩
abbrev main_call17_v4 : Ref sig .tc := ⟨.hbm, 614, rfl⟩
abbrev main_v324 : Ref sig .tc := ⟨.hbm, 615, rfl⟩
abbrev main_c_76 : Ref sig .tc := ⟨.hbm, 616, rfl⟩
abbrev main_v325 : Ref sig .tc := ⟨.hbm, 617, rfl⟩
abbrev main_v326 : Ref sig .tc := ⟨.hbm, 618, rfl⟩
abbrev main_c_77 : Ref sig .tc := ⟨.hbm, 619, rfl⟩
abbrev main_c_78 : Ref sig .tc := ⟨.hbm, 620, rfl⟩
abbrev main_call18_v0 : Ref sig .tc := ⟨.hbm, 621, rfl⟩
abbrev main_call18_v1 : Ref sig .tc := ⟨.hbm, 622, rfl⟩
abbrev main_call18_v2 : Ref sig .tc := ⟨.hbm, 623, rfl⟩
abbrev main_call18_v3 : Ref sig .tc := ⟨.hbm, 624, rfl⟩
abbrev main_call18_v4 : Ref sig .tc := ⟨.hbm, 625, rfl⟩
abbrev main_v327 : Ref sig .tc := ⟨.hbm, 626, rfl⟩
abbrev main_v328 : Ref sig .tc := ⟨.hbm, 627, rfl⟩
abbrev main_v329 : Ref sig .tc := ⟨.hbm, 628, rfl⟩
abbrev main_v330 : Ref sig .tc := ⟨.hbm, 629, rfl⟩
abbrev main_v331 : Ref sig .tc := ⟨.hbm, 630, rfl⟩
abbrev main_v332 : Ref sig .tc := ⟨.hbm, 631, rfl⟩
abbrev main_v333 : Ref sig .tc := ⟨.hbm, 632, rfl⟩
abbrev main_v334 : Ref sig .tc := ⟨.hbm, 633, rfl⟩
abbrev main_cst_79 : Ref sig .tc := ⟨.hbm, 634, rfl⟩
abbrev main_v335 : Ref sig .tc := ⟨.hbm, 635, rfl⟩
abbrev main_v336 : Ref sig .tc := ⟨.hbm, 636, rfl⟩
abbrev main_cst_80 : Ref sig .tc := ⟨.hbm, 637, rfl⟩
abbrev main_call19_v0 : Ref sig .tc := ⟨.hbm, 638, rfl⟩
abbrev main_call19_v1 : Ref sig .tc := ⟨.hbm, 639, rfl⟩
abbrev main_call19_v2 : Ref sig .tc := ⟨.hbm, 640, rfl⟩
abbrev main_v337 : Ref sig .tc := ⟨.hbm, 641, rfl⟩
abbrev main_v338 : Ref sig .tc := ⟨.hbm, 642, rfl⟩
abbrev main_v339 : Ref sig .tc := ⟨.hbm, 643, rfl⟩
abbrev main_cst_81 : Ref sig .tc := ⟨.hbm, 644, rfl⟩
abbrev main_cst_82 : Ref sig .tc := ⟨.hbm, 645, rfl⟩
abbrev main_call20_v0 : Ref sig .tc := ⟨.hbm, 646, rfl⟩
abbrev main_call20_v1 : Ref sig .tc := ⟨.hbm, 647, rfl⟩
abbrev main_v340 : Ref sig .tc := ⟨.hbm, 648, rfl⟩
abbrev main_v341 : Ref sig .tc := ⟨.hbm, 649, rfl⟩
abbrev main_v342 : Ref sig .tc := ⟨.hbm, 650, rfl⟩
abbrev main_v343 : Ref sig .tc := ⟨.hbm, 651, rfl⟩
abbrev main_c_83 : Ref sig .tc := ⟨.hbm, 652, rfl⟩
abbrev main_v344 : Ref sig .tc := ⟨.hbm, 653, rfl⟩
abbrev main_v345 : Ref sig .tc := ⟨.hbm, 654, rfl⟩
abbrev main_c_84 : Ref sig .tc := ⟨.hbm, 655, rfl⟩
abbrev main_c_85 : Ref sig .tc := ⟨.hbm, 656, rfl⟩
abbrev main_call21_v0 : Ref sig .tc := ⟨.hbm, 657, rfl⟩
abbrev main_call21_v1 : Ref sig .tc := ⟨.hbm, 658, rfl⟩
abbrev main_call21_v2 : Ref sig .tc := ⟨.hbm, 659, rfl⟩
abbrev main_call21_v3 : Ref sig .tc := ⟨.hbm, 660, rfl⟩
abbrev main_call21_v4 : Ref sig .tc := ⟨.hbm, 661, rfl⟩
abbrev main_v346 : Ref sig .tc := ⟨.hbm, 662, rfl⟩
abbrev main_c_86 : Ref sig .tc := ⟨.hbm, 663, rfl⟩
abbrev main_v347 : Ref sig .tc := ⟨.hbm, 664, rfl⟩
abbrev main_v348 : Ref sig .tc := ⟨.hbm, 665, rfl⟩
abbrev main_c_87 : Ref sig .tc := ⟨.hbm, 666, rfl⟩
abbrev main_c_88 : Ref sig .tc := ⟨.hbm, 667, rfl⟩
abbrev main_call22_v0 : Ref sig .tc := ⟨.hbm, 668, rfl⟩
abbrev main_call22_v1 : Ref sig .tc := ⟨.hbm, 669, rfl⟩
abbrev main_call22_v2 : Ref sig .tc := ⟨.hbm, 670, rfl⟩
abbrev main_call22_v3 : Ref sig .tc := ⟨.hbm, 671, rfl⟩
abbrev main_call22_v4 : Ref sig .tc := ⟨.hbm, 672, rfl⟩
abbrev main_v349 : Ref sig .tc := ⟨.hbm, 673, rfl⟩
abbrev main_v350 : Ref sig .tc := ⟨.hbm, 674, rfl⟩
abbrev main_v351 : Ref sig .tc := ⟨.hbm, 675, rfl⟩
abbrev main_v352 : Ref sig .tc := ⟨.hbm, 676, rfl⟩
abbrev main_v353 : Ref sig .tc := ⟨.hbm, 677, rfl⟩
abbrev main_v354 : Ref sig .tc := ⟨.hbm, 678, rfl⟩
abbrev main_v355 : Ref sig .tc := ⟨.hbm, 679, rfl⟩
abbrev main_v356 : Ref sig .tc := ⟨.hbm, 680, rfl⟩
abbrev main_cst_89 : Ref sig .tc := ⟨.hbm, 681, rfl⟩
abbrev main_v357 : Ref sig .tc := ⟨.hbm, 682, rfl⟩
abbrev main_v358 : Ref sig .tc := ⟨.hbm, 683, rfl⟩
abbrev main_cst_90 : Ref sig .tc := ⟨.hbm, 684, rfl⟩
abbrev main_call23_v0 : Ref sig .tc := ⟨.hbm, 685, rfl⟩
abbrev main_call23_v1 : Ref sig .tc := ⟨.hbm, 686, rfl⟩
abbrev main_call23_v2 : Ref sig .tc := ⟨.hbm, 687, rfl⟩
abbrev main_v359 : Ref sig .tc := ⟨.hbm, 688, rfl⟩
abbrev main_v360 : Ref sig .tc := ⟨.hbm, 689, rfl⟩
abbrev main_v361 : Ref sig .tc := ⟨.hbm, 690, rfl⟩
abbrev main_cst_91 : Ref sig .tc := ⟨.hbm, 691, rfl⟩
abbrev main_cst_92 : Ref sig .tc := ⟨.hbm, 692, rfl⟩
abbrev main_call24_v0 : Ref sig .tc := ⟨.hbm, 693, rfl⟩
abbrev main_call24_v1 : Ref sig .tc := ⟨.hbm, 694, rfl⟩
abbrev main_v362 : Ref sig .tc := ⟨.hbm, 695, rfl⟩
abbrev main_v363 : Ref sig .tc := ⟨.hbm, 696, rfl⟩
abbrev main_v364 : Ref sig .tc := ⟨.hbm, 697, rfl⟩
abbrev main_v365 : Ref sig .tc := ⟨.hbm, 698, rfl⟩
abbrev main_v366 : Ref sig .tc := ⟨.hbm, 699, rfl⟩
abbrev main_v367 : Ref sig .tc := ⟨.hbm, 700, rfl⟩
abbrev main_v368 : Ref sig .tc := ⟨.hbm, 701, rfl⟩
abbrev main_v369 : Ref sig .tc := ⟨.hbm, 702, rfl⟩
abbrev main_v370 : Ref sig .tc := ⟨.hbm, 703, rfl⟩
abbrev main_v371_0 : Ref sig .tc := ⟨.hbm, 704, rfl⟩
abbrev main_v371_1 : Ref sig .tc := ⟨.hbm, 705, rfl⟩
abbrev main_v371_2 : Ref sig .tc := ⟨.hbm, 706, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 2], ![false, false]⟩

def k0_off1 (i : grid0.Coords) (c0_i32 : BitVec 32) : Fin 3 → Nat :=
  let arg1 : BitVec 32 := BitVec.ofNat 32 (i 1).val
  let c2_i32 : BitVec 32 := 2#32
  let v152 : BitVec 32 := Scalar.muli arg1 c2_i32
  let v153 : BitVec 32 := Scalar.addi v152 c0_i32
  let v154 : Index := Scalar.indexCast v153
  let c0_108 : Index := 0#32
  let c128 : Index := 128#32
  ![v154.toNat, 0, 128]
def k0_off2 (i : grid0.Coords) (c0_i32_116 : BitVec 32) : Fin 3 → Nat :=
  let arg1 : BitVec 32 := BitVec.ofNat 32 (i 1).val
  let c2_i32 : BitVec 32 := 2#32
  let v152 : BitVec 32 := Scalar.muli arg1 c2_i32
  let v164 : BitVec 32 := Scalar.addi v152 c0_i32_116
  let v165 : Index := Scalar.indexCast v164
  let c256_117 : Index := 256#32
  let c0_118 : Index := 0#32
  ![v165.toNat, 256, 0]
def k0_off3 (i : grid0.Coords) (c0_i32_126 : BitVec 32) : Fin 3 → Nat :=
  let arg1 : BitVec 32 := BitVec.ofNat 32 (i 1).val
  let c2_i32 : BitVec 32 := 2#32
  let v152 : BitVec 32 := Scalar.muli arg1 c2_i32
  let v175 : BitVec 32 := Scalar.addi v152 c0_i32_126
  let v176 : Index := Scalar.indexCast v175
  let c512_127 : Index := 512#32
  let c0_128 : Index := 0#32
  ![v176.toNat, 512, 0]
def k0_off4 (i : grid0.Coords) (c0_i32_135 : BitVec 32) : Fin 3 → Nat :=
  let arg1 : BitVec 32 := BitVec.ofNat 32 (i 1).val
  let c2_i32 : BitVec 32 := 2#32
  let v152 : BitVec 32 := Scalar.muli arg1 c2_i32
  let v186 : BitVec 32 := Scalar.addi v152 c0_i32_135
  let v187 : Index := Scalar.indexCast v186
  let c768_136 : Index := 768#32
  let c0_137 : Index := 0#32
  ![v187.toNat, 768, 0]
def k0_off5 (i : grid0.Coords) (c0_i32_144 : BitVec 32) : Fin 3 → Nat :=
  let arg1 : BitVec 32 := BitVec.ofNat 32 (i 1).val
  let c2_i32 : BitVec 32 := 2#32
  let v152 : BitVec 32 := Scalar.muli arg1 c2_i32
  let v197 : BitVec 32 := Scalar.addi v152 c0_i32_144
  let v198 : Index := Scalar.indexCast v197
  let c1024_145 : Index := 1024#32
  let c0_146 : Index := 0#32
  ![v198.toNat, 1024, 0]
def k0_off6 (i : grid0.Coords) (c0_i32_153 : BitVec 32) : Fin 3 → Nat :=
  let arg1 : BitVec 32 := BitVec.ofNat 32 (i 1).val
  let c2_i32 : BitVec 32 := 2#32
  let v152 : BitVec 32 := Scalar.muli arg1 c2_i32
  let v208 : BitVec 32 := Scalar.addi v152 c0_i32_153
  let v209 : Index := Scalar.indexCast v208
  let c1280_154 : Index := 1280#32
  let c0_155 : Index := 0#32
  ![v209.toNat, 1280, 0]
def k0_off7 (i : grid0.Coords) (c0_i32_162 : BitVec 32) : Fin 3 → Nat :=
  let arg1 : BitVec 32 := BitVec.ofNat 32 (i 1).val
  let c2_i32 : BitVec 32 := 2#32
  let v152 : BitVec 32 := Scalar.muli arg1 c2_i32
  let v219 : BitVec 32 := Scalar.addi v152 c0_i32_162
  let v220 : Index := Scalar.indexCast v219
  let c1536_163 : Index := 1536#32
  let c0_164 : Index := 0#32
  ![v220.toNat, 1536, 0]
def k0_off8 (i : grid0.Coords) (c0_i32_171 : BitVec 32) : Fin 3 → Nat :=
  let arg1 : BitVec 32 := BitVec.ofNat 32 (i 1).val
  let c2_i32 : BitVec 32 := 2#32
  let v152 : BitVec 32 := Scalar.muli arg1 c2_i32
  let v230 : BitVec 32 := Scalar.addi v152 c0_i32_171
  let v231 : Index := Scalar.indexCast v230
  let c1792_172 : Index := 1792#32
  let c0_173 : Index := 0#32
  ![v231.toNat, 1792, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SeqmixReferenceIdeal.lean ====
abbrev S8x512x4096 : Shape := ⟨3, ![8, 512, 4096]⟩
abbrev S8x2048x1024 : Shape := ⟨3, ![8, 2048, 1024]⟩
abbrev S4 : Shape := ⟨1, ![4]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x1024x2048 : Shape := ⟨3, ![8, 1024, 2048]⟩
abbrev S8x2048x4x256 : Shape := ⟨4, ![8, 2048, 4, 256]⟩
abbrev S8x1x4x256 : Shape := ⟨4, ![8, 1, 4, 256]⟩
abbrev S8x2049x4x256 : Shape := ⟨4, ![8, 2049, 4, 256]⟩
abbrev S1x4 : Shape := ⟨2, ![1, 4]⟩
abbrev S2048x4 : Shape := ⟨2, ![2048, 4]⟩
abbrev S2048x4x1 : Shape := ⟨3, ![2048, 4, 1]⟩
abbrev S2048x4x2 : Shape := ⟨3, ![2048, 4, 2]⟩
abbrev S1x2048x4x1 : Shape := ⟨4, ![1, 2048, 4, 1]⟩

abbrev nBuf : Space → Nat
  | .hbm => 119
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S8x2048x1024, .bf16⟩
  | .hbm, ⟨2, _⟩ => ⟨S4, .i32⟩
  | .hbm, ⟨3, _⟩ => ⟨S8x2048x1024, .bf16⟩
  | .hbm, ⟨4, _⟩ => ⟨S8x2048x1024, .f32⟩
  | .hbm, ⟨5, _⟩ => ⟨S2048, .i32⟩
  | .hbm, ⟨6, _⟩ => ⟨S2048x1, .i32⟩
  | .hbm, ⟨7, _⟩ => ⟨S1x2048, .i32⟩
  | .hbm, ⟨8, _⟩ => ⟨S2048x2048, .i32⟩
  | .hbm, ⟨9, _⟩ => ⟨S2048x2048, .i32⟩
  | .hbm, ⟨10, _⟩ => ⟨S2048x2048, .i32⟩
  | .hbm, ⟨11, _⟩ => ⟨S2048x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S8x1024x2048, .f32⟩
  | .hbm, ⟨28, _⟩ => ⟨S8x2048x1024, .f32⟩
  | .hbm, ⟨29, _⟩ => ⟨S8x2048x1024, .bf16⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S8x1024x2048, .f32⟩
  | .hbm, ⟨34, _⟩ => ⟨S8x2048x1024, .f32⟩
  | .hbm, ⟨35, _⟩ => ⟨S8x2048x1024, .bf16⟩
  | .hbm, ⟨36, _⟩ => ⟨S8x2048x4x256, .bf16⟩
  | .hbm, ⟨37, _⟩ => ⟨S8x2048x4x256, .f32⟩
  | .hbm, ⟨38, _⟩ => ⟨S_, .f32⟩
  | .hbm, ⟨39, _⟩ => ⟨S8x1x4x256, .f32⟩
  | .hbm, ⟨40, _⟩ => ⟨S_, .f32⟩
  | .hbm, ⟨41, _⟩ => ⟨S_, .f32⟩
  | .hbm, ⟨42, _⟩ => ⟨S8x2048x4x256, .f32⟩
  | .hbm, ⟨43, _⟩ => ⟨S8x2049x4x256, .f32⟩
  | .hbm, ⟨44, _⟩ => ⟨S2048, .i32⟩
  | .hbm, ⟨45, _⟩ => ⟨S2048x1, .i32⟩
  | .hbm, ⟨46, _⟩ => ⟨S1x4, .i32⟩
  | .hbm, ⟨47, _⟩ => ⟨S2048x4, .i32⟩
  | .hbm, ⟨48, _⟩ => ⟨S2048x4, .i32⟩
  | .hbm, ⟨49, _⟩ => ⟨S2048x4, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S2048x4, .i32⟩
  | .hbm, ⟨54, _⟩ => ⟨S2048x4, .i32⟩
  | .hbm, ⟨55, _⟩ => ⟨S_, .i32⟩
  | .hbm, ⟨56, _⟩ => ⟨S2048x4, .i32⟩
  | .hbm, ⟨57, _⟩ => ⟨S2048x4, .i32⟩
  | .hbm, ⟨58, _⟩ => ⟨S1x4, .i32⟩
  | .hbm, ⟨59, _⟩ => ⟨S2048x4, .i32⟩
  | .hbm, ⟨60, _⟩ => ⟨S2048x4, .i32⟩
  | .hbm, ⟨61, _⟩ => ⟨S2048x4, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S2048x4, .i32⟩
  | .hbm, ⟨66, _⟩ => ⟨S2048x4, .i32⟩
  | .hbm, ⟨67, _⟩ => ⟨S_, .i32⟩
  | .hbm, ⟨68, _⟩ => ⟨S2048x4, .i32⟩
  | .hbm, ⟨69, _⟩ => ⟨S2048x4, .i32⟩
  | .hbm, ⟨70, _⟩ => ⟨S4, .i32⟩
  | .hbm, ⟨71, _⟩ => ⟨S1x4, .i32⟩
  | .hbm, ⟨72, _⟩ => ⟨S_, .i32⟩
  | .hbm, ⟨73, _⟩ => ⟨S2048x4, .i32⟩
  | .hbm, ⟨74, _⟩ => ⟨S2048x4, .i1⟩
  | .hbm, ⟨75, _⟩ => ⟨S_, .i32⟩
  | .hbm, ⟨76, _⟩ => ⟨S2048x4, .i32⟩
  | .hbm, ⟨77, _⟩ => ⟨S2048x4, .i32⟩
  | .hbm, ⟨78, _⟩ => ⟨S2048x4, .i32⟩
  | .hbm, ⟨79, _⟩ => ⟨S_, .i32⟩
  | .hbm, ⟨80, _⟩ => ⟨S1x4, .i32⟩
  | .hbm, ⟨81, _⟩ => ⟨S1x4, .i1⟩
  | .hbm, ⟨82, _⟩ => ⟨S_, .i32⟩
  | .hbm, ⟨83, _⟩ => ⟨S1x4, .i32⟩
  | .hbm, ⟨84, _⟩ => ⟨S1x4, .i32⟩
  | .hbm, ⟨85, _⟩ => ⟨S1x4, .i32⟩
  | .hbm, ⟨86, _⟩ => ⟨S2048x4, .i32⟩
  | .hbm, ⟨87, _⟩ => ⟨S2048x4x1, .i32⟩
  | .hbm, ⟨88, _⟩ => ⟨S2048x4x1, .i32⟩
  | .hbm, ⟨89, _⟩ => ⟨S2048x4x2, .i32⟩
  | .hbm, ⟨90, _⟩ => ⟨S8x2048x4x256, .f32⟩
  | .hbm, ⟨91, _⟩ => ⟨S_, .i32⟩
  | .hbm, ⟨92, _⟩ => ⟨S2048x4, .i32⟩
  | .hbm, ⟨93, _⟩ => ⟨S2048x4, .i1⟩
  | .hbm, ⟨94, _⟩ => ⟨S_, .i32⟩
  | .hbm, ⟨95, _⟩ => ⟨S2048x4, .i32⟩
  | .hbm, ⟨96, _⟩ => ⟨S2048x4, .i32⟩
  | .hbm, ⟨97, _⟩ => ⟨S2048x4, .i32⟩
  | .hbm, ⟨98, _⟩ => ⟨S_, .i32⟩
  | .hbm, ⟨99, _⟩ => ⟨S1x4, .i32⟩
  | .hbm, ⟨100, _⟩ => ⟨S1x4, .i1⟩
  | .hbm, ⟨101, _⟩ => ⟨S_, .i32⟩
  | .hbm, ⟨102, _⟩ => ⟨S1x4, .i32⟩
  | .hbm, ⟨103, _⟩ => ⟨S1x4, .i32⟩
  | .hbm, ⟨104, _⟩ => ⟨S1x4, .i32⟩
  | .hbm, ⟨105, _⟩ => ⟨S2048x4, .i32⟩
  | .hbm, ⟨106, _⟩ => ⟨S2048x4x1, .i32⟩
  | .hbm, ⟨107, _⟩ => ⟨S2048x4x1, .i32⟩
  | .hbm, ⟨108, _⟩ => ⟨S2048x4x2, .i32⟩
  | .hbm, ⟨109, _⟩ => ⟨S8x2048x4x256, .f32⟩
  | .hbm, ⟨110, _⟩ => ⟨S8x2048x4x256, .f32⟩
  | .hbm, ⟨111, _⟩ => ⟨S2048x4, .i32⟩
  | .hbm, ⟨112, _⟩ => ⟨S2048x4, .f32⟩
  | .hbm, ⟨113, _⟩ => ⟨S1x2048x4x1, .f32⟩
  | .hbm, ⟨114, _⟩ => ⟨S8x2048x4x256, .f32⟩
  | .hbm, ⟨115, _⟩ => ⟨S8x2048x4x256, .f32⟩
  | .hbm, ⟨116, _⟩ => ⟨S8x2048x4x256, .f32⟩
  | .hbm, ⟨117, _⟩ => ⟨S8x2048x4x256, .bf16⟩
  | .hbm, ⟨118, _⟩ => ⟨S8x2048x1024, .bf16⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_call0_call0_cst : Ref sig .tc := ⟨.hbm, 40, rfl⟩
abbrev main_call0_call0_v0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_c_6 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_c_8 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_c_12 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩

abbrev nD : Nat := 1
abbrev τ : Topo := Topo.v7x

variable {F : FTy → Type} [FloatOps F]
-- ==== Proj.lean ====
abbrev S8x2048x2048 : Shape := ⟨3, ![8, 2048, 2048]⟩
abbrev S1x2048 : Shape := ⟨2, ![1, 2048]⟩
abbrev S1x2048x2048 : Shape := ⟨3, ![1, 2048, 2048]⟩
abbrev S1x2048x4096 : Shape := ⟨3, ![1, 2048, 4096]⟩
abbrev S1x4096 : Shape := ⟨2, ![1, 4096]⟩
abbrev S16384x2048 : Shape := ⟨2, ![16384, 2048]⟩
abbrev S2048 : Shape := ⟨1, ![2048]⟩
abbrev S2048x1 : Shape := ⟨2, ![2048, 1]⟩
abbrev S2048x2048 : Shape := ⟨2, ![2048, 2048]⟩
abbrev S2048x4096 : Shape := ⟨2, ![2048, 4096]⟩
abbrev S4096 : Shape := ⟨1, ![4096]⟩
abbrev S4096x4096 : Shape := ⟨2, ![4096, 4096]⟩
abbrev S16384x1024 : Shape := ⟨2, ![16384, 1024]⟩
abbrev S16384x4096 : Shape := ⟨2, ![16384, 4096]⟩
abbrev S512x2048 : Shape := ⟨2, ![512, 2048]⟩
abbrev S64x2048 : Shape := ⟨2, ![64, 2048]⟩
abbrev S128x4096 : Shape := ⟨2, ![128, 4096]⟩
abbrev S512x1024 : Shape := ⟨2, ![512, 1024]⟩
abbrev S512x4096 : Shape := ⟨2, ![512, 4096]⟩
abbrev S4x512x128 : Shape := ⟨3, ![4, 512, 128]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x512 : Shape := ⟨2, ![1, 512]⟩

abbrev nBuf : Space → Nat
  | .hbm => 24
  | .vmem => 16
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x2048, .f32⟩
  | .hbm, ⟨3, _⟩ => ⟨S1x2048x4096, .f32⟩
  | .hbm, ⟨4, _⟩ => ⟨S1x4096, .f32⟩
  | .hbm, ⟨5, _⟩ => ⟨S1x2048x2048, .f32⟩
  | .hbm, ⟨6, _⟩ => ⟨S16384x2048, .f32⟩
  | .hbm, ⟨7, _⟩ => ⟨S2048, .f32⟩
  | .hbm, ⟨8, _⟩ => ⟨S2048x1, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .bf16⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S2048x4096, .bf16⟩
  | .hbm, ⟨17, _⟩ => ⟨S4096, .f32⟩
  | .hbm, ⟨18, _⟩ => ⟨S1x4096, .f32⟩
  | .hbm, ⟨19, _⟩ => ⟨S2048x2048, .f32⟩
  | .hbm, ⟨20, _⟩ => ⟨S4096x4096, .bf16⟩
  | .hbm, ⟨21, _⟩ => ⟨S16384x1024, .bf16⟩
  | .hbm, ⟨22, _⟩ => ⟨S16384x4096, .bf16⟩
  | .hbm, ⟨23, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S2048x4096, .bf16⟩
  | .local _ .vmem, ⟨4, _⟩ => ⟨S1x4096, .f32⟩
  | .local _ .vmem, ⟨5, _⟩ => ⟨S64x2048, .f32⟩
  | .local _ .vmem, ⟨6, _⟩ => ⟨S64x2048, .f32⟩
  | .local _ .vmem, ⟨7, _⟩ => ⟨S128x4096, .bf16⟩
  | .local _ .vmem, ⟨8, _⟩ => ⟨S128x4096, .bf16⟩
  | .local _ .vmem, ⟨9, _⟩ => ⟨S512x1024, .bf16⟩
  | .local _ .vmem, ⟨10, _⟩ => ⟨S512x1024, .bf16⟩
  | .local _ .vmem, ⟨11, _⟩ => ⟨S512x4096, .bf16⟩
  | .local _ .vmem, ⟨12, _⟩ => ⟨S512x4096, .bf16⟩
  | .local _ .vmem, ⟨13, _⟩ => ⟨S64x2048, .bf16⟩
  | .local _ .vmem, ⟨14, _⟩ => ⟨S64x2048, .bf16⟩
  | .local _ .vmem, ⟨15, _⟩ => ⟨S4x512x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjReferenceIdeal.lean ====
abbrev S8x2048x2048 : Shape := ⟨3, ![8, 2048, 2048]⟩
abbrev S1x2048 : Shape := ⟨2, ![1, 2048]⟩
abbrev S1x2048x2048 : Shape := ⟨3, ![1, 2048, 2048]⟩
abbrev S1x2048x4096 : Shape := ⟨3, ![1, 2048, 4096]⟩
abbrev S1x4096 : Shape := ⟨2, ![1, 4096]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S1x1x2048 : Shape := ⟨3, ![1, 1, 2048]⟩
abbrev S2048x2048 : Shape := ⟨2, ![2048, 2048]⟩
abbrev S2048x4096 : Shape := ⟨2, ![2048, 4096]⟩
abbrev S8x2048x4096 : Shape := ⟨3, ![8, 2048, 4096]⟩
abbrev S4096 : Shape := ⟨1, ![4096]⟩
abbrev S1x1x4096 : Shape := ⟨3, ![1, 1, 4096]⟩
abbrev S8x2048x1024 : Shape := ⟨3, ![8, 2048, 1024]⟩
abbrev S4096x4096 : Shape := ⟨2, ![4096, 4096]⟩
abbrev S16384x1024 : Shape := ⟨2, ![16384, 1024]⟩
abbrev S16384x4096 : Shape := ⟨2, ![16384, 4096]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x2048, .f32⟩
  | .hbm, ⟨3, _⟩ => ⟨S1x2048x4096, .f32⟩
  | .hbm, ⟨4, _⟩ => ⟨S1x4096, .f32⟩
  | .hbm, ⟨5, _⟩ => ⟨S1x2048x2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S2048x2048, .f32⟩
  | .hbm, ⟨24, _⟩ => ⟨S8x2048x2048, .f32⟩
  | .hbm, ⟨25, _⟩ => ⟨S2048x4096, .f32⟩
  | .hbm, ⟨26, _⟩ => ⟨S8x2048x4096, .f32⟩
  | .hbm, ⟨27, _⟩ => ⟨S4096, .f32⟩
  | .hbm, ⟨28, _⟩ => ⟨S1x1x4096, .f32⟩
  | .hbm, ⟨29, _⟩ => ⟨S8x2048x4096, .f32⟩
  | .hbm, ⟨30, _⟩ => ⟨S8x2048x4096, .f32⟩
  | .hbm, ⟨31, _⟩ => ⟨S8x2048x4096, .f32⟩
  | .hbm, ⟨32, _⟩ => ⟨S8x2048x4096, .f32⟩
  | .hbm, ⟨33, _⟩ => ⟨S_, .f32⟩
  | .hbm, ⟨34, _⟩ => ⟨S8x2048x4096, .f32⟩
  | .hbm, ⟨35, _⟩ => ⟨S8x2048x4096, .f32⟩
  | .hbm, ⟨36, _⟩ => ⟨S_, .f32⟩
  | .hbm, ⟨37, _⟩ => ⟨S8x2048x4096, .f32⟩
  | .hbm, ⟨38, _⟩ => ⟨S8x2048x4096, .f32⟩
  | .hbm, ⟨39, _⟩ => ⟨S8x2048x1024, .f32⟩
  | .hbm, ⟨40, _⟩ => ⟨S8x2048x1024, .f32⟩
  | .hbm, ⟨41, _⟩ => ⟨S4096x4096, .f32⟩
  | .hbm, ⟨42, _⟩ => ⟨S4096x4096, .bf16⟩
  | .hbm, ⟨43, _⟩ => ⟨S16384x1024, .f32⟩
  | .hbm, ⟨44, _⟩ => ⟨S16384x1024, .bf16⟩
  | .hbm, ⟨45, _⟩ => ⟨S16384x4096, .f32⟩
  | .hbm, ⟨46, _⟩ => ⟨S16384x4096, .bf16⟩
  | .hbm, ⟨47, _⟩ => ⟨S2048x2048, .f32⟩
  | .hbm, ⟨48, _⟩ => ⟨S2048x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Tail.lean ====
abbrev S16384x1024 : Shape := ⟨2, ![16384, 1024]⟩
abbrev S16384x4096 : Shape := ⟨2, ![16384, 4096]⟩
abbrev S16384x2048 : Shape := ⟨2, ![16384, 2048]⟩
abbrev S1024x2048 : Shape := ⟨2, ![1024, 2048]⟩
abbrev S2048x2048 : Shape := ⟨2, ![2048, 2048]⟩
abbrev S1x2048 : Shape := ⟨2, ![1, 2048]⟩
abbrev S1x2048x16 : Shape := ⟨3, ![1, 2048, 16]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2048 : Shape := ⟨1, ![2048]⟩
abbrev S2048x1 : Shape := ⟨2, ![2048, 1]⟩
abbrev S2048x16 : Shape := ⟨2, ![2048, 16]⟩
abbrev S2048x32 : Shape := ⟨2, ![2048, 32]⟩
abbrev S16384x16 : Shape := ⟨2, ![16384, 16]⟩
abbrev S512x1024 : Shape := ⟨2, ![512, 1024]⟩
abbrev S512x4096 : Shape := ⟨2, ![512, 4096]⟩
abbrev S512x2048 : Shape := ⟨2, ![512, 2048]⟩
abbrev S512x16 : Shape := ⟨2, ![512, 16]⟩
abbrev S512x256 : Shape := ⟨2, ![512, 256]⟩
abbrev S512 : Shape := ⟨1, ![512]⟩
abbrev S512x1 : Shape := ⟨2, ![512, 1]⟩
abbrev S512x32 : Shape := ⟨2, ![512, 32]⟩

abbrev nBuf : Space → Nat
  | .hbm => 72
  | .vmem => 23
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x4096, .bf16⟩
  | .hbm, ⟨4, _⟩ => ⟨S16384x2048, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S1x2048, .f32⟩
  | .hbm, ⟨9, _⟩ => ⟨S1x2048x16, .f32⟩
  | .hbm, ⟨10, _⟩ => ⟨S256, .i32⟩
  | .hbm, ⟨11, _⟩ => ⟨S256x1, .i32⟩
  | .hbm, ⟨12, _⟩ => ⟨S1x256, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S256x256, .i32⟩
  | .hbm, ⟨23, _⟩ => ⟨S256x256, .i32⟩
  | .hbm, ⟨24, _⟩ => ⟨S_, .i32⟩
  | .hbm, ⟨25, _⟩ => ⟨S256x256, .i32⟩
  | .hbm, ⟨26, _⟩ => ⟨S256x256, .i1⟩
  | .hbm, ⟨27, _⟩ => ⟨S_, .i32⟩
  | .hbm, ⟨28, _⟩ => ⟨S256x256, .i32⟩
  | .hbm, ⟨29, _⟩ => ⟨S256x256, .i1⟩
  | .hbm, ⟨30, _⟩ => ⟨S_, .i32⟩
  | .hbm, ⟨31, _⟩ => ⟨S_, .i1⟩
  | .hbm, ⟨32, _⟩ => ⟨S256x256, .i1⟩
  | .hbm, ⟨33, _⟩ => ⟨S256x256, .i1⟩
  | .hbm, ⟨34, _⟩ => ⟨S256x256, .i1⟩
  | .hbm, ⟨35, _⟩ => ⟨S256x256, .i32⟩
  | .hbm, ⟨36, _⟩ => ⟨S256x256, .i32⟩
  | .hbm, ⟨37, _⟩ => ⟨S256x256, .i32⟩
  | .hbm, ⟨38, _⟩ => ⟨S256x256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S256x256, .f32⟩
  | .hbm, ⟨49, _⟩ => ⟨S_, .f32⟩
  | .hbm, ⟨50, _⟩ => ⟨S256x256, .f32⟩
  | .hbm, ⟨51, _⟩ => ⟨S256x256, .f32⟩
  | .hbm, ⟨52, _⟩ => ⟨S256x256, .bf16⟩
  | .hbm, ⟨53, _⟩ => ⟨S_, .f32⟩
  | .hbm, ⟨54, _⟩ => ⟨S256x256, .f32⟩
  | .hbm, ⟨55, _⟩ => ⟨S256x256, .f32⟩
  | .hbm, ⟨56, _⟩ => ⟨S256x256, .bf16⟩
  | .hbm, ⟨57, _⟩ => ⟨S2048, .f32⟩
  | .hbm, ⟨58, _⟩ => ⟨S2048x1, .f32⟩
  | .hbm, ⟨59, _⟩ => ⟨S2048x16, .f32⟩
  | .hbm, ⟨60, _⟩ => ⟨S2048x16, .f32⟩
  | .hbm, ⟨61, _⟩ => ⟨S2048x16, .f32⟩
  | .hbm, ⟨62, _⟩ => ⟨S2048x16, .bf16⟩
  | .hbm, ⟨63, _⟩ => ⟨S2048x16, .f32⟩
  | .hbm, ⟨64, _⟩ => ⟨S2048x16, .f32⟩
  | .hbm, ⟨65, _⟩ => ⟨S2048x16, .bf16⟩
  | .hbm, ⟨66, _⟩ => ⟨S2048, .f32⟩
  | .hbm, ⟨67, _⟩ => ⟨S1x2048, .f32⟩
  | .hbm, ⟨68, _⟩ => ⟨S2048x32, .bf16⟩
  | .hbm, ⟨69, _⟩ => ⟨S16384x2048, .f32⟩
  | .hbm, ⟨70, _⟩ => ⟨S16384x2048, .bf16⟩
  | .hbm, ⟨71, _⟩ => ⟨S16384x16, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | .local _ .vmem, ⟨8, _⟩ => ⟨S512x2048, .f32⟩
  | .local _ .vmem, ⟨9, _⟩ => ⟨S512x2048, .f32⟩
  | .local _ .vmem, ⟨10, _⟩ => ⟨S256x256, .bf16⟩
  | .local _ .vmem, ⟨11, _⟩ => ⟨S256x256, .bf16⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S1x2048, .f32⟩
  | .local _ .vmem, ⟨16, _⟩ => ⟨S2048x32, .bf16⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .bf16⟩
  | .local _ .vmem, ⟨21, _⟩ => ⟨S512x16, .f32⟩
  | .local _ .vmem, ⟨22, _⟩ => ⟨S512x16, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v6 : Ref sig .tc := ⟨.hbm, 37, rfl⟩
abbrev main_v7 : Ref sig .tc := ⟨.hbm, 38, rfl⟩
abbrev main_cst : Ref sig .tc := ⟨.hbm, 39, rfl⟩
abbrev main_v8 : Ref sig .tc := ⟨.hbm, 40, rfl⟩
abbrev main_cst_0 : Ref sig .tc := ⟨.hbm, 41, rfl⟩
abbrev main_v9 : Ref sig .tc := ⟨.hbm, 42, rfl⟩
abbrev main_cst_1 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_2 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_3 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33_0 : Ref sig .tc := ⟨.hbm, 69, rfl⟩
abbrev main_v33_1 : Ref sig .tc := ⟨.hbm, 70, rfl⟩
abbrev main_v33_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== TailReferenceIdeal.lean ====
abbrev S16384x1024 : Shape := ⟨2, ![16384, 1024]⟩
abbrev S16384x4096 : Shape := ⟨2, ![16384, 4096]⟩
abbrev S16384x2048 : Shape := ⟨2, ![16384, 2048]⟩
abbrev S1024x2048 : Shape := ⟨2, ![1024, 2048]⟩
abbrev S2048x2048 : Shape := ⟨2, ![2048, 2048]⟩
abbrev S1x2048 : Shape := ⟨2, ![1, 2048]⟩
abbrev S1x2048x16 : Shape := ⟨3, ![1, 2048, 16]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S16384x4x256 : Shape := ⟨3, ![16384, 4, 256]⟩
abbrev S16384 : Shape := ⟨1, ![16384]⟩
abbrev S16384x1 : Shape := ⟨2, ![16384, 1]⟩
abbrev S2048 : Shape := ⟨1, ![2048]⟩
abbrev S2048x16 : Shape := ⟨2, ![2048, 16]⟩
abbrev S16384x16 : Shape := ⟨2, ![16384, 16]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x4096, .bf16⟩
  | .hbm, ⟨4, _⟩ => ⟨S16384x2048, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S1x2048, .f32⟩
  | .hbm, ⟨9, _⟩ => ⟨S1x2048x16, .f32⟩
  | .hbm, ⟨10, _⟩ => ⟨S256, .i32⟩
  | .hbm, ⟨11, _⟩ => ⟨S256x1, .i32⟩
  | .hbm, ⟨12, _⟩ => ⟨S1x256, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S256x256, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S16384x4x256, .bf16⟩
  | .hbm, ⟨26, _⟩ => ⟨S16384x4x256, .f32⟩
  | .hbm, ⟨27, _⟩ => ⟨S16384x4x256, .bf16⟩
  | .hbm, ⟨28, _⟩ => ⟨S16384x4x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S16384x4x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | .hbm, ⟨38, _⟩ => ⟨S16384x4x256, .f32⟩
  | .hbm, ⟨39, _⟩ => ⟨S16384x4x256, .f32⟩
  | .hbm, ⟨40, _⟩ => ⟨S16384x4x256, .bf16⟩
  | .hbm, ⟨41, _⟩ => ⟨S16384x4x256, .f32⟩
  | .hbm, ⟨42, _⟩ => ⟨S16384x1024, .f32⟩
  | .hbm, ⟨43, _⟩ => ⟨S1024x2048, .f32⟩
  | .hbm, ⟨44, _⟩ => ⟨S16384x2048, .f32⟩
  | .hbm, ⟨45, _⟩ => ⟨S16384x1024, .f32⟩
  | .hbm, ⟨46, _⟩ => ⟨S1024x2048, .f32⟩
  | .hbm, ⟨47, _⟩ => ⟨S16384x2048, .f32⟩
  | .hbm, ⟨48, _⟩ => ⟨S16384x4096, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .bf16⟩
  | .hbm, ⟨55, _⟩ => ⟨S16384x2048, .f32⟩
  | .hbm, ⟨56, _⟩ => ⟨S2048x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x2048, .f32⟩
  | .hbm, ⟨71, _⟩ => ⟨S16384x2048, .f32⟩
  | .hbm, ⟨72, _⟩ => ⟨S2048, .f32⟩
  | .hbm, ⟨73, _⟩ => ⟨S1x2048, .f32⟩
  | .hbm, ⟨74, _⟩ => ⟨S16384x2048, .f32⟩
  | .hbm, ⟨75, _⟩ => ⟨S16384x2048, .f32⟩
  | .hbm, ⟨76, _⟩ => ⟨S16384x2048, .bf16⟩
  | .hbm, ⟨77, _⟩ => ⟨S2048x16, .f32⟩
  | .hbm, ⟨78, _⟩ => ⟨S16384x16, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Fold.lean ====
abbrev S1x4x256x256 : Shape := ⟨4, ![1, 4, 256, 256]⟩
abbrev S1x1024x2048 : Shape := ⟨3, ![1, 1024, 2048]⟩
abbrev S1x1024 : Shape := ⟨2, ![1, 1024]⟩
abbrev S4x256x256 : Shape := ⟨3, ![4, 256, 256]⟩
abbrev S1024x2048 : Shape := ⟨2, ![1024, 2048]⟩
abbrev S1024 : Shape := ⟨1, ![1024]⟩
abbrev S1x256x256 : Shape := ⟨3, ![1, 256, 256]⟩
abbrev S256x2048 : Shape := ⟨2, ![256, 2048]⟩
abbrev S1x256 : Shape := ⟨2, ![1, 256]⟩
abbrev S256x256 : Shape := ⟨2, ![256, 256]⟩

abbrev nBuf : Space → Nat
  | .hbm => 13
  | .vmem => 14
  | .smem => 0
  | _ => 0

abbrev bufTy : (tb : Table) → Fin (tcTables nBuf tb) → BufTy
  | .hbm, ⟨0, _⟩ => ⟨S1x4x256x256, .f32⟩
  | .hbm, ⟨1, _⟩ => ⟨S1x1024x2048, .f32⟩
  | .hbm, ⟨2, _⟩ => ⟨S1x4x256x256, .f32⟩
  | .hbm, ⟨3, _⟩ => ⟨S1x1024, .f32⟩
  | .hbm, ⟨4, _⟩ => ⟨S1x1024x2048, .f32⟩
  | .hbm, ⟨5, _⟩ => ⟨S4x256x256, .f32⟩
  | .hbm, ⟨6, _⟩ => ⟨S1024x2048, .f32⟩
  | .hbm, ⟨7, _⟩ => ⟨S4x256x256, .f32⟩
  | .hbm, ⟨8, _⟩ => ⟨S1024, .f32⟩
  | .hbm, ⟨9, _⟩ => ⟨S1x1024, .f32⟩
  | .hbm, ⟨10, _⟩ => ⟨S1024x2048, .f32⟩
  | .hbm, ⟨11, _⟩ => ⟨S1024x2048, .bf16⟩
  | .hbm, ⟨12, _⟩ => ⟨S1024x2048, .bf16⟩
  | .local _ .vmem, ⟨0, _⟩ => ⟨S1x256x256, .f32⟩
  | .local _ .vmem, ⟨1, _⟩ => ⟨S1x256x256, .f32⟩
  | .local _ .vmem, ⟨2, _⟩ => ⟨S256x2048, .f32⟩
  | .local _ .vmem, ⟨3, _⟩ => ⟨S256x2048, .f32⟩
  | .local _ .vmem, ⟨4, _⟩ => ⟨S1x256x256, .f32⟩
  | .local _ .vmem, ⟨5, _⟩ => ⟨S1x256x256, .f32⟩
  | .local _ .vmem, ⟨6, _⟩ => ⟨S1x256, .f32⟩
  | .local _ .vmem, ⟨7, _⟩ => ⟨S1x256, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | _, _ => ⟨S1x4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FoldReferenceIdeal.lean ====
abbrev S1x4x256x256 : Shape := ⟨4, ![1, 4, 256, 256]⟩
abbrev S1x1024x2048 : Shape := ⟨3, ![1, 1024, 2048]⟩
abbrev S1x1024 : Shape := ⟨2, ![1, 1024]⟩
abbrev S4x256x256 : Shape := ⟨3, ![4, 256, 256]⟩
abbrev S1024x2048 : Shape := ⟨2, ![1024, 2048]⟩
abbrev S4x256x2048 : Shape := ⟨3, ![4, 256, 2048]⟩
abbrev S1024 : Shape := ⟨1, ![1024]⟩
abbrev S4x1x256 : Shape := ⟨3, ![4, 1, 256]⟩

abbrev nBuf : Space → Nat
  | .hbm => 21
  | .vmem => 0
  | .smem => 0
  | _ => 0

abbrev bufTy : (tb : Table) → Fin (tcTables nBuf tb) → BufTy
  | .hbm, ⟨0, _⟩ => ⟨S1x4x256x256, .f32⟩
  | .hbm, ⟨1, _⟩ => ⟨S1x1024x2048, .f32⟩
  | .hbm, ⟨2, _⟩ => ⟨S1x4x256x256, .f32⟩
  | .hbm, ⟨3, _⟩ => ⟨S1x1024, .f32⟩
  | .hbm, ⟨4, _⟩ => ⟨S1x1024x2048, .f32⟩
  | .hbm, ⟨5, _⟩ => ⟨S4x256x256, .f32⟩
  | .hbm, ⟨6, _⟩ => ⟨S1024x2048, .f32⟩
  | .hbm, ⟨7, _⟩ => ⟨S4x256x2048, .f32⟩
  | .hbm, ⟨8, _⟩ => ⟨S4x256x2048, .f32⟩
  | .hbm, ⟨9, _⟩ => ⟨S4x256x256, .f32⟩
  | .hbm, ⟨10, _⟩ => ⟨S1024, .f32⟩
  | .hbm, ⟨11, _⟩ => ⟨S4x1x256, .f32⟩
  | .hbm, ⟨12, _⟩ => ⟨S4x256x256, .f32⟩
  | .hbm, ⟨13, _⟩ => ⟨S4x256x256, .f32⟩
  | .hbm, ⟨14, _⟩ => ⟨S1024x2048, .f32⟩
  | .hbm, ⟨15, _⟩ => ⟨S4x256x2048, .f32⟩
  | .hbm, ⟨16, _⟩ => ⟨S4x256x2048, .f32⟩
  | .hbm, ⟨17, _⟩ => ⟨S1024x2048, .f32⟩
  | .hbm, ⟨18, _⟩ => ⟨S1024x2048, .bf16⟩
  | .hbm, ⟨19, _⟩ => ⟨S1024x2048, .f32⟩
  | .hbm, ⟨20, _⟩ => ⟨S1024x2048, .bf16⟩
  | _, _ => ⟨S1x4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Route.lean ====
abbrev S16384x16 : Shape := ⟨2, ![16384, 16]⟩
abbrev S8x2048x16 : Shape := ⟨3, ![8, 2048, 16]⟩
abbrev S8x16x2048 : Shape := ⟨3, ![8, 16, 2048]⟩
abbrev S2048x128 : Shape := ⟨2, ![2048, 128]⟩
abbrev S8x2048 : Shape := ⟨2, ![8, 2048]⟩
abbrev S8x1x2048 : Shape := ⟨3, ![8, 1, 2048]⟩
abbrev S128x2048 : Shape := ⟨2, ![128, 2048]⟩
abbrev S128x1 : Shape := ⟨2, ![128, 1]⟩
abbrev S128 : Shape := ⟨1, ![128]⟩
abbrev S2048x2048 : Shape := ⟨2, ![2048, 2048]⟩

abbrev nBuf : Space → Nat
  | .hbm => 7
  | .vmem => 5
  | .smem => 0
  | _ => 0

abbrev bufTy : (tb : Table) → Fin (tcTables nBuf tb) → BufTy
  | .hbm, ⟨0, _⟩ => ⟨S16384x16, .f32⟩
  | .hbm, ⟨1, _⟩ => ⟨S8x2048x16, .f32⟩
  | .hbm, ⟨2, _⟩ => ⟨S8x16x2048, .f32⟩
  | .hbm, ⟨3, _⟩ => ⟨S8x16x2048, .f32⟩
  | .hbm, ⟨4, _⟩ => ⟨S8x16x2048, .i32⟩
  | .hbm, ⟨5, _⟩ => ⟨S8x16x2048, .i32⟩
  | .hbm, ⟨6, _⟩ => ⟨S2048x128, .i32⟩
  | .local _ .vmem, ⟨0, _⟩ => ⟨S8x16x2048, .f32⟩
  | .local _ .vmem, ⟨1, _⟩ => ⟨S8x16x2048, .f32⟩
  | .local _ .vmem, ⟨2, _⟩ => ⟨S8x16x2048, .i32⟩
  | .local _ .vmem, ⟨3, _⟩ => ⟨S8x16x2048, .i32⟩
  | .local _ .vmem, ⟨4, _⟩ => ⟨S2048x128, .i32⟩
  | _, _ => ⟨S16384x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v2_2 : Ref sig .tc := ⟨.hbm, 5, rfl⟩
abbrev main_v2_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_6 : BitVec 32 := 0#32
  let c31_i32 : BitVec 32 := 31#32
  let v14 : BitVec 32 := Scalar.addi c0_i32_6 c31_i32
  let c1_i32 : BitVec 32 := 1#32
  ⟨c0_i32_6, v14, c1_i32⟩
abbrev stage0_0 : Fin 1 → Memref sig .tc .vmem S8x16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x16x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Mixer.Seqmix.RunA.lean ====
/- The run of the body of the mixers' call at one grid point. -/
module

public import proofs.«01_k».proof.Proof.Mixer.Seqmix.Runs

@[expose] public section

-- membership in a rectangle of production extents (`View.cover_of_tiled`): the elaborator's structural look
-- recurses once per coordinate of the long axes
set_option maxRecDepth 16384

noncomputable section

namespace Cert.Seqmix.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (7, 8, 9) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg2 : Memref sig .tc .vmem S8x512x512 .bf16) (harg2 : arg2.IsWhole) (arg3 : Memref sig .tc .vmem S4x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x2048x512 .bf16) (harg10 : arg10.IsWhole) (arg11 : Memref sig .tc .vmem S1x2048x512 .bf16) (harg11 : arg11.IsWhole)
    (x0 : Vec F S8x512x512 .bf16) (x1 : Vec F S4x2048x512 .bf16) (x2 : Vec F S1x512x512 .bf16) (x3 : Vec F S1x512x512 .bf16) (x4 : Vec F S1x512x512 .bf16) (x5 : Vec F S1x512x512 .bf16) (x6 : Vec F S1x2048x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_seqmix i arg2 harg2 arg3 harg3 arg4 harg4 arg5 harg5 arg6 harg6 arg7 harg7 arg8 harg8 arg9 harg9 arg10 harg10 arg11 harg11) K := by
    intro E K
    simp only [cc0_seqmix_eq_skeleton]; unfold cc0_seqmix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Cert.Seqmix.Gen

end
-- ==== Proof.Mixer.Seqmix.Frame.lean ====
/- The frame of the mixers' program: what each output holds point by point, the obligation, the run. -/
module

public import proofs.«01_k».proof.Proof.Mixer.Seqmix.RunA
public import Idealize.ShloMosaic.Lib.Claim

@[expose] public section

-- membership in a rectangle of production extents (`View.cover_of_tiled`): the elaborator's structural look
-- recurses once per coordinate of the long axes
set_option maxRecDepth 16384

noncomputable section

namespace Cert.Seqmix.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: `Cert.quiescent_Seqmix`'s statement (Defs.lean) at any `F` — Proof.lean cites it at `Bits`:
    `theorem Cert.Proof.claim : Cert.Claim := ⟨Cert.Seqmix.Gen.facts, fun m ρ _ => Cert.Seqmix.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Seqmix.Gen

end
-- ==== Proof.Mixer.SeqmixIdeal.Runs.lean ====
/- The set-up of the launch of the mixers: the buffers that the launch finds after the host operations,
   and its windows' blocks. -/
module

public import proofs.«01_k».proof.Proof.Gen.SeqmixIdeal.Launch
public import proofs.«01_k».proof.Proof.Gen.SeqmixIdeal.Skeleton
public import proofs.«01_k».proof.Proof.Gen.SeqmixIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.SeqmixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`, `hostOps0_19`, `hostOps0_20`, `hostOps0_21`, `hostOps0_22`, `hostOps0_23`, `hostOps0_24`, `hostOps0_25`, `hostOps0_26`, `hostOps0_27`, `hostOps0_28`, `hostOps0_29`, `hostOps0_30`, `hostOps0_31`, `hostOps0_32`, `hostOps0_33`, `hostOps0_34`, `hostOps0_35`, `hostOps0_36`, `hostOps0_37`, `hostOps0_38`, `hostOps0_39`, `hostOps0_40`, `hostOps0_41`, `hostOps0_42`, `hostOps0_43`, `hostOps0_44`, `hostOps0_45`, `hostOps0_46`, `hostOps0_47`, `hostOps0_48`, `hostOps0_49`, `hostOps0_50`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh⟩) main_chain

set_option maxHeartbeats 2000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
set_option maxHeartbeats 2000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_SeqmixIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 5).trans (((dats 0 c).arrAt_in 5 rfl _).trans ((hA c 5).trans (V_main_arg0 m c))),
      ((h c).1 6).trans (((dats 0 c).arrAt_in 6 rfl _).trans ((hA c 6).trans (V_main_arg1 m c)))⟩) h

/-! ## The kernel body on any staging memrefs: a subtype the run finds -/

/-- One staging buffer of output window 7, through which its contents are stated (`View.read_writes_of_cover`: the
    choice does not matter). -/
abbrev VO0_7 : View sig .tc .vmem S1x2048x512 .bf16 := (Memref.whole cc0_stg7_0 : Memref sig .tc .vmem S1x2048x512 .bf16).view
/-- One staging buffer of output window 8, through which its contents are stated (`View.read_writes_of_cover`: the
    choice does not matter). -/
abbrev VO0_8 : View sig .tc .vmem S1x2048x512 .bf16 := (Memref.whole cc0_stg8_0 : Memref sig .tc .vmem S1x2048x512 .bf16).view
/-- One staging buffer of output window 9, through which its contents are stated (`View.read_writes_of_cover`: the
    choice does not matter). -/
abbrev VO0_9 : View sig .tc .vmem S1x2048x512 .bf16 := (Memref.whole cc0_stg9_0 : Memref sig .tc .vmem S1x2048x512 .bf16).view
/-- Each window's current staging memref at point `t`, spelled as the pipeline passes it (`bodyAt0`), and its wholeness. -/
abbrev ms0_0 (t : Fin cfg0.N) : Memref sig .tc .vmem S8x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x512 .bf16 := win0_9.stage (cfg0.slots t 9)
abbrev hs0_9 (t : Fin cfg0.N) : (ms0_9 t).IsWhole := hstage0_9 ((cfg0.slots t 9).cast nbuf0_9)

end Cert.SeqmixIdeal.Gen

end
-- ==== Proof.Mixer.Trig.lean ====
/- The trigonometry of the position DFT over the reals: the tables the kernel builds by the addition theorem, and the
   radix-4 split of the rows. -/
module

public import Mathlib.Analysis.SpecialFunctions.Trigonometric.Basic
public import Idealize.ShloMosaic.PureOps.Ideal

@[expose] public section

namespace Cert.Mixer

open Real

/-- The step of the DFT angle: a whole turn over 2048 positions. -/
noncomputable def step : ℝ := 2 * π / 2048

/-- A phase reduced modulo 2048 has the cosine of the phase. -/
theorem cos_mod (n : ℕ) : cos ((n % 2048 : ℕ) * step) = cos (n * step) := by
  have h : (n : ℝ) * step = (n % 2048 : ℕ) * step + (n / 2048 : ℕ) * (2 * π) := by
    have := Nat.mod_add_div n 2048
    have h2 : (n : ℝ) = (n % 2048 : ℕ) + 2048 * (n / 2048 : ℕ) := by exact_mod_cast this.symm
    conv_lhs => rw [h2]
    unfold step; ring
  rw [h, cos_add_nat_mul_two_pi]

/-- A phase reduced modulo 2048 has the sine of the phase. -/
theorem sin_mod (n : ℕ) : sin ((n % 2048 : ℕ) * step) = sin (n * step) := by
  have h : (n : ℝ) * step = (n % 2048 : ℕ) * step + (n / 2048 : ℕ) * (2 * π) := by
    have := Nat.mod_add_div n 2048
    have h2 : (n : ℝ) = (n % 2048 : ℕ) + 2048 * (n / 2048 : ℕ) := by exact_mod_cast this.symm
    conv_lhs => rw [h2]
    unfold step; ring
  rw [h, sin_add_nat_mul_two_pi]

/-- The cosine table's entry, built from a coarse row and a fine row by the addition theorem, is the cosine of the
    whole phase. -/
theorem cos_split (k n : ℕ) (s : ℝ) :
    cos ((k / 32 * 32 * n % 2048 : ℕ) * step) * s * cos ((k % 32 * n % 2048 : ℕ) * step)
      - sin ((k / 32 * 32 * n % 2048 : ℕ) * step) * s * sin ((k % 32 * n % 2048 : ℕ) * step)
      = cos ((k * n : ℕ) * step) * s := by
  rw [cos_mod, cos_mod, sin_mod, sin_mod]
  have h : ((k * n : ℕ) : ℝ) * step = (k / 32 * 32 * n : ℕ) * step + (k % 32 * n : ℕ) * step := by
    have h2 : k * n = k / 32 * 32 * n + k % 32 * n := by
      rw [← Nat.add_mul]; congr 1; omega
    rw [h2]; push_cast; ring
  rw [h, cos_add]; ring

/-- The sine table's entry, built likewise, is the sine of the whole phase. -/
theorem sin_split (k n : ℕ) (s : ℝ) :
    sin ((k / 32 * 32 * n % 2048 : ℕ) * step) * s * cos ((k % 32 * n % 2048 : ℕ) * step)
      + cos ((k / 32 * 32 * n % 2048 : ℕ) * step) * s * sin ((k % 32 * n % 2048 : ℕ) * step)
      = sin ((k * n : ℕ) * step) * s := by
  rw [cos_mod, cos_mod, sin_mod, sin_mod]
  have h : ((k * n : ℕ) : ℝ) * step = (k / 32 * 32 * n : ℕ) * step + (k % 32 * n : ℕ) * step := by
    have h2 : k * n = k / 32 * 32 * n + k % 32 * n := by
      rw [← Nat.add_mul]; congr 1; omega
    rw [h2]; push_cast; ring
  rw [h, sin_add]; ring

/-- Moving the row by `512 q` turns the phase at position `4 a + r` by `q r` quarter turns. -/
theorem phase_quarter (q r a k : ℕ) :
    (((q * 512 + k) * (4 * a + r) : ℕ) : ℝ) * step
      = (k * (4 * a + r) : ℕ) * step + (q * r : ℕ) * (π / 2) + (q * a : ℕ) * (2 * π) := by
  unfold step; push_cast; ring

/-- The cosine after a number of quarter turns and whole turns. -/
theorem cos_quarter (q r a k : ℕ) :
    cos ((((q * 512 + k) * (4 * a + r) : ℕ) : ℝ) * step)
      = cos ((k * (4 * a + r) : ℕ) * step + (q * r : ℕ) * (π / 2)) := by
  rw [phase_quarter, cos_add_nat_mul_two_pi]

/-- The sine after a number of quarter turns and whole turns. -/
theorem sin_quarter (q r a k : ℕ) :
    sin ((((q * 512 + k) * (4 * a + r) : ℕ) : ℝ) * step)
      = sin ((k * (4 * a + r) : ℕ) * step + (q * r : ℕ) * (π / 2)) := by
  rw [phase_quarter, sin_add_nat_mul_two_pi]

/-- A quarter turn of the cosine. -/
theorem cos_q1 (x : ℝ) : cos (x + π / 2) = - sin x := cos_add_pi_div_two x
/-- Half a turn of the cosine. -/
theorem cos_q2 (x : ℝ) : cos (x + 2 * (π / 2)) = - cos x := by
  rw [show x + 2 * (π / 2) = x + π by ring, cos_add_pi]
/-- Three quarter turns of the cosine. -/
theorem cos_q3 (x : ℝ) : cos (x + 3 * (π / 2)) = sin x := by
  rw [show x + 3 * (π / 2) = (x + π / 2) + π by ring, cos_add_pi, cos_add_pi_div_two, neg_neg]
/-- A quarter turn of the sine. -/
theorem sin_q1 (x : ℝ) : sin (x + π / 2) = cos x := sin_add_pi_div_two x
/-- Half a turn of the sine. -/
theorem sin_q2 (x : ℝ) : sin (x + 2 * (π / 2)) = - sin x := by
  rw [show x + 2 * (π / 2) = x + π by ring, sin_add_pi]
/-- Three quarter turns of the sine. -/
theorem sin_q3 (x : ℝ) : sin (x + 3 * (π / 2)) = - cos x := by
  rw [show x + 3 * (π / 2) = (x + π / 2) + π by ring, sin_add_pi, sin_add_pi_div_two]

/-- The cosine at row `q * 512 + k`, position `4 a + r`, from the cosine and sine of row `k`, for each of the four
    row blocks and residues. -/
theorem cos_row (q r : Fin 4) (a k : ℕ) :
    cos ((((q.val * 512 + k) * (4 * a + r.val) : ℕ) : ℝ) * step)
      = (![![1, 1, 1, 1], ![1, 0, -1, 0], ![1, -1, 1, -1], ![1, 0, -1, 0]] q r : ℝ) * cos ((k * (4 * a + r.val) : ℕ) * step)
        + (![![0, 0, 0, 0], ![0, -1, 0, 1], ![0, 0, 0, 0], ![0, 1, 0, -1]] q r : ℝ) * sin ((k * (4 * a + r.val) : ℕ) * step) := by
  rw [cos_quarter]
  generalize hx : ((k * (4 * a + r.val) : ℕ) : ℝ) * step = x
  clear hx
  have e4 : x + 4 * (π / 2) = x + 2 * π := by ring
  have e6 : x + 6 * (π / 2) = (x + 2 * (π / 2)) + 2 * π := by ring
  have e9 : x + 9 * (π / 2) = (x + π / 2) + 2 * π + 2 * π := by ring
  fin_cases q <;> fin_cases r <;> simp [cos_q1, cos_q2, cos_q3, e4, e6, e9]

/-- The sine at row `q * 512 + k`, position `4 a + r`, likewise. -/
theorem sin_row (q r : Fin 4) (a k : ℕ) :
    sin ((((q.val * 512 + k) * (4 * a + r.val) : ℕ) : ℝ) * step)
      = (![![1, 1, 1, 1], ![1, 0, -1, 0], ![1, -1, 1, -1], ![1, 0, -1, 0]] q r : ℝ) * sin ((k * (4 * a + r.val) : ℕ) * step)
        + (![![0, 0, 0, 0], ![0, 1, 0, -1], ![0, 0, 0, 0], ![0, -1, 0, 1]] q r : ℝ) * cos ((k * (4 * a + r.val) : ℕ) * step) := by
  rw [sin_quarter]
  generalize hx : ((k * (4 * a + r.val) : ℕ) : ℝ) * step = x
  clear hx
  have e4 : x + 4 * (π / 2) = x + 2 * π := by ring
  have e6 : x + 6 * (π / 2) = (x + 2 * (π / 2)) + 2 * π := by ring
  have e9 : x + 9 * (π / 2) = (x + π / 2) + 2 * π + 2 * π := by ring
  fin_cases q <;> fin_cases r <;> simp [sin_q1, sin_q2, sin_q3, e4, e6, e9]

end Cert.Mixer
-- ==== Proof.Mixer.Words.lean ====
/- The words and constants of the mixers' tables: the remainder of a phase, the products that make a phase, the step of
   the angles and the scale, each as a real number. -/
module

public import proofs.«01_k».proof.Proof.Mixer.Trig
public import Idealize.ShloMosaic.Lib.Routing.Words
public import Idealize.ShloMosaic.Lib.WordCmp
public import Idealize.ShloMosaic.Lib.IdealHost
public import Idealize.ShloMosaic.Lib.Pointwise

@[expose] public section

namespace Cert.Mixer

open Real Idealize.ShloMosaic

/-- The scale of both transforms' halves: one over the square root of the length. -/
noncomputable def scale : ℝ := 1 / √2048

/-- A constant vector of words holds its word everywhere. -/
theorem const_at (s : Shape) (v : BitVec 32) (i : s.Idx) : constantI s 32 v i = v := rfl

/-- The divisor that a remainder by 2048 is taken by: the length itself. -/
theorem divisor_word : Scalar.select (IntOp.cmpi CmpIPredicate.eq (2048#32) 0#32) (1#32) (2048#32) = 2048#32 := by
  decide

/-- A sign-corrected remainder by 2048 of a small natural's word is the natural's remainder. -/
theorem mod_word (a : ℕ) (ha : a < 2 ^ 31) :
    Scalar.select
      (IntOp.andi
        (IntOp.cmpi CmpIPredicate.ne
          (IntOp.cmpi CmpIPredicate.slt (IntOp.remsi ArithUnit.host (BitVec.ofNat 32 a) (2048#32)) 0#32)
          (IntOp.cmpi CmpIPredicate.slt (2048#32) 0#32))
        (IntOp.cmpi CmpIPredicate.ne (IntOp.remsi ArithUnit.host (BitVec.ofNat 32 a) (2048#32)) 0#32))
      (IntOp.addi (IntOp.remsi ArithUnit.host (BitVec.ofNat 32 a) (2048#32)) (2048#32))
      (IntOp.remsi ArithUnit.host (BitVec.ofNat 32 a) (2048#32)) = BitVec.ofNat 32 (a % 2048) := by
  have h := Routing.remsi_word .host ha (b := 2048) (by norm_num) (by norm_num)
  have e : IntOp.remsi ArithUnit.host (BitVec.ofNat 32 a) (2048#32) = BitVec.ofNat 32 (a % 2048) := h
  rw [e]
  have h1 : IntOp.cmpi CmpIPredicate.slt (BitVec.ofNat 32 (a % 2048)) 0#32 = 0#1 := by
    rw [WordCmp.cmpi_slt_ofNat (by omega) (by norm_num)]
    simp
  have h2 : IntOp.cmpi CmpIPredicate.slt (2048#32) 0#32 = 0#1 := by decide
  rw [h1, h2]
  have h3 : IntOp.cmpi CmpIPredicate.ne (0#1) (0#1) = 0#1 := by decide
  rw [h3]
  show Scalar.select (0#1 &&& _) _ _ = _
  rw [BitVec.zero_and]
  rfl

/-- The word of a phase from a fine row. -/
theorem fine_word (k n r : ℕ) :
    IntOp.muli (BitVec.ofNat 32 k) (IntOp.addi (IntOp.muli (4#32) (BitVec.ofNat 32 n)) (BitVec.ofNat 32 r))
      = BitVec.ofNat 32 (k * (4 * n + r)) := by
  show BitVec.ofNat 32 k * (BitVec.ofNat 32 4 * BitVec.ofNat 32 n + BitVec.ofNat 32 r) = _
  rw [BitVec.ofNat_mul, BitVec.ofNat_add, BitVec.ofNat_mul]

/-- The word of a phase from a coarse row. -/
theorem coarse_word (k n r : ℕ) :
    IntOp.muli (IntOp.muli (BitVec.ofNat 32 k) (32#32))
        (IntOp.addi (IntOp.muli (4#32) (BitVec.ofNat 32 n)) (BitVec.ofNat 32 r))
      = BitVec.ofNat 32 (k * 32 * (4 * n + r)) := by
  show BitVec.ofNat 32 k * BitVec.ofNat 32 32 * (BitVec.ofNat 32 4 * BitVec.ofNat 32 n + BitVec.ofNat 32 r) = _
  rw [BitVec.ofNat_mul, BitVec.ofNat_mul, BitVec.ofNat_add, BitVec.ofNat_mul]

/-- A small natural's word, converted to a float, is the natural. -/
theorem sitofp_word (a : ℕ) (ha : a < 2 ^ 31) :
    (FloatOps.sitofp FTy.f32 (BitVec.ofNat 32 a) : Ideal .f32) = (((a : ℕ) : ℝ) : EReal) := by
  show (((BitVec.ofNat 32 a).toInt : ℝ) : EReal) = _
  rw [BitVec.toInt_eq_toNat_of_lt (by rw [BitVec.toNat_ofNat]; omega), BitVec.toNat_ofNat, Nat.mod_eq_of_lt (by omega)]
  norm_num

/-- The word of −1.0 denotes minus one. -/
theorem ofBits_neg_one : Ideal.ofBits FTy.f32 3212836864#32 = ((-1 : ℝ) : EReal) := by
  simp [Ideal.ofBits, Ideal.ieee, -EReal.coe_mul, -EReal.coe_neg]; norm_num

/-- The word of 2.0 denotes two. -/
theorem ofBits_two : Ideal.ofBits FTy.f32 1073741824#32 = ((2 : ℝ) : EReal) := by
  simp [Ideal.ofBits, Ideal.ieee, -EReal.coe_mul]; norm_num

/-- The word of 2048.0 denotes 2048. -/
theorem ofBits_length : Ideal.ofBits FTy.f32 1157627904#32 = ((2048 : ℝ) : EReal) := by
  simp [Ideal.ofBits, Ideal.ieee, -EReal.coe_mul]; norm_num

/-- Twice the arc cosine of −1 over the length is the step of the angles. -/
theorem step_word :
    Ideal.div (Ideal.ofBits FTy.f32 1073741824#32 * Ideal.acos (Ideal.ofBits FTy.f32 3212836864#32))
      (Ideal.ofBits FTy.f32 1157627904#32) = ((step : ℝ) : EReal) := by
  rw [ofBits_neg_one, ofBits_two, ofBits_length, Ideal.acos_coe, if_pos (by norm_num), Real.arccos_neg_one,
    Ideal.div_coe (by norm_num), ← EReal.coe_mul, ← EReal.coe_mul]
  congr 1; unfold step; ring

/-- One over the square root of the length is the scale. -/
theorem scale_word : Ideal.div 1 (Ideal.sqrt (Ideal.ofBits FTy.f32 1157627904#32)) = ((scale : ℝ) : EReal) := by
  rw [ofBits_length, Ideal.sqrt_coe, if_neg (by norm_num), Ideal.div_coe (by positivity), one_mul]
  rfl

/-- The cosine of a reduced phase is the cosine of the phase. -/
theorem cos_phase (a : ℕ) (ha : a < 2 ^ 31) :
    Ideal.cos ((FloatOps.sitofp FTy.f32 (BitVec.ofNat 32 (a % 2048)) : Ideal .f32) * ((step : ℝ) : EReal))
      = ((cos (a * step) : ℝ) : EReal) := by
  rw [sitofp_word _ (by omega), ← EReal.coe_mul, Ideal.cos_coe, cos_mod]

/-- The sine of a reduced phase is the sine of the phase. -/
theorem sin_phase (a : ℕ) (ha : a < 2 ^ 31) :
    Ideal.sin ((FloatOps.sitofp FTy.f32 (BitVec.ofNat 32 (a % 2048)) : Ideal .f32) * ((step : ℝ) : EReal))
      = ((sin (a * step) : ℝ) : EReal) := by
  rw [sitofp_word _ (by omega), ← EReal.coe_mul, Ideal.sin_coe, sin_mod]

/-- The cosine of an unreduced phase. -/
theorem cos_whole (a : ℕ) (ha : a < 2 ^ 31) :
    Ideal.cos ((FloatOps.sitofp FTy.f32 (BitVec.ofNat 32 a) : Ideal .f32) * ((step : ℝ) : EReal))
      = ((cos (a * step) : ℝ) : EReal) := by
  rw [sitofp_word _ ha, ← EReal.coe_mul, Ideal.cos_coe]

/-- The sine of an unreduced phase. -/
theorem sin_whole (a : ℕ) (ha : a < 2 ^ 31) :
    Ideal.sin ((FloatOps.sitofp FTy.f32 (BitVec.ofNat 32 a) : Ideal .f32) * ((step : ℝ) : EReal))
      = ((sin (a * step) : ℝ) : EReal) := by
  rw [sitofp_word _ ha, ← EReal.coe_mul, Ideal.sin_coe]

end Cert.Mixer
-- ==== Proof.Mixer.Trig0.lean ====
/- The host's tables of the position transform, residues 0 and 1: the cosine and the sine of a phase, times the scale. -/
module

public import proofs.«01_k».proof.Proof.Mixer.SeqmixIdeal.Runs
public import proofs.«01_k».proof.Proof.Mixer.Words
public import Idealize.ShloMosaic.Lib.StableHlo.ReadAt
public import Idealize.ShloMosaic.Lib.Pointwise

@[expose] public section

set_option maxRecDepth 16384

noncomputable section

namespace Cert.Mixer

open Real Cert.SeqmixIdeal Cert.SeqmixIdeal.Gen Idealize.ShloMosaic Idealize.ShloMosaic.TcCoe Idealize.SL.Sem

variable (m : (ℓ : Loc nD τ sig) → Buf (Elt Ideal) ℓ)

set_option maxHeartbeats 2000000 in
/-- The cosine table of residue 0. -/
theorem cos_table_0 (c : Dev nD) (k n : Fin 512) :
    V m c main_v265 (ix3 (0 : Fin 8) k n)
      = ((cos ((k.val * (4 * n.val + 0) : ℕ) * step) * scale : ℝ) : EReal) := by
  have hk := k.isLt
  have hn := n.isLt
  have b1 : k.val / 32 * 32 * (4 * n.val + 0) < 2 ^ 31 :=
    lt_of_le_of_lt (Nat.mul_le_mul (show k.val / 32 * 32 ≤ 512 by omega) (show 4 * n.val + 0 ≤ 2048 by omega)) (by norm_num)
  have b2 : k.val % 32 * (4 * n.val + 0) < 2 ^ 31 :=
    lt_of_le_of_lt (Nat.mul_le_mul (show k.val % 32 ≤ 32 by omega) (show 4 * n.val + 0 ≤ 2048 by omega)) (by norm_num)
  unfold V
  simp only [List.flatten_cons, List.flatten_nil, List.append_assoc]
  after_reads_at
  after_reads_at
  simp only [id_eq, const_at, divisor_word, fine_word, coarse_word, mod_word _ b1, mod_word _ b2, step_word, scale_word,
    cos_phase _ b1, cos_phase _ b2, sin_phase _ b1, sin_phase _ b2]
  simp only [← EReal.coe_mul, ← EReal.coe_sub, ← EReal.coe_add, Nat.add_zero]
  have e := cos_split k.val (4 * n.val + 0) scale
  simp only [cos_mod, sin_mod, Nat.add_zero] at e
  rw [← e]

set_option maxHeartbeats 2000000 in
/-- The sine table of residue 0. -/
theorem sin_table_0 (c : Dev nD) (k n : Fin 512) :
    V m c main_v265 (ix3 (1 : Fin 8) k n)
      = ((sin ((k.val * (4 * n.val + 0) : ℕ) * step) * scale : ℝ) : EReal) := by
  have hk := k.isLt
  have hn := n.isLt
  have b1 : k.val / 32 * 32 * (4 * n.val + 0) < 2 ^ 31 :=
    lt_of_le_of_lt (Nat.mul_le_mul (show k.val / 32 * 32 ≤ 512 by omega) (show 4 * n.val + 0 ≤ 2048 by omega)) (by norm_num)
  have b2 : k.val % 32 * (4 * n.val + 0) < 2 ^ 31 :=
    lt_of_le_of_lt (Nat.mul_le_mul (show k.val % 32 ≤ 32 by omega) (show 4 * n.val + 0 ≤ 2048 by omega)) (by norm_num)
  unfold V
  simp only [List.flatten_cons, List.flatten_nil, List.append_assoc]
  after_reads_at
  after_reads_at
  simp only [id_eq, const_at, divisor_word, fine_word, coarse_word, mod_word _ b1, mod_word _ b2, step_word, scale_word,
    cos_phase _ b1, cos_phase _ b2, sin_phase _ b1, sin_phase _ b2]
  simp only [← EReal.coe_mul, ← EReal.coe_sub, ← EReal.coe_add, Nat.add_zero]
  have e := sin_split k.val (4 * n.val + 0) scale
  simp only [cos_mod, sin_mod, Nat.add_zero] at e
  rw [← e]

set_option maxHeartbeats 2000000 in
/-- The cosine table of residue 1. -/
theorem cos_table_1 (c : Dev nD) (k n : Fin 512) :
    V m c main_v265 (ix3 (2 : Fin 8) k n)
      = ((cos ((k.val * (4 * n.val + 1) : ℕ) * step) * scale : ℝ) : EReal) := by
  have hk := k.isLt
  have hn := n.isLt
  have b1 : k.val / 32 * 32 * (4 * n.val + 1) < 2 ^ 31 :=
    lt_of_le_of_lt (Nat.mul_le_mul (show k.val / 32 * 32 ≤ 512 by omega) (show 4 * n.val + 1 ≤ 2048 by omega)) (by norm_num)
  have b2 : k.val % 32 * (4 * n.val + 1) < 2 ^ 31 :=
    lt_of_le_of_lt (Nat.mul_le_mul (show k.val % 32 ≤ 32 by omega) (show 4 * n.val + 1 ≤ 2048 by omega)) (by norm_num)
  unfold V
  simp only [List.flatten_cons, List.flatten_nil, List.append_assoc]
  after_reads_at
  after_reads_at
  simp only [id_eq, const_at, divisor_word, fine_word, coarse_word, mod_word _ b1, mod_word _ b2, step_word, scale_word,
    cos_phase _ b1, cos_phase _ b2, sin_phase _ b1, sin_phase _ b2]
  simp only [← EReal.coe_mul, ← EReal.coe_sub, ← EReal.coe_add, Nat.add_zero]
  have e := cos_split k.val (4 * n.val + 1) scale
  simp only [cos_mod, sin_mod, Nat.add_zero] at e
  rw [← e]

set_option maxHeartbeats 2000000 in
/-- The sine table of residue 1. -/
theorem sin_table_1 (c : Dev nD) (k n : Fin 512) :
    V m c main_v265 (ix3 (3 : Fin 8) k n)
      = ((sin ((k.val * (4 * n.val + 1) : ℕ) * step) * scale : ℝ) : EReal) := by
  have hk := k.isLt
  have hn := n.isLt
  have b1 : k.val / 32 * 32 * (4 * n.val + 1) < 2 ^ 31 :=
    lt_of_le_of_lt (Nat.mul_le_mul (show k.val / 32 * 32 ≤ 512 by omega) (show 4 * n.val + 1 ≤ 2048 by omega)) (by norm_num)
  have b2 : k.val % 32 * (4 * n.val + 1) < 2 ^ 31 :=
    lt_of_le_of_lt (Nat.mul_le_mul (show k.val % 32 ≤ 32 by omega) (show 4 * n.val + 1 ≤ 2048 by omega)) (by norm_num)
  unfold V
  simp only [List.flatten_cons, List.flatten_nil, List.append_assoc]
  after_reads_at
  after_reads_at
  simp only [id_eq, const_at, divisor_word, fine_word, coarse_word, mod_word _ b1, mod_word _ b2, step_word, scale_word,
    cos_phase _ b1, cos_phase _ b2, sin_phase _ b1, sin_phase _ b2]
  simp only [← EReal.coe_mul, ← EReal.coe_sub, ← EReal.coe_add, Nat.add_zero]
  have e := sin_split k.val (4 * n.val + 1) scale
  simp only [cos_mod, sin_mod, Nat.add_zero] at e
  rw [← e]

end Cert.Mixer

end
-- ==== Proof.Mixer.Trig2.lean ====
/- The host's tables of the position transform, residues 2 and 3: the cosine and the sine of a phase, times the scale. -/
module

public import proofs.«01_k».proof.Proof.Mixer.SeqmixIdeal.Runs
public import proofs.«01_k».proof.Proof.Mixer.Words
public import Idealize.ShloMosaic.Lib.StableHlo.ReadAt
public import Idealize.ShloMosaic.Lib.Pointwise

@[expose] public section

set_option maxRecDepth 16384

noncomputable section

namespace Cert.Mixer

open Real Cert.SeqmixIdeal Cert.SeqmixIdeal.Gen Idealize.ShloMosaic Idealize.ShloMosaic.TcCoe Idealize.SL.Sem

variable (m : (ℓ : Loc nD τ sig) → Buf (Elt Ideal) ℓ)

set_option maxHeartbeats 2000000 in
/-- The cosine table of residue 2. -/
theorem cos_table_2 (c : Dev nD) (k n : Fin 512) :
    V m c main_v265 (ix3 (4 : Fin 8) k n)
      = ((cos ((k.val * (4 * n.val + 2) : ℕ) * step) * scale : ℝ) : EReal) := by
  have hk := k.isLt
  have hn := n.isLt
  have b1 : k.val / 32 * 32 * (4 * n.val + 2) < 2 ^ 31 :=
    lt_of_le_of_lt (Nat.mul_le_mul (show k.val / 32 * 32 ≤ 512 by omega) (show 4 * n.val + 2 ≤ 2048 by omega)) (by norm_num)
  have b2 : k.val % 32 * (4 * n.val + 2) < 2 ^ 31 :=
    lt_of_le_of_lt (Nat.mul_le_mul (show k.val % 32 ≤ 32 by omega) (show 4 * n.val + 2 ≤ 2048 by omega)) (by norm_num)
  unfold V
  simp only [List.flatten_cons, List.flatten_nil, List.append_assoc]
  after_reads_at
  after_reads_at
  simp only [id_eq, const_at, divisor_word, fine_word, coarse_word, mod_word _ b1, mod_word _ b2, step_word, scale_word,
    cos_phase _ b1, cos_phase _ b2, sin_phase _ b1, sin_phase _ b2]
  simp only [← EReal.coe_mul, ← EReal.coe_sub, ← EReal.coe_add, Nat.add_zero]
  have e := cos_split k.val (4 * n.val + 2) scale
  simp only [cos_mod, sin_mod, Nat.add_zero] at e
  rw [← e]

set_option maxHeartbeats 2000000 in
/-- The sine table of residue 2. -/
theorem sin_table_2 (c : Dev nD) (k n : Fin 512) :
    V m c main_v265 (ix3 (5 : Fin 8) k n)
      = ((sin ((k.val * (4 * n.val + 2) : ℕ) * step) * scale : ℝ) : EReal) := by
  have hk := k.isLt
  have hn := n.isLt
  have b1 : k.val / 32 * 32 * (4 * n.val + 2) < 2 ^ 31 :=
    lt_of_le_of_lt (Nat.mul_le_mul (show k.val / 32 * 32 ≤ 512 by omega) (show 4 * n.val + 2 ≤ 2048 by omega)) (by norm_num)
  have b2 : k.val % 32 * (4 * n.val + 2) < 2 ^ 31 :=
    lt_of_le_of_lt (Nat.mul_le_mul (show k.val % 32 ≤ 32 by omega) (show 4 * n.val + 2 ≤ 2048 by omega)) (by norm_num)
  unfold V
  simp only [List.flatten_cons, List.flatten_nil, List.append_assoc]
  after_reads_at
  after_reads_at
  simp only [id_eq, const_at, divisor_word, fine_word, coarse_word, mod_word _ b1, mod_word _ b2, step_word, scale_word,
    cos_phase _ b1, cos_phase _ b2, sin_phase _ b1, sin_phase _ b2]
  simp only [← EReal.coe_mul, ← EReal.coe_sub, ← EReal.coe_add, Nat.add_zero]
  have e := sin_split k.val (4 * n.val + 2) scale
  simp only [cos_mod, sin_mod, Nat.add_zero] at e
  rw [← e]

set_option maxHeartbeats 2000000 in
/-- The cosine table of residue 3. -/
theorem cos_table_3 (c : Dev nD) (k n : Fin 512) :
    V m c main_v265 (ix3 (6 : Fin 8) k n)
      = ((cos ((k.val * (4 * n.val + 3) : ℕ) * step) * scale : ℝ) : EReal) := by
  have hk := k.isLt
  have hn := n.isLt
  have b1 : k.val / 32 * 32 * (4 * n.val + 3) < 2 ^ 31 :=
    lt_of_le_of_lt (Nat.mul_le_mul (show k.val / 32 * 32 ≤ 512 by omega) (show 4 * n.val + 3 ≤ 2048 by omega)) (by norm_num)
  have b2 : k.val % 32 * (4 * n.val + 3) < 2 ^ 31 :=
    lt_of_le_of_lt (Nat.mul_le_mul (show k.val % 32 ≤ 32 by omega) (show 4 * n.val + 3 ≤ 2048 by omega)) (by norm_num)
  unfold V
  simp only [List.flatten_cons, List.flatten_nil, List.append_assoc]
  after_reads_at
  after_reads_at
  simp only [id_eq, const_at, divisor_word, fine_word, coarse_word, mod_word _ b1, mod_word _ b2, step_word, scale_word,
    cos_phase _ b1, cos_phase _ b2, sin_phase _ b1, sin_phase _ b2]
  simp only [← EReal.coe_mul, ← EReal.coe_sub, ← EReal.coe_add, Nat.add_zero]
  have e := cos_split k.val (4 * n.val + 3) scale
  simp only [cos_mod, sin_mod, Nat.add_zero] at e
  rw [← e]

set_option maxHeartbeats 2000000 in
/-- The sine table of residue 3. -/
theorem sin_table_3 (c : Dev nD) (k n : Fin 512) :
    V m c main_v265 (ix3 (7 : Fin 8) k n)
      = ((sin ((k.val * (4 * n.val + 3) : ℕ) * step) * scale : ℝ) : EReal) := by
  have hk := k.isLt
  have hn := n.isLt
  have b1 : k.val / 32 * 32 * (4 * n.val + 3) < 2 ^ 31 :=
    lt_of_le_of_lt (Nat.mul_le_mul (show k.val / 32 * 32 ≤ 512 by omega) (show 4 * n.val + 3 ≤ 2048 by omega)) (by norm_num)
  have b2 : k.val % 32 * (4 * n.val + 3) < 2 ^ 31 :=
    lt_of_le_of_lt (Nat.mul_le_mul (show k.val % 32 ≤ 32 by omega) (show 4 * n.val + 3 ≤ 2048 by omega)) (by norm_num)
  unfold V
  simp only [List.flatten_cons, List.flatten_nil, List.append_assoc]
  after_reads_at
  after_reads_at
  simp only [id_eq, const_at, divisor_word, fine_word, coarse_word, mod_word _ b1, mod_word _ b2, step_word, scale_word,
    cos_phase _ b1, cos_phase _ b2, sin_phase _ b1, sin_phase _ b2]
  simp only [← EReal.coe_mul, ← EReal.coe_sub, ← EReal.coe_add, Nat.add_zero]
  have e := sin_split k.val (4 * n.val + 3) scale
  simp only [cos_mod, sin_mod, Nat.add_zero] at e
  rw [← e]

end Cert.Mixer

end
-- ==== Proof.Mixer.PoolMath.lean ====
/- The pooling mixer over the reals: a row of the band matrix, summed against the tokens, is the mean over the window
   minus the token. -/
module

public import Mathlib.Algebra.BigOperators.Intervals
public import Idealize.ShloMosaic.PureOps.Ideal

@[expose] public section

namespace Cert.Mixer

open Finset

/-- The weight that row `p` of the band matrix gives to position `k`: one over the window's length inside the window
    `[lo, hi)`, less one at `p` itself. -/
noncomputable def weight (p lo hi k : ℕ) : ℝ :=
  (if lo ≤ k ∧ k < hi then 1 / ((hi - lo : ℕ) : ℝ) else 0) - (if p = k then 1 else 0)

/-- The weighted sum over all positions is the difference of two prefix sums over the length, less the token. -/
theorem sum_weight (z : ℕ → ℝ) (p lo hi : ℕ) (hp : p < 2048) (hlo : lo ≤ hi) (hhi : hi ≤ 2048) :
    ∑ k ∈ range 2048, weight p lo hi k * z k
      = (∑ k ∈ range hi, z k - ∑ k ∈ range lo, z k) / ((hi - lo : ℕ) : ℝ) - z p := by
  have h1 : ∑ k ∈ range 2048, (if lo ≤ k ∧ k < hi then 1 / ((hi - lo : ℕ) : ℝ) else 0) * z k
      = (∑ k ∈ Ico lo hi, z k) / ((hi - lo : ℕ) : ℝ) := by
    rw [sum_div]
    rw [← sum_subset (s₁ := Ico lo hi) (fun k hk => by
      rw [mem_Ico] at hk; rw [mem_range]; omega)]
    · refine sum_congr rfl fun k hk => ?_
      rw [mem_Ico] at hk
      rw [if_pos hk]; ring
    · intro k _ hk
      rw [mem_Ico] at hk
      rw [if_neg hk, zero_mul]
  have h2 : ∑ k ∈ range 2048, (if p = k then (1:ℝ) else 0) * z k = z p := by
    rw [sum_eq_single p]
    · simp
    · intro b _ hb; rw [if_neg (Ne.symm hb), zero_mul]
    · intro h; exact absurd (mem_range.mpr hp) h
  simp only [weight, sub_mul, sum_sub_distrib, h1, h2]
  rw [sum_Ico_eq_sub _ hlo]

/-- A weighted sum over all positions needs only the positions `[off, off + n)` outside which the weight vanishes. -/
theorem sum_weight_band (z : ℕ → ℝ) (p lo hi off n : ℕ) (hn : off + n ≤ 2048) (h1 : off ≤ lo) (h2 : hi ≤ off + n)
    (h3 : off ≤ p) (h4 : p < off + n) :
    ∑ j ∈ range n, weight p lo hi (off + j) * z (off + j) = ∑ k ∈ range 2048, weight p lo hi k * z k := by
  have : ∑ j ∈ range n, weight p lo hi (off + j) * z (off + j)
      = ∑ k ∈ Ico off (off + n), weight p lo hi k * z k := by
    rw [sum_Ico_eq_sum_range]; simp
  rw [this]
  refine sum_subset (fun k hk => ?_) fun k _ hk => ?_
  · rw [mem_Ico] at hk; rw [mem_range]; omega
  · rw [mem_Ico] at hk
    have e1 : ¬(lo ≤ k ∧ k < hi) := by omega
    have e2 : ¬(p = k) := by omega
    simp [weight, e1, e2]

end Cert.Mixer
-- ==== Proof.Mixer.BandWords.lean ====
/- The words of the pooling bands: the row block of a position, the ends of its window, the position of a band's column;
   and the entry of a band as a real number. -/
module

public import proofs.«01_k».proof.Proof.Mixer.Words
public import proofs.«01_k».proof.Proof.Mixer.PoolMath

@[expose] public section

set_option maxRecDepth 16384

namespace Cert.Mixer

open Real Idealize.ShloMosaic

/-- The four half widths of the windows. -/
def half : Fin 4 → ℕ := ![1, 2, 4, 8]

/-- A position's row block, by the rounding division of its word. -/
theorem block_word : ∀ p : Fin 2048,
    Scalar.select
      (IntOp.andi
        (IntOp.cmpi CmpIPredicate.ne
          (if BitVec.ofNat 32 p.val = 0 then (0 : BitVec 32) else if (BitVec.ofNat 32 p.val).msb = true then -1 else 1)
          (if (256#32) = 0 then (0 : BitVec 32) else if BitVec.msb (256#32) = true then -1 else 1))
        (IntOp.cmpi CmpIPredicate.ne (IntOp.remsi ArithUnit.host (BitVec.ofNat 32 p.val) (256#32)) 0#32))
      (IntOp.subi (IntOp.divsi ArithUnit.host (BitVec.ofNat 32 p.val) (256#32)) 1#32)
      (IntOp.divsi ArithUnit.host (BitVec.ofNat 32 p.val) (256#32)) = BitVec.ofNat 32 (p.val / 256) := by
  decide +kernel

/-- A window's first position. -/
theorem lo_word : ∀ g : Fin 4, ∀ p : Fin 2048,
    IntOp.minsi (2048#32) (IntOp.maxsi (0#32) (IntOp.subi (BitVec.ofNat 32 p.val) (BitVec.ofNat 32 (half g))))
      = BitVec.ofNat 32 (p.val - half g) := by
  decide +kernel

/-- The position after a window's last. -/
theorem hi_word : ∀ g : Fin 4, ∀ p : Fin 2048,
    IntOp.minsi (2048#32) (IntOp.maxsi (0#32) (IntOp.addi (BitVec.ofNat 32 p.val) (BitVec.ofNat 32 (half g))))
      = BitVec.ofNat 32 (min (p.val + half g) 2048) := by
  decide +kernel

/-- The position that a band's column stands for. -/
theorem column_word (q j : ℕ) (h : 128 ≤ q * 256 + j) :
    IntOp.addi (IntOp.subi (IntOp.muli (BitVec.ofNat 32 q) (256#32)) (128#32)) (BitVec.ofNat 32 j)
      = BitVec.ofNat 32 (q * 256 + j - 128) := by
  show BitVec.ofNat 32 q * BitVec.ofNat 32 256 - BitVec.ofNat 32 128 + BitVec.ofNat 32 j = _
  rw [← BitVec.ofNat_mul]
  have h2 : BitVec.ofNat 32 (q * 256 + j - 128) + BitVec.ofNat 32 128 = BitVec.ofNat 32 (q * 256) + BitVec.ofNat 32 j := by
    rw [← BitVec.ofNat_add, ← BitVec.ofNat_add]; congr 1; omega
  have h3 : BitVec.ofNat 32 (q * 256) = BitVec.ofNat 32 (q * 256 + j - 128) + BitVec.ofNat 32 128 - BitVec.ofNat 32 j := by
    rw [h2, BitVec.add_sub_cancel]
  rw [h3, BitVec.sub_eq_add_neg, BitVec.sub_eq_add_neg]
  generalize BitVec.ofNat 32 (q * 256 + j - 128) = a
  generalize BitVec.ofNat 32 128 = b
  generalize BitVec.ofNat 32 j = c
  ac_nf
  simp [← BitVec.add_assoc, BitVec.add_comm b (-b), BitVec.add_left_neg]

/-- A window's length as a word. -/
theorem length_word (lo hi : ℕ) (h : lo ≤ hi) :
    IntOp.subi (BitVec.ofNat 32 hi) (BitVec.ofNat 32 lo) = BitVec.ofNat 32 (hi - lo) := by
  show BitVec.ofNat 32 hi - BitVec.ofNat 32 lo = _
  rw [show BitVec.ofNat 32 hi = BitVec.ofNat 32 (hi - lo) + BitVec.ofNat 32 lo by
    rw [← BitVec.ofNat_add, Nat.sub_add_cancel h], BitVec.add_sub_cancel]

/-- One entry of a band, off the words of its window's ends and of its column: the weight of that position. -/
theorem band_entry (p lo hi k : ℕ) (hp : p < 2048) (hk : k < 4096) (h : lo < hi) (hhi : hi ≤ 2048) :
    Scalar.select
        (IntOp.andi (IntOp.cmpi CmpIPredicate.sge (BitVec.ofNat 32 k) (BitVec.ofNat 32 lo))
          (IntOp.cmpi CmpIPredicate.slt (BitVec.ofNat 32 k) (BitVec.ofNat 32 hi)))
        (Ideal.div 1 (FloatOps.sitofp FTy.f32 (BitVec.ofNat 32 (hi - lo)) : Ideal .f32)) (0 : EReal)
      - Scalar.select (IntOp.cmpi CmpIPredicate.eq (BitVec.ofNat 32 p) (BitVec.ofNat 32 k)) (1 : EReal) 0
      = ((weight p lo hi k : ℝ) : EReal) := by
  rw [WordCmp.cmpi_sge_ofNat (by omega) (by omega), WordCmp.cmpi_slt_ofNat (by omega) (by omega),
    WordCmp.cmpi_eq_ofNat (by omega) (by omega), sitofp_word _ (by omega),
    Ideal.div_coe (by have : 0 < hi - lo := by omega
                      exact_mod_cast this.ne')]
  unfold weight
  rw [EReal.coe_sub]
  by_cases h1 : lo ≤ k <;> by_cases h2 : k < hi <;> by_cases h3 : p = k <;>
    simp [h1, h2, h3, Scalar.select, IntOp.andi]

end Cert.Mixer
-- ==== Proof.Mixer.Band.lean ====
/- The host's pooling bands: at each position of a row block, the weights of the positions from 128 before the block on. -/
module

public import proofs.«01_k».proof.Proof.Mixer.SeqmixIdeal.Runs
public import proofs.«01_k».proof.Proof.Mixer.BandWords
public import Idealize.ShloMosaic.Lib.StableHlo.ReadAt
public import Idealize.ShloMosaic.Lib.Pointwise

@[expose] public section

set_option maxRecDepth 16384

noncomputable section

namespace Cert.Mixer

open Real Cert.SeqmixIdeal Cert.SeqmixIdeal.Gen Idealize.ShloMosaic Idealize.ShloMosaic.TcCoe Idealize.SL.Sem

variable (m : (ℓ : Loc nD τ sig) → Buf (Elt Ideal) ℓ)

set_option maxHeartbeats 2000000 in
/-- The band of group 0, at a column that stands for a position of the sequence. -/
theorem band_table_0 (c : Dev nD) (p : Fin 2048) (j : Fin 512) (h : 128 ≤ p.val / 256 * 256 + j.val) :
    V m c main_v370 (ix3 (0 : Fin 4) p j)
      = ((weight p.val (p.val - 1) (min (p.val + 1) 2048) (p.val / 256 * 256 + j.val - 128) : ℝ) : EReal) := by
  have hp := p.isLt
  have hj := j.isLt
  have e1 := lo_word 0 p
  have e2 := hi_word 0 p
  simp only [show half 0 = 1 from rfl] at e1 e2
  unfold V
  simp only [List.flatten_cons, List.flatten_nil, List.append_assoc]
  after_reads_at
  after_reads_at
  simp only [id_eq]
  pointwise
  try simp only [const_at]
  have hb := block_word p
  simp only [show ((256#32 : BitVec 32) = 0) = False from eq_false (by decide),
    show (BitVec.msb (256#32 : BitVec 32) = true) = False from eq_false (by decide), reduceIte, if_false, ite_cond_eq_false] at hb ⊢
  simp only [hb, e1, e2, column_word _ _ h]
  rw [length_word (p.val - 1) (min (p.val + 1) 2048) (by omega)]
  exact band_entry p.val (p.val - 1) (min (p.val + 1) 2048) (p.val / 256 * 256 + j.val - 128) hp (by omega) (by omega) (by omega)

set_option maxHeartbeats 2000000 in
/-- The band of group 1, at a column that stands for a position of the sequence. -/
theorem band_table_1 (c : Dev nD) (p : Fin 2048) (j : Fin 512) (h : 128 ≤ p.val / 256 * 256 + j.val) :
    V m c main_v370 (ix3 (1 : Fin 4) p j)
      = ((weight p.val (p.val - 2) (min (p.val + 2) 2048) (p.val / 256 * 256 + j.val - 128) : ℝ) : EReal) := by
  have hp := p.isLt
  have hj := j.isLt
  have e1 := lo_word 1 p
  have e2 := hi_word 1 p
  simp only [show half 1 = 2 from rfl] at e1 e2
  unfold V
  simp only [List.flatten_cons, List.flatten_nil, List.append_assoc]
  after_reads_at
  after_reads_at
  simp only [id_eq]
  pointwise
  try simp only [const_at]
  have hb := block_word p
  simp only [show ((256#32 : BitVec 32) = 0) = False from eq_false (by decide),
    show (BitVec.msb (256#32 : BitVec 32) = true) = False from eq_false (by decide), reduceIte, if_false, ite_cond_eq_false] at hb ⊢
  simp only [hb, e1, e2, column_word _ _ h]
  rw [length_word (p.val - 2) (min (p.val + 2) 2048) (by omega)]
  exact band_entry p.val (p.val - 2) (min (p.val + 2) 2048) (p.val / 256 * 256 + j.val - 128) hp (by omega) (by omega) (by omega)

set_option maxHeartbeats 2000000 in
/-- The band of group 2, at a column that stands for a position of the sequence. -/
theorem band_table_2 (c : Dev nD) (p : Fin 2048) (j : Fin 512) (h : 128 ≤ p.val / 256 * 256 + j.val) :
    V m c main_v370 (ix3 (2 : Fin 4) p j)
      = ((weight p.val (p.val - 4) (min (p.val + 4) 2048) (p.val / 256 * 256 + j.val - 128) : ℝ) : EReal) := by
  have hp := p.isLt
  have hj := j.isLt
  have e1 := lo_word 2 p
  have e2 := hi_word 2 p
  simp only [show half 2 = 4 from rfl] at e1 e2
  unfold V
  simp only [List.flatten_cons, List.flatten_nil, List.append_assoc]
  after_reads_at
  after_reads_at
  simp only [id_eq]
  pointwise
  try simp only [const_at]
  have hb := block_word p
  simp only [show ((256#32 : BitVec 32) = 0) = False from eq_false (by decide),
    show (BitVec.msb (256#32 : BitVec 32) = true) = False from eq_false (by decide), reduceIte, if_false, ite_cond_eq_false] at hb ⊢
  simp only [hb, e1, e2, column_word _ _ h]
  rw [length_word (p.val - 4) (min (p.val + 4) 2048) (by omega)]
  exact band_entry p.val (p.val - 4) (min (p.val + 4) 2048) (p.val / 256 * 256 + j.val - 128) hp (by omega) (by omega) (by omega)

set_option maxHeartbeats 2000000 in
/-- The band of group 3, at a column that stands for a position of the sequence. -/
theorem band_table_3 (c : Dev nD) (p : Fin 2048) (j : Fin 512) (h : 128 ≤ p.val / 256 * 256 + j.val) :
    V m c main_v370 (ix3 (3 : Fin 4) p j)
      = ((weight p.val (p.val - 8) (min (p.val + 8) 2048) (p.val / 256 * 256 + j.val - 128) : ℝ) : EReal) := by
  have hp := p.isLt
  have hj := j.isLt
  have e1 := lo_word 3 p
  have e2 := hi_word 3 p
  simp only [show half 3 = 8 from rfl] at e1 e2
  unfold V
  simp only [List.flatten_cons, List.flatten_nil, List.append_assoc]
  after_reads_at
  after_reads_at
  simp only [id_eq]
  pointwise
  try simp only [const_at]
  have hb := block_word p
  simp only [show ((256#32 : BitVec 32) = 0) = False from eq_false (by decide),
    show (BitVec.msb (256#32 : BitVec 32) = true) = False from eq_false (by decide), reduceIte, if_false, ite_cond_eq_false] at hb ⊢
  simp only [hb, e1, e2, column_word _ _ h]
  rw [length_word (p.val - 8) (min (p.val + 8) 2048) (by omega)]
  exact band_entry p.val (p.val - 8) (min (p.val + 8) 2048) (p.val / 256 * 256 + j.val - 128) hp (by omega) (by omega) (by omega)

end Cert.Mixer

end
-- ==== Proof.Mixer.SeqmixIdeal.RunA.lean ====
/- The run of the body of the mixers' call at one grid point. -/
module

public import proofs.«01_k».proof.Proof.Mixer.SeqmixIdeal.Runs

@[expose] public section

-- membership in a rectangle of production extents (`View.cover_of_tiled`): the elaborator's structural look
-- recurses once per coordinate of the long axes
set_option maxRecDepth 16384

noncomputable section

namespace Cert.SeqmixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S8x512x512 .bf16) (harg2 : arg2.IsWhole) (arg3 : Memref sig .tc .vmem S4x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x2048x512 .bf16) (harg10 : arg10.IsWhole) (arg11 : Memref sig .tc .vmem S1x2048x512 .bf16) (harg11 : arg11.IsWhole)
    (x0 : Vec F S8x512x512 .bf16) (x1 : Vec F S4x2048x512 .bf16) (x2 : Vec F S1x512x512 .bf16) (x3 : Vec F S1x512x512 .bf16) (x4 : Vec F S1x512x512 .bf16) (x5 : Vec F S1x512x512 .bf16) (x6 : Vec F S1x2048x512 .bf16) :
    Σ' (L7 : List (View.Piece (Elt F) S1x2048x512 .bf16)), Σ' (L8 : List (View.Piece (Elt F) S1x2048x512 .bf16)), { L9 : List (View.Piece (Elt F) S1x2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0_seqmix i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_seqmix_eq_skeleton]; unfold cc0_seqmix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

end Cert.SeqmixIdeal.Gen

end
-- ==== Proof.Mixer.SeqmixIdeal.Frame.lean ====
/- The frame of the mixers' program: what each output holds point by point, the obligation, the run. -/
module

public import proofs.«01_k».proof.Proof.Mixer.SeqmixIdeal.RunA
public import Idealize.ShloMosaic.Lib.Claim

@[expose] public section

-- membership in a rectangle of production extents (`View.cover_of_tiled`): the elaborator's structural look
-- recurses once per coordinate of the long axes
set_option maxRecDepth 16384

noncomputable section

namespace Cert.SeqmixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 7 tile its block (8 stores of `S1x256x512`, checked by the kernel's evaluation: Lib/Ring.lean `Piece.tiledL`, linear in the pieces, through a loop's `@[irreducible]` trip theorem too), so they cover it. -/
theorem cover0_A_7 (c : Dev nD) (i : grid0.Coords) (arg2 : Memref sig .tc .vmem S8x512x512 .bf16) (harg2 : arg2.IsWhole) (arg3 : Memref sig .tc .vmem S4x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x2048x512 .bf16) (harg10 : arg10.IsWhole) (arg11 : Memref sig .tc .vmem S1x2048x512 .bf16) (harg11 : arg11.IsWhole)
    (x0 : Vec F S8x512x512 .bf16) (x1 : Vec F S4x2048x512 .bf16) (x2 : Vec F S1x512x512 .bf16) (x3 : Vec F S1x512x512 .bf16) (x4 : Vec F S1x512x512 .bf16) (x5 : Vec F S1x512x512 .bf16) (x6 : Vec F S1x2048x512 .bf16) (y : S1x2048x512.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).1 S1x256x512.size (by sl_kernel_rfl) y

/-- What the run leaves in output 7's staging buffer: its pieces read back over junk. -/
def out0_A_7 (c : Dev nD) (i : grid0.Coords) (arg2 : Memref sig .tc .vmem S8x512x512 .bf16) (harg2 : arg2.IsWhole) (arg3 : Memref sig .tc .vmem S4x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x2048x512 .bf16) (harg10 : arg10.IsWhole) (arg11 : Memref sig .tc .vmem S1x2048x512 .bf16) (harg11 : arg11.IsWhole)
    (x0 : Vec F S8x512x512 .bf16) (x1 : Vec F S4x2048x512 .bf16) (x2 : Vec F S1x512x512 .bf16) (x3 : Vec F S1x512x512 .bf16) (x4 : Vec F S1x512x512 .bf16) (x5 : Vec F S1x512x512 .bf16) (x6 : Vec F S1x2048x512 .bf16) : Vec F S1x2048x512 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 x0 x1 x2 x3 x4 x5 x6).1)

/-- The run's pieces for output 8 tile its block (8 stores of `S1x256x512`, checked by the kernel's evaluation: Lib/Ring.lean `Piece.tiledL`, linear in the pieces, through a loop's `@[irreducible]` trip theorem too), so they cover it. -/
theorem cover0_A_8 (c : Dev nD) (i : grid0.Coords) (arg2 : Memref sig .tc .vmem S8x512x512 .bf16) (harg2 : arg2.IsWhole) (arg3 : Memref sig .tc .vmem S4x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x2048x512 .bf16) (harg10 : arg10.IsWhole) (arg11 : Memref sig .tc .vmem S1x2048x512 .bf16) (harg11 : arg11.IsWhole)
    (x0 : Vec F S8x512x512 .bf16) (x1 : Vec F S4x2048x512 .bf16) (x2 : Vec F S1x512x512 .bf16) (x3 : Vec F S1x512x512 .bf16) (x4 : Vec F S1x512x512 .bf16) (x5 : Vec F S1x512x512 .bf16) (x6 : Vec F S1x2048x512 .bf16) (y : S1x2048x512.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).2.1 S1x256x512.size (by sl_kernel_rfl) y

/-- What the run leaves in output 8's staging buffer: its pieces read back over junk. -/
def out0_A_8 (c : Dev nD) (i : grid0.Coords) (arg2 : Memref sig .tc .vmem S8x512x512 .bf16) (harg2 : arg2.IsWhole) (arg3 : Memref sig .tc .vmem S4x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x2048x512 .bf16) (harg10 : arg10.IsWhole) (arg11 : Memref sig .tc .vmem S1x2048x512 .bf16) (harg11 : arg11.IsWhole)
    (x0 : Vec F S8x512x512 .bf16) (x1 : Vec F S4x2048x512 .bf16) (x2 : Vec F S1x512x512 .bf16) (x3 : Vec F S1x512x512 .bf16) (x4 : Vec F S1x512x512 .bf16) (x5 : Vec F S1x512x512 .bf16) (x6 : Vec F S1x2048x512 .bf16) : Vec F S1x2048x512 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 x0 x1 x2 x3 x4 x5 x6).2.1)

/-- The run's pieces for output 9 tile its block (16 stores of `S1x256x256`, checked by the kernel's evaluation: Lib/Ring.lean `Piece.tiledL`, linear in the pieces, through a loop's `@[irreducible]` trip theorem too), so they cover it. -/
theorem cover0_A_9 (c : Dev nD) (i : grid0.Coords) (arg2 : Memref sig .tc .vmem S8x512x512 .bf16) (harg2 : arg2.IsWhole) (arg3 : Memref sig .tc .vmem S4x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x2048x512 .bf16) (harg10 : arg10.IsWhole) (arg11 : Memref sig .tc .vmem S1x2048x512 .bf16) (harg11 : arg11.IsWhole)
    (x0 : Vec F S8x512x512 .bf16) (x1 : Vec F S4x2048x512 .bf16) (x2 : Vec F S1x512x512 .bf16) (x3 : Vec F S1x512x512 .bf16) (x4 : Vec F S1x512x512 .bf16) (x5 : Vec F S1x512x512 .bf16) (x6 : Vec F S1x2048x512 .bf16) (y : S1x2048x512.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).2.2.1 S1x256x256.size (by sl_kernel_rfl) y

/-- What the run leaves in output 9's staging buffer: its pieces read back over junk. -/
def out0_A_9 (c : Dev nD) (i : grid0.Coords) (arg2 : Memref sig .tc .vmem S8x512x512 .bf16) (harg2 : arg2.IsWhole) (arg3 : Memref sig .tc .vmem S4x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x2048x512 .bf16) (harg10 : arg10.IsWhole) (arg11 : Memref sig .tc .vmem S1x2048x512 .bf16) (harg11 : arg11.IsWhole)
    (x0 : Vec F S8x512x512 .bf16) (x1 : Vec F S4x2048x512 .bf16) (x2 : Vec F S1x512x512 .bf16) (x3 : Vec F S1x512x512 .bf16) (x4 : Vec F S1x512x512 .bf16) (x5 : Vec F S1x512x512 .bf16) (x6 : Vec F S1x2048x512 .bf16) : Vec F S1x2048x512 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 x0 x1 x2 x3 x4 x5 x6).2.2.1)

/-! ## What the outputs hold after each point -/

/-- What the outputs' staging buffers hold after the body at point `t` (as a tuple, in window order): the run's contents at
    the point's memrefs and input blocks. -/
def outsAt0 (c : Dev nD) (t : Fin cfg0.N) : Vec F S1x2048x512 .bf16 × Vec F S1x2048x512 .bf16 × Vec F S1x2048x512 .bf16 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t).1
    | ⟨8, _⟩ => (outsAt0 m c t).2.1
    | ⟨9, _⟩ => (outsAt0 m c t).2.2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t).1 := by dsimp only [dats]
theorem after0_8 (c : Dev nD) (t : Fin cfg0.N) : (dats m 0 c).after 8 t = (outsAt0 m c t).2.1 := by dsimp only [dats]
theorem after0_9 (c : Dev nD) (t : Fin cfg0.N) : (dats m 0 c).after 9 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  unfold outsAt0
  unfold out0_A_7 out0_A_8 out0_A_9; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_SeqmixIdeal`'s statement (Defs.lean) at any `F` — Proof.lean cites it at `Bits`:
    `theorem Cert.Proof.claim : Cert.Claim := ⟨Cert.SeqmixIdeal.Gen.facts, fun m ρ _ => Cert.SeqmixIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.SeqmixIdeal.Gen

end
-- ==== Proof.Mixer.SeqmixIdeal.Value.lean ====
/- The arrays that the mixers' launch ends with, block by block. -/
module

public import proofs.«01_k».proof.Proof.Mixer.SeqmixIdeal.Frame
public import Idealize.ShloMosaic.Lib.Pipeline.Value

@[expose] public section

noncomputable section

namespace Cert.SeqmixIdeal.Value

open Cert.SeqmixIdeal Cert.SeqmixIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — the kernel's one case, `Gen.outsAt0` by definition. -/
theorem flushed7_A (c : Dev nD) (t : Fin cfg0.N) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)) := by
  simp only [flushed7, outsAt0]

/-- The index map sends distinct grid points to distinct block indices (decided over the 16 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S8x2048x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — the kernel's one case, `Gen.outsAt0` by definition. -/
theorem flushed8_A (c : Dev nD) (t : Fin cfg0.N) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)) := by
  simp only [flushed8, outsAt0]

/-- The index map sends distinct grid points to distinct block indices (decided over the 16 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8x2048x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 2), read through the window's block. -/
theorem flushed9 (c : Dev nD) (t : Fin cfg0.N) :
    (dats m 0 c).flushed 9 t = (cfg0.win 9).cut (grid0.coords t) ((outsAt0 m c t).2.2) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — the kernel's one case, `Gen.outsAt0` by definition. -/
theorem flushed9_A (c : Dev nD) (t : Fin cfg0.N) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)) := by
  simp only [flushed9, outsAt0]

/-- The index map sends distinct grid points to distinct block indices (decided over the 16 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S8x2048x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v371_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v371_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v371_2) = (dats m 0 c).arrAt 9 cfg0.N :=
  (h c).1 9

/-- After the frame run, argument `main_arg0` is as launched: input window 5 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 5).trans (((dats m 0 c).arrAt_in 5 rfl _).trans ((A_eq m c 5).trans (V_main_arg0 m c)))

/-- After the frame run, argument `main_arg1` is as launched: input window 6 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 6).trans (((dats m 0 c).arrAt_in 6 rfl _).trans ((A_eq m c 6).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v371_0) = (dats m 0 c).arrAt 7 cfg0.N
      ∧ r.2.mem ((c : Thread nD τ).loc main_v371_1) = (dats m 0 c).arrAt 8 cfg0.N
      ∧ r.2.mem ((c : Thread nD τ).loc main_v371_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post7 m r h c,
      post8 m r h c,
      post9 m r h c,
      kept_main_arg0 m r h c,
      kept_main_arg1 m r h c⟩)
    (run_main m ρ)

end Cert.SeqmixIdeal.Value

end
-- ==== Proof.Mixer.Body.lean ====
/- The Fourier half of the mixers' launch: what one point leaves in the cosine and in the sine output. -/
module

public import proofs.«01_k».proof.Proof.Mixer.SeqmixIdeal.Value
public import Idealize.ShloMosaic.Lib.Pipeline.ValueKit

@[expose] public section

set_option maxRecDepth 16384

noncomputable section

namespace Cert.Mixer

open Cert.SeqmixIdeal Cert.SeqmixIdeal.Gen Idealize.ShloMosaic Idealize.ShloMosaic.TcCoe Idealize.SL.Sem

variable (m : (ℓ : Loc nD τ sig) → Buf (Elt Ideal) ℓ)

/-- Row `k` of table `r` times column `n` of one residue's positions. -/
def prod (T : S8x512x512.Idx → EReal) (X : S1x512x512.Idx → EReal) (r : Fin 8) (k n : Fin 512) : EReal :=
  ∑ j : Fin 512, T (ix3 r k j) * X (ix3 0 j n)

/-- The cosine output's row `k` of quarter `q`, from the eight products. -/
def cosRow (T : S8x512x512.Idx → EReal) (X0 X1 X2 X3 : S1x512x512.Idx → EReal) (q : ℕ) (k n : Fin 512) : EReal :=
  if q = 0 then (prod T X0 0 k n + prod T X2 4 k n) + (prod T X1 2 k n + prod T X3 6 k n)
  else if q = 1 then (prod T X0 0 k n - prod T X2 4 k n) - (prod T X1 3 k n - prod T X3 7 k n)
  else if q = 2 then (prod T X0 0 k n + prod T X2 4 k n) - (prod T X1 2 k n + prod T X3 6 k n)
  else (prod T X0 0 k n - prod T X2 4 k n) + (prod T X1 3 k n - prod T X3 7 k n)

/-- The sine output's row `k` of quarter `q`, from the eight products. -/
def sinRow (T : S8x512x512.Idx → EReal) (X0 X1 X2 X3 : S1x512x512.Idx → EReal) (q : ℕ) (k n : Fin 512) : EReal :=
  if q = 0 then (prod T X0 1 k n + prod T X2 5 k n) + (prod T X1 3 k n + prod T X3 7 k n)
  else if q = 1 then (prod T X0 1 k n - prod T X2 5 k n) + (prod T X1 2 k n - prod T X3 6 k n)
  else if q = 2 then (prod T X0 1 k n + prod T X2 5 k n) - (prod T X1 3 k n + prod T X3 7 k n)
  else (prod T X0 1 k n - prod T X2 5 k n) - (prod T X1 2 k n - prod T X3 6 k n)

set_option maxHeartbeats 2000000 in
/-- What a point leaves in the cosine output's block. -/
theorem cos_point (c : Dev nD) (t : Fin cfg0.N) (y : S1x2048x512.Idx) :
    (outsAt0 m c t).1 y = cosRow (iblk m c 0 t) (iblk m c 2 t) (iblk m c 3 t) (iblk m c 4 t) (iblk m c 5 t)
      ((y 1).val / 512) ⟨(y 1).val % 512, Nat.mod_lt _ (by decide)⟩ (y 2) := by
  dsimp only [outsAt0]
  frame_out
  canon_tiles x h
  case piece0 =>
    rw [show (y 1).val / 512 = 3 by omega,
      show (⟨(y 1).val % 512, Nat.mod_lt _ (by decide)⟩ : Fin 512) = ⟨256 + (x 1).val, by omega⟩ from
        Fin.ext (by show (y 1).val % 512 = 256 + (x 1).val; omega),
      show y 2 = (⟨(x 2).val, by omega⟩ : Fin 512) from Fin.ext (by show (y 2).val = (x 2).val; omega)]
    open_payloads
    idx_vars x
    pointwise
    simp only [cosRow, prod, if_true, if_false, one_ne_zero, OfNat.ofNat_ne_zero, OfNat.ofNat_ne_one, OfNat.ofNat_eq_ofNat,
      Nat.reduceEqDiff, zero_add, reduceIte]
    first | rfl | done
  case piece1 =>
    rw [show (y 1).val / 512 = 2 by omega,
      show (⟨(y 1).val % 512, Nat.mod_lt _ (by decide)⟩ : Fin 512) = ⟨256 + (x 1).val, by omega⟩ from
        Fin.ext (by show (y 1).val % 512 = 256 + (x 1).val; omega),
      show y 2 = (⟨(x 2).val, by omega⟩ : Fin 512) from Fin.ext (by show (y 2).val = (x 2).val; omega)]
    open_payloads
    idx_vars x
    pointwise
    simp only [cosRow, prod, if_true, if_false, one_ne_zero, OfNat.ofNat_ne_zero, OfNat.ofNat_ne_one, OfNat.ofNat_eq_ofNat,
      Nat.reduceEqDiff, zero_add, reduceIte]
    first | rfl | done
  case piece2 =>
    rw [show (y 1).val / 512 = 1 by omega,
      show (⟨(y 1).val % 512, Nat.mod_lt _ (by decide)⟩ : Fin 512) = ⟨256 + (x 1).val, by omega⟩ from
        Fin.ext (by show (y 1).val % 512 = 256 + (x 1).val; omega),
      show y 2 = (⟨(x 2).val, by omega⟩ : Fin 512) from Fin.ext (by show (y 2).val = (x 2).val; omega)]
    open_payloads
    idx_vars x
    pointwise
    simp only [cosRow, prod, if_true, if_false, one_ne_zero, OfNat.ofNat_ne_zero, OfNat.ofNat_ne_one, OfNat.ofNat_eq_ofNat,
      Nat.reduceEqDiff, zero_add, reduceIte]
    first | rfl | done
  case piece3 =>
    rw [show (y 1).val / 512 = 0 by omega,
      show (⟨(y 1).val % 512, Nat.mod_lt _ (by decide)⟩ : Fin 512) = ⟨256 + (x 1).val, by omega⟩ from
        Fin.ext (by show (y 1).val % 512 = 256 + (x 1).val; omega),
      show y 2 = (⟨(x 2).val, by omega⟩ : Fin 512) from Fin.ext (by show (y 2).val = (x 2).val; omega)]
    open_payloads
    idx_vars x
    pointwise
    simp only [cosRow, prod, if_true, if_false, one_ne_zero, OfNat.ofNat_ne_zero, OfNat.ofNat_ne_one, OfNat.ofNat_eq_ofNat,
      Nat.reduceEqDiff, zero_add, reduceIte]
    first | rfl | done
  case piece4 =>
    rw [show (y 1).val / 512 = 3 by omega,
      show (⟨(y 1).val % 512, Nat.mod_lt _ (by decide)⟩ : Fin 512) = ⟨0 + (x 1).val, by omega⟩ from
        Fin.ext (by show (y 1).val % 512 = 0 + (x 1).val; omega),
      show y 2 = (⟨(x 2).val, by omega⟩ : Fin 512) from Fin.ext (by show (y 2).val = (x 2).val; omega)]
    open_payloads
    idx_vars x
    pointwise
    simp only [cosRow, prod, if_true, if_false, one_ne_zero, OfNat.ofNat_ne_zero, OfNat.ofNat_ne_one, OfNat.ofNat_eq_ofNat,
      Nat.reduceEqDiff, zero_add, reduceIte]
    first | rfl | done
  case piece5 =>
    rw [show (y 1).val / 512 = 2 by omega,
      show (⟨(y 1).val % 512, Nat.mod_lt _ (by decide)⟩ : Fin 512) = ⟨0 + (x 1).val, by omega⟩ from
        Fin.ext (by show (y 1).val % 512 = 0 + (x 1).val; omega),
      show y 2 = (⟨(x 2).val, by omega⟩ : Fin 512) from Fin.ext (by show (y 2).val = (x 2).val; omega)]
    open_payloads
    idx_vars x
    pointwise
    simp only [cosRow, prod, if_true, if_false, one_ne_zero, OfNat.ofNat_ne_zero, OfNat.ofNat_ne_one, OfNat.ofNat_eq_ofNat,
      Nat.reduceEqDiff, zero_add, reduceIte]
    first | rfl | done
  case piece6 =>
    rw [show (y 1).val / 512 = 1 by omega,
      show (⟨(y 1).val % 512, Nat.mod_lt _ (by decide)⟩ : Fin 512) = ⟨0 + (x 1).val, by omega⟩ from
        Fin.ext (by show (y 1).val % 512 = 0 + (x 1).val; omega),
      show y 2 = (⟨(x 2).val, by omega⟩ : Fin 512) from Fin.ext (by show (y 2).val = (x 2).val; omega)]
    open_payloads
    idx_vars x
    pointwise
    simp only [cosRow, prod, if_true, if_false, one_ne_zero, OfNat.ofNat_ne_zero, OfNat.ofNat_ne_one, OfNat.ofNat_eq_ofNat,
      Nat.reduceEqDiff, zero_add, reduceIte]
    first | rfl | done
  case piece7 =>
    rw [show (y 1).val / 512 = 0 by omega,
      show (⟨(y 1).val % 512, Nat.mod_lt _ (by decide)⟩ : Fin 512) = ⟨0 + (x 1).val, by omega⟩ from
        Fin.ext (by show (y 1).val % 512 = 0 + (x 1).val; omega),
      show y 2 = (⟨(x 2).val, by omega⟩ : Fin 512) from Fin.ext (by show (y 2).val = (x 2).val; omega)]
    open_payloads
    idx_vars x
    pointwise
    simp only [cosRow, prod, if_true, if_false, one_ne_zero, OfNat.ofNat_ne_zero, OfNat.ofNat_ne_one, OfNat.ofNat_eq_ofNat,
      Nat.reduceEqDiff, zero_add, reduceIte]
    first | rfl | done

set_option maxHeartbeats 2000000 in
/-- What a point leaves in the sine output's block. -/
theorem sin_point (c : Dev nD) (t : Fin cfg0.N) (y : S1x2048x512.Idx) :
    (outsAt0 m c t).2.1 y = sinRow (iblk m c 0 t) (iblk m c 2 t) (iblk m c 3 t) (iblk m c 4 t) (iblk m c 5 t)
      ((y 1).val / 512) ⟨(y 1).val % 512, Nat.mod_lt _ (by decide)⟩ (y 2) := by
  dsimp only [outsAt0]
  frame_out
  canon_tiles x h
  case piece0 =>
    rw [show (y 1).val / 512 = 3 by omega,
      show (⟨(y 1).val % 512, Nat.mod_lt _ (by decide)⟩ : Fin 512) = ⟨256 + (x 1).val, by omega⟩ from
        Fin.ext (by show (y 1).val % 512 = 256 + (x 1).val; omega),
      show y 2 = (⟨(x 2).val, by omega⟩ : Fin 512) from Fin.ext (by show (y 2).val = (x 2).val; omega)]
    open_payloads
    idx_vars x
    pointwise
    simp only [sinRow, prod, if_true, if_false, one_ne_zero, OfNat.ofNat_ne_zero, OfNat.ofNat_ne_one, OfNat.ofNat_eq_ofNat,
      Nat.reduceEqDiff, zero_add, reduceIte]
    first | rfl | done
  case piece1 =>
    rw [show (y 1).val / 512 = 2 by omega,
      show (⟨(y 1).val % 512, Nat.mod_lt _ (by decide)⟩ : Fin 512) = ⟨256 + (x 1).val, by omega⟩ from
        Fin.ext (by show (y 1).val % 512 = 256 + (x 1).val; omega),
      show y 2 = (⟨(x 2).val, by omega⟩ : Fin 512) from Fin.ext (by show (y 2).val = (x 2).val; omega)]
    open_payloads
    idx_vars x
    pointwise
    simp only [sinRow, prod, if_true, if_false, one_ne_zero, OfNat.ofNat_ne_zero, OfNat.ofNat_ne_one, OfNat.ofNat_eq_ofNat,
      Nat.reduceEqDiff, zero_add, reduceIte]
    first | rfl | done
  case piece2 =>
    rw [show (y 1).val / 512 = 1 by omega,
      show (⟨(y 1).val % 512, Nat.mod_lt _ (by decide)⟩ : Fin 512) = ⟨256 + (x 1).val, by omega⟩ from
        Fin.ext (by show (y 1).val % 512 = 256 + (x 1).val; omega),
      show y 2 = (⟨(x 2).val, by omega⟩ : Fin 512) from Fin.ext (by show (y 2).val = (x 2).val; omega)]
    open_payloads
    idx_vars x
    pointwise
    simp only [sinRow, prod, if_true, if_false, one_ne_zero, OfNat.ofNat_ne_zero, OfNat.ofNat_ne_one, OfNat.ofNat_eq_ofNat,
      Nat.reduceEqDiff, zero_add, reduceIte]
    first | rfl | done
  case piece3 =>
    rw [show (y 1).val / 512 = 0 by omega,
      show (⟨(y 1).val % 512, Nat.mod_lt _ (by decide)⟩ : Fin 512) = ⟨256 + (x 1).val, by omega⟩ from
        Fin.ext (by show (y 1).val % 512 = 256 + (x 1).val; omega),
      show y 2 = (⟨(x 2).val, by omega⟩ : Fin 512) from Fin.ext (by show (y 2).val = (x 2).val; omega)]
    open_payloads
    idx_vars x
    pointwise
    simp only [sinRow, prod, if_true, if_false, one_ne_zero, OfNat.ofNat_ne_zero, OfNat.ofNat_ne_one, OfNat.ofNat_eq_ofNat,
      Nat.reduceEqDiff, zero_add, reduceIte]
    first | rfl | done
  case piece4 =>
    rw [show (y 1).val / 512 = 3 by omega,
      show (⟨(y 1).val % 512, Nat.mod_lt _ (by decide)⟩ : Fin 512) = ⟨0 + (x 1).val, by omega⟩ from
        Fin.ext (by show (y 1).val % 512 = 0 + (x 1).val; omega),
      show y 2 = (⟨(x 2).val, by omega⟩ : Fin 512) from Fin.ext (by show (y 2).val = (x 2).val; omega)]
    open_payloads
    idx_vars x
    pointwise
    simp only [sinRow, prod, if_true, if_false, one_ne_zero, OfNat.ofNat_ne_zero, OfNat.ofNat_ne_one, OfNat.ofNat_eq_ofNat,
      Nat.reduceEqDiff, zero_add, reduceIte]
    first | rfl | done
  case piece5 =>
    rw [show (y 1).val / 512 = 2 by omega,
      show (⟨(y 1).val % 512, Nat.mod_lt _ (by decide)⟩ : Fin 512) = ⟨0 + (x 1).val, by omega⟩ from
        Fin.ext (by show (y 1).val % 512 = 0 + (x 1).val; omega),
      show y 2 = (⟨(x 2).val, by omega⟩ : Fin 512) from Fin.ext (by show (y 2).val = (x 2).val; omega)]
    open_payloads
    idx_vars x
    pointwise
    simp only [sinRow, prod, if_true, if_false, one_ne_zero, OfNat.ofNat_ne_zero, OfNat.ofNat_ne_one, OfNat.ofNat_eq_ofNat,
      Nat.reduceEqDiff, zero_add, reduceIte]
    first | rfl | done
  case piece6 =>
    rw [show (y 1).val / 512 = 1 by omega,
      show (⟨(y 1).val % 512, Nat.mod_lt _ (by decide)⟩ : Fin 512) = ⟨0 + (x 1).val, by omega⟩ from
        Fin.ext (by show (y 1).val % 512 = 0 + (x 1).val; omega),
      show y 2 = (⟨(x 2).val, by omega⟩ : Fin 512) from Fin.ext (by show (y 2).val = (x 2).val; omega)]
    open_payloads
    idx_vars x
    pointwise
    simp only [sinRow, prod, if_true, if_false, one_ne_zero, OfNat.ofNat_ne_zero, OfNat.ofNat_ne_one, OfNat.ofNat_eq_ofNat,
      Nat.reduceEqDiff, zero_add, reduceIte]
    first | rfl | done
  case piece7 =>
    rw [show (y 1).val / 512 = 0 by omega,
      show (⟨(y 1).val % 512, Nat.mod_lt _ (by decide)⟩ : Fin 512) = ⟨0 + (x 1).val, by omega⟩ from
        Fin.ext (by show (y 1).val % 512 = 0 + (x 1).val; omega),
      show y 2 = (⟨(x 2).val, by omega⟩ : Fin 512) from Fin.ext (by show (y 2).val = (x 2).val; omega)]
    open_payloads
    idx_vars x
    pointwise
    simp only [sinRow, prod, if_true, if_false, one_ne_zero, OfNat.ofNat_ne_zero, OfNat.ofNat_ne_one, OfNat.ofNat_eq_ofNat,
      Nat.reduceEqDiff, zero_add, reduceIte]
    first | rfl | done

end Cert.Mixer

end
-- ==== Proof.Mixer.Pool.lean ====
/- The pooling half of the mixers' launch: what one point leaves in the pooled output. -/
module

public import proofs.«01_k».proof.Proof.Mixer.SeqmixIdeal.Value
public import Idealize.ShloMosaic.Lib.Pipeline.ValueKit

@[expose] public section

set_option maxRecDepth 16384

noncomputable section

namespace Cert.Mixer

open Cert.SeqmixIdeal Cert.SeqmixIdeal.Gen Idealize.ShloMosaic Idealize.ShloMosaic.TcCoe Idealize.SL.Sem

variable (m : (ℓ : Loc nD τ sig) → Buf (Elt Ideal) ℓ)

/-- Row `p` of band `g` times the positions its row block reaches: the first and the last block see 384 of them. -/
def poolRow (B : S4x2048x512.Idx → EReal) (P : S1x2048x512.Idx → EReal) (g : Fin 4) (p : Fin 2048) (n : Fin 512) : EReal :=
  if p.val < 256 then ∑ j : Fin 384, B (ix3 g p ⟨128 + j.val, by omega⟩) * P (ix3 0 ⟨j.val, by omega⟩ n)
  else if p.val < 1792 then
    ∑ j : Fin 512, B (ix3 g p j) * P (ix3 0 ⟨(p.val / 256 * 256 + j.val - 128) % 2048, Nat.mod_lt _ (by decide)⟩ n)
  else ∑ j : Fin 384, B (ix3 g p ⟨j.val, by omega⟩) * P (ix3 0 ⟨1664 + j.val, by omega⟩ n)

/-- Indices of three axes with equal coordinates are equal. -/
theorem ix3_eq {n0 n1 n2 : ℕ} {a a' : Fin n0} {b b' : Fin n1} {d d' : Fin n2} (h0 : a.val = a'.val) (h1 : b.val = b'.val)
    (h2 : d.val = d'.val) : ix3 a b d = ix3 a' b' d' := by
  rw [Fin.ext h0, Fin.ext h1, Fin.ext h2]

/-- The group that column `n` of channel block `k` belongs to. -/
def groupOf (t : Fin cfg0.N) (n : Fin 512) : Fin 4 :=
  ⟨2 * (grid0.coords t 1).val + n.val / 256, by
    have h : (grid0.coords t 1).val < 2 := (grid0.coords t 1).isLt
    omega⟩

set_option maxHeartbeats 2000000 in
/-- What a point leaves in the pooled output's block. -/
theorem pool_point (c : Dev nD) (t : Fin cfg0.N) (y : S1x2048x512.Idx) :
    (outsAt0 m c t).2.2 y = poolRow (iblk m c 1 t) (iblk m c 6 t) (groupOf t (y 2)) (y 1) (y 2) := by
  dsimp only [outsAt0]
  frame_out
  canon_tiles x h
  case piece0 =>
    unfold poolRow
    rw [if_neg (by omega), if_neg (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off8 (grid0.coords t) 1#32 0 = 2 * (grid0.coords t 1).val + (y 2).val / 256
        rw [show k0_off8 (grid0.coords t) 1#32 0 = 2 * (grid0.coords t 1).val + 1 from congrFun (k0_off8_eq (grid0.coords t) 1) 0]
        omega
      · show k0_off8 (grid0.coords t) 1#32 1 + x1.val = (y 1).val
        rw [show k0_off8 (grid0.coords t) 1#32 1 = 1792 from congrFun (k0_off8_eq (grid0.coords t) 1) 1]
        omega
      · show k0_off8 (grid0.coords t) 1#32 2 + j.val = j.val
        rw [show k0_off8 (grid0.coords t) 1#32 2 = 0 from congrFun (k0_off8_eq (grid0.coords t) 1) 2]
        try omega
    · refine ix3_eq rfl ?_ ?_ <;> dsimp only <;> omega
  case piece1 =>
    unfold poolRow
    rw [if_neg (by omega), if_pos (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off7 (grid0.coords t) 1#32 0 = 2 * (grid0.coords t 1).val + (y 2).val / 256
        rw [show k0_off7 (grid0.coords t) 1#32 0 = 2 * (grid0.coords t 1).val + 1 from congrFun (k0_off7_eq (grid0.coords t) 1) 0]
        omega
      · show k0_off7 (grid0.coords t) 1#32 1 + x1.val = (y 1).val
        rw [show k0_off7 (grid0.coords t) 1#32 1 = 1536 from congrFun (k0_off7_eq (grid0.coords t) 1) 1]
        omega
      · show k0_off7 (grid0.coords t) 1#32 2 + j.val = j.val
        rw [show k0_off7 (grid0.coords t) 1#32 2 = 0 from congrFun (k0_off7_eq (grid0.coords t) 1) 2]
        try omega
    · refine ix3_eq rfl ?_ ?_ <;> dsimp only <;> omega
  case piece2 =>
    unfold poolRow
    rw [if_neg (by omega), if_pos (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off6 (grid0.coords t) 1#32 0 = 2 * (grid0.coords t 1).val + (y 2).val / 256
        rw [show k0_off6 (grid0.coords t) 1#32 0 = 2 * (grid0.coords t 1).val + 1 from congrFun (k0_off6_eq (grid0.coords t) 1) 0]
        omega
      · show k0_off6 (grid0.coords t) 1#32 1 + x1.val = (y 1).val
        rw [show k0_off6 (grid0.coords t) 1#32 1 = 1280 from congrFun (k0_off6_eq (grid0.coords t) 1) 1]
        omega
      · show k0_off6 (grid0.coords t) 1#32 2 + j.val = j.val
        rw [show k0_off6 (grid0.coords t) 1#32 2 = 0 from congrFun (k0_off6_eq (grid0.coords t) 1) 2]
        try omega
    · refine ix3_eq rfl ?_ ?_ <;> dsimp only <;> omega
  case piece3 =>
    unfold poolRow
    rw [if_neg (by omega), if_pos (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off5 (grid0.coords t) 1#32 0 = 2 * (grid0.coords t 1).val + (y 2).val / 256
        rw [show k0_off5 (grid0.coords t) 1#32 0 = 2 * (grid0.coords t 1).val + 1 from congrFun (k0_off5_eq (grid0.coords t) 1) 0]
        omega
      · show k0_off5 (grid0.coords t) 1#32 1 + x1.val = (y 1).val
        rw [show k0_off5 (grid0.coords t) 1#32 1 = 1024 from congrFun (k0_off5_eq (grid0.coords t) 1) 1]
        omega
      · show k0_off5 (grid0.coords t) 1#32 2 + j.val = j.val
        rw [show k0_off5 (grid0.coords t) 1#32 2 = 0 from congrFun (k0_off5_eq (grid0.coords t) 1) 2]
        try omega
    · refine ix3_eq rfl ?_ ?_ <;> dsimp only <;> omega
  case piece4 =>
    unfold poolRow
    rw [if_neg (by omega), if_pos (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off4 (grid0.coords t) 1#32 0 = 2 * (grid0.coords t 1).val + (y 2).val / 256
        rw [show k0_off4 (grid0.coords t) 1#32 0 = 2 * (grid0.coords t 1).val + 1 from congrFun (k0_off4_eq (grid0.coords t) 1) 0]
        omega
      · show k0_off4 (grid0.coords t) 1#32 1 + x1.val = (y 1).val
        rw [show k0_off4 (grid0.coords t) 1#32 1 = 768 from congrFun (k0_off4_eq (grid0.coords t) 1) 1]
        omega
      · show k0_off4 (grid0.coords t) 1#32 2 + j.val = j.val
        rw [show k0_off4 (grid0.coords t) 1#32 2 = 0 from congrFun (k0_off4_eq (grid0.coords t) 1) 2]
        try omega
    · refine ix3_eq rfl ?_ ?_ <;> dsimp only <;> omega
  case piece5 =>
    unfold poolRow
    rw [if_neg (by omega), if_pos (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off3 (grid0.coords t) 1#32 0 = 2 * (grid0.coords t 1).val + (y 2).val / 256
        rw [show k0_off3 (grid0.coords t) 1#32 0 = 2 * (grid0.coords t 1).val + 1 from congrFun (k0_off3_eq (grid0.coords t) 1) 0]
        omega
      · show k0_off3 (grid0.coords t) 1#32 1 + x1.val = (y 1).val
        rw [show k0_off3 (grid0.coords t) 1#32 1 = 512 from congrFun (k0_off3_eq (grid0.coords t) 1) 1]
        omega
      · show k0_off3 (grid0.coords t) 1#32 2 + j.val = j.val
        rw [show k0_off3 (grid0.coords t) 1#32 2 = 0 from congrFun (k0_off3_eq (grid0.coords t) 1) 2]
        try omega
    · refine ix3_eq rfl ?_ ?_ <;> dsimp only <;> omega
  case piece6 =>
    unfold poolRow
    rw [if_neg (by omega), if_pos (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off2 (grid0.coords t) 1#32 0 = 2 * (grid0.coords t 1).val + (y 2).val / 256
        rw [show k0_off2 (grid0.coords t) 1#32 0 = 2 * (grid0.coords t 1).val + 1 from congrFun (k0_off2_eq (grid0.coords t) 1) 0]
        omega
      · show k0_off2 (grid0.coords t) 1#32 1 + x1.val = (y 1).val
        rw [show k0_off2 (grid0.coords t) 1#32 1 = 256 from congrFun (k0_off2_eq (grid0.coords t) 1) 1]
        omega
      · show k0_off2 (grid0.coords t) 1#32 2 + j.val = j.val
        rw [show k0_off2 (grid0.coords t) 1#32 2 = 0 from congrFun (k0_off2_eq (grid0.coords t) 1) 2]
        try omega
    · refine ix3_eq rfl ?_ ?_ <;> dsimp only <;> omega
  case piece7 =>
    unfold poolRow
    rw [if_pos (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off1 (grid0.coords t) 1#32 0 = 2 * (grid0.coords t 1).val + (y 2).val / 256
        rw [show k0_off1 (grid0.coords t) 1#32 0 = 2 * (grid0.coords t 1).val + 1 from congrFun (k0_off1_eq (grid0.coords t) 1) 0]
        omega
      · show k0_off1 (grid0.coords t) 1#32 1 + x1.val = (y 1).val
        rw [show k0_off1 (grid0.coords t) 1#32 1 = 0 from congrFun (k0_off1_eq (grid0.coords t) 1) 1]
        omega
      · show k0_off1 (grid0.coords t) 1#32 2 + j.val = 128 + j.val
        rw [show k0_off1 (grid0.coords t) 1#32 2 = 128 from congrFun (k0_off1_eq (grid0.coords t) 1) 2]
        try omega
    · refine ix3_eq rfl ?_ ?_ <;> dsimp only <;> omega
  case piece8 =>
    unfold poolRow
    rw [if_neg (by omega), if_neg (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off8 (grid0.coords t) 0#32 0 = 2 * (grid0.coords t 1).val + (y 2).val / 256
        rw [show k0_off8 (grid0.coords t) 0#32 0 = 2 * (grid0.coords t 1).val + 0 from congrFun (k0_off8_eq (grid0.coords t) 0) 0]
        omega
      · show k0_off8 (grid0.coords t) 0#32 1 + x1.val = (y 1).val
        rw [show k0_off8 (grid0.coords t) 0#32 1 = 1792 from congrFun (k0_off8_eq (grid0.coords t) 0) 1]
        omega
      · show k0_off8 (grid0.coords t) 0#32 2 + j.val = j.val
        rw [show k0_off8 (grid0.coords t) 0#32 2 = 0 from congrFun (k0_off8_eq (grid0.coords t) 0) 2]
        try omega
    · refine ix3_eq rfl ?_ ?_ <;> dsimp only <;> omega
  case piece9 =>
    unfold poolRow
    rw [if_neg (by omega), if_pos (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off7 (grid0.coords t) 0#32 0 = 2 * (grid0.coords t 1).val + (y 2).val / 256
        rw [show k0_off7 (grid0.coords t) 0#32 0 = 2 * (grid0.coords t 1).val + 0 from congrFun (k0_off7_eq (grid0.coords t) 0) 0]
        omega
      · show k0_off7 (grid0.coords t) 0#32 1 + x1.val = (y 1).val
        rw [show k0_off7 (grid0.coords t) 0#32 1 = 1536 from congrFun (k0_off7_eq (grid0.coords t) 0) 1]
        omega
      · show k0_off7 (grid0.coords t) 0#32 2 + j.val = j.val
        rw [show k0_off7 (grid0.coords t) 0#32 2 = 0 from congrFun (k0_off7_eq (grid0.coords t) 0) 2]
        try omega
    · refine ix3_eq rfl ?_ ?_ <;> dsimp only <;> omega
  case piece10 =>
    unfold poolRow
    rw [if_neg (by omega), if_pos (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off6 (grid0.coords t) 0#32 0 = 2 * (grid0.coords t 1).val + (y 2).val / 256
        rw [show k0_off6 (grid0.coords t) 0#32 0 = 2 * (grid0.coords t 1).val + 0 from congrFun (k0_off6_eq (grid0.coords t) 0) 0]
        omega
      · show k0_off6 (grid0.coords t) 0#32 1 + x1.val = (y 1).val
        rw [show k0_off6 (grid0.coords t) 0#32 1 = 1280 from congrFun (k0_off6_eq (grid0.coords t) 0) 1]
        omega
      · show k0_off6 (grid0.coords t) 0#32 2 + j.val = j.val
        rw [show k0_off6 (grid0.coords t) 0#32 2 = 0 from congrFun (k0_off6_eq (grid0.coords t) 0) 2]
        try omega
    · refine ix3_eq rfl ?_ ?_ <;> dsimp only <;> omega
  case piece11 =>
    unfold poolRow
    rw [if_neg (by omega), if_pos (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off5 (grid0.coords t) 0#32 0 = 2 * (grid0.coords t 1).val + (y 2).val / 256
        rw [show k0_off5 (grid0.coords t) 0#32 0 = 2 * (grid0.coords t 1).val + 0 from congrFun (k0_off5_eq (grid0.coords t) 0) 0]
        omega
      · show k0_off5 (grid0.coords t) 0#32 1 + x1.val = (y 1).val
        rw [show k0_off5 (grid0.coords t) 0#32 1 = 1024 from congrFun (k0_off5_eq (grid0.coords t) 0) 1]
        omega
      · show k0_off5 (grid0.coords t) 0#32 2 + j.val = j.val
        rw [show k0_off5 (grid0.coords t) 0#32 2 = 0 from congrFun (k0_off5_eq (grid0.coords t) 0) 2]
        try omega
    · refine ix3_eq rfl ?_ ?_ <;> dsimp only <;> omega
  case piece12 =>
    unfold poolRow
    rw [if_neg (by omega), if_pos (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off4 (grid0.coords t) 0#32 0 = 2 * (grid0.coords t 1).val + (y 2).val / 256
        rw [show k0_off4 (grid0.coords t) 0#32 0 = 2 * (grid0.coords t 1).val + 0 from congrFun (k0_off4_eq (grid0.coords t) 0) 0]
        omega
      · show k0_off4 (grid0.coords t) 0#32 1 + x1.val = (y 1).val
        rw [show k0_off4 (grid0.coords t) 0#32 1 = 768 from congrFun (k0_off4_eq (grid0.coords t) 0) 1]
        omega
      · show k0_off4 (grid0.coords t) 0#32 2 + j.val = j.val
        rw [show k0_off4 (grid0.coords t) 0#32 2 = 0 from congrFun (k0_off4_eq (grid0.coords t) 0) 2]
        try omega
    · refine ix3_eq rfl ?_ ?_ <;> dsimp only <;> omega
  case piece13 =>
    unfold poolRow
    rw [if_neg (by omega), if_pos (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off3 (grid0.coords t) 0#32 0 = 2 * (grid0.coords t 1).val + (y 2).val / 256
        rw [show k0_off3 (grid0.coords t) 0#32 0 = 2 * (grid0.coords t 1).val + 0 from congrFun (k0_off3_eq (grid0.coords t) 0) 0]
        omega
      · show k0_off3 (grid0.coords t) 0#32 1 + x1.val = (y 1).val
        rw [show k0_off3 (grid0.coords t) 0#32 1 = 512 from congrFun (k0_off3_eq (grid0.coords t) 0) 1]
        omega
      · show k0_off3 (grid0.coords t) 0#32 2 + j.val = j.val
        rw [show k0_off3 (grid0.coords t) 0#32 2 = 0 from congrFun (k0_off3_eq (grid0.coords t) 0) 2]
        try omega
    · refine ix3_eq rfl ?_ ?_ <;> dsimp only <;> omega
  case piece14 =>
    unfold poolRow
    rw [if_neg (by omega), if_pos (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off2 (grid0.coords t) 0#32 0 = 2 * (grid0.coords t 1).val + (y 2).val / 256
        rw [show k0_off2 (grid0.coords t) 0#32 0 = 2 * (grid0.coords t 1).val + 0 from congrFun (k0_off2_eq (grid0.coords t) 0) 0]
        omega
      · show k0_off2 (grid0.coords t) 0#32 1 + x1.val = (y 1).val
        rw [show k0_off2 (grid0.coords t) 0#32 1 = 256 from congrFun (k0_off2_eq (grid0.coords t) 0) 1]
        omega
      · show k0_off2 (grid0.coords t) 0#32 2 + j.val = j.val
        rw [show k0_off2 (grid0.coords t) 0#32 2 = 0 from congrFun (k0_off2_eq (grid0.coords t) 0) 2]
        try omega
    · refine ix3_eq rfl ?_ ?_ <;> dsimp only <;> omega
  case piece15 =>
    unfold poolRow
    rw [if_pos (by omega)]
    open_payloads
    idx_vars x
    pointwise
    refine Finset.sum_congr rfl fun j _ => ?_
    refine congr_arg₂ (· * ·) (congrArg (iblk m c 1 t) ?_) (congrArg (iblk m c 6 t) ?_)
    · refine ix3_eq ?_ ?_ ?_
      · show k0_off1 (grid0.coords t) 0#32 0 = 2 * (grid0.coords t 1).val + (y 2).val / 256
        rw [show k0_off1 (grid0.coords t) 0#32 0 = 2 * (grid0.coords t 1).val + 0 from congrFun (k0_off1_eq (grid0.coords t) 0) 0]
        omega
      · show k0_off1 (grid0.coords t) 0#32 1 + x1.val = (y 1).val
        rw [show k0_off1 (grid0.coords t) 0#32 1 = 0 from congrFun (k0_off1_eq (grid0.coords t) 0) 1]
        omega
      · show k0_off1 (grid0.coords t) 0#32 2 + j.val = 128 + j.val
        rw [show k0_off1 (grid0.coords t) 0#32 2 = 128 from congrFun (k0_off1_eq (grid0.coords t) 0) 2]
        try omega
    · refine ix3_eq rfl ?_ ?_ <;> dsimp only <;> omega

end Cert.Mixer

end
-- ==== Proof.Mixer.Arr.lean ====
/- The arrays the mixers' launch leaves, each at an index. -/
module

public import proofs.«01_k».proof.Proof.Mixer.Body
public import proofs.«01_k».proof.Proof.Mixer.Pool

@[expose] public section

set_option maxRecDepth 16384

noncomputable section

namespace Cert.Mixer

open Cert.SeqmixIdeal Cert.SeqmixIdeal.Gen Idealize.ShloMosaic Idealize.ShloMosaic.TcCoe Idealize.SL.Sem

variable (m : (ℓ : Loc nD τ sig) → Buf (Elt Ideal) ℓ)

/-- Column `n` of the tokens at residue `r`, for batch row `b`: a block of one column. -/
def column (A : S8x512x4096.Idx → EReal) (r : Fin 4) (b : Fin 8) (n : Fin 1024) : S1x512x512.Idx → EReal :=
  fun x => A (ix3 b (x 1) ⟨r.val * 1024 + n.val, by omega⟩)

/-- The block that window 0 takes at a point. -/
theorem index0 : ∀ t : Fin cfg0.N, win0_0.index t = ![0, 0, 0] := (by decide +kernel : ∀ t : Fin grid0.N, _)
/-- The block that window 1 takes at a point. -/
theorem index1 : ∀ t : Fin cfg0.N, win0_1.index t = ![0, 0, 0] := (by decide +kernel : ∀ t : Fin grid0.N, _)
/-- The block that window 2 takes at a point. -/
theorem index2 : ∀ t : Fin cfg0.N, win0_2.index t = ![(grid0.coords t 0).val, 0, (grid0.coords t 1).val] :=
  (by decide +kernel : ∀ t : Fin grid0.N, _)
/-- The block that window 3 takes at a point. -/
theorem index3 : ∀ t : Fin cfg0.N, win0_3.index t = ![(grid0.coords t 0).val, 0, 2 + (grid0.coords t 1).val] :=
  (by decide +kernel : ∀ t : Fin grid0.N, _)
/-- The block that window 4 takes at a point. -/
theorem index4 : ∀ t : Fin cfg0.N, win0_4.index t = ![(grid0.coords t 0).val, 0, 4 + (grid0.coords t 1).val] :=
  (by decide +kernel : ∀ t : Fin grid0.N, _)
/-- The block that window 5 takes at a point. -/
theorem index5 : ∀ t : Fin cfg0.N, win0_5.index t = ![(grid0.coords t 0).val, 0, 6 + (grid0.coords t 1).val] :=
  (by decide +kernel : ∀ t : Fin grid0.N, _)
/-- The block that window 6 takes at a point. -/
theorem index6 : ∀ t : Fin cfg0.N, win0_6.index t = ![(grid0.coords t 0).val, 0, (grid0.coords t 1).val] :=
  (by decide +kernel : ∀ t : Fin grid0.N, _)
/-- The block that window 7 takes at a point. -/
theorem index7 : ∀ t : Fin cfg0.N, win0_7.index t = ![(grid0.coords t 0).val, 0, (grid0.coords t 1).val] :=
  (by decide +kernel : ∀ t : Fin grid0.N, _)
/-- The block that window 8 takes at a point. -/
theorem index8 : ∀ t : Fin cfg0.N, win0_8.index t = ![(grid0.coords t 0).val, 0, (grid0.coords t 1).val] :=
  (by decide +kernel : ∀ t : Fin grid0.N, _)
/-- The block that window 9 takes at a point. -/
theorem index9 : ∀ t : Fin cfg0.N, win0_9.index t = ![(grid0.coords t 0).val, 0, (grid0.coords t 1).val] :=
  (by decide +kernel : ∀ t : Fin grid0.N, _)

/-- A product reads its table's row and its column only. -/
theorem prod_congr {T T' : S8x512x512.Idx → EReal} {X X' : S1x512x512.Idx → EReal} {r : Fin 8} {k n n' : Fin 512}
    (hT : T = T') (hX : ∀ j : Fin 512, X (ix3 0 j n) = X' (ix3 0 j n')) : prod T X r k n = prod T' X' r k n' := by
  subst hT
  exact Finset.sum_congr rfl fun j _ => by rw [hX]

/-- The table's block is the whole table. -/
theorem blk0 (c : Dev nD) (t : Fin cfg0.N) : (iblk m c 0 t : S8x512x512.Idx → EReal) = V m c main_v265 := by
  funext x
  blk_simp [iblk]
  refine congrArg (V m c main_v265) ?_
  blk_ext [index0 t]

/-- The bands' block is all the bands. -/
theorem blk1 (c : Dev nD) (t : Fin cfg0.N) : (iblk m c 1 t : S4x2048x512.Idx → EReal) = V m c main_v370 := by
  funext x
  blk_simp [iblk]
  refine congrArg (V m c main_v370) ?_
  blk_ext [index1 t]

/-- The first residue's block, at a position and a column. -/
theorem blk2 (c : Dev nD) (t : Fin cfg0.N) (j n : Fin 512) (b : Fin 8) (d : Fin 1024)
    (hb : b.val = (grid0.coords t 0).val) (hd : d.val = (grid0.coords t 1).val * 512 + n.val) :
    (iblk m c 2 t : S1x512x512.Idx → EReal) (ix3 0 j n) = column (V m c main_arg0) 0 b d (ix3 0 j 0) := by
  unfold column
  blk_simp [iblk]
  refine congrArg (V m c main_arg0) ?_
  blk_ext [index2 t, hb, hd]

/-- The second residue's block, at a position and a column. -/
theorem blk3 (c : Dev nD) (t : Fin cfg0.N) (j n : Fin 512) (b : Fin 8) (d : Fin 1024)
    (hb : b.val = (grid0.coords t 0).val) (hd : d.val = (grid0.coords t 1).val * 512 + n.val) :
    (iblk m c 3 t : S1x512x512.Idx → EReal) (ix3 0 j n) = column (V m c main_arg0) 1 b d (ix3 0 j 0) := by
  unfold column
  blk_simp [iblk]
  refine congrArg (V m c main_arg0) ?_
  blk_ext [index3 t, hb, hd]

/-- The third residue's block, at a position and a column. -/
theorem blk4 (c : Dev nD) (t : Fin cfg0.N) (j n : Fin 512) (b : Fin 8) (d : Fin 1024)
    (hb : b.val = (grid0.coords t 0).val) (hd : d.val = (grid0.coords t 1).val * 512 + n.val) :
    (iblk m c 4 t : S1x512x512.Idx → EReal) (ix3 0 j n) = column (V m c main_arg0) 2 b d (ix3 0 j 0) := by
  unfold column
  blk_simp [iblk]
  refine congrArg (V m c main_arg0) ?_
  blk_ext [index4 t, hb, hd]

/-- The fourth residue's block, at a position and a column. -/
theorem blk5 (c : Dev nD) (t : Fin cfg0.N) (j n : Fin 512) (b : Fin 8) (d : Fin 1024)
    (hb : b.val = (grid0.coords t 0).val) (hd : d.val = (grid0.coords t 1).val * 512 + n.val) :
    (iblk m c 5 t : S1x512x512.Idx → EReal) (ix3 0 j n) = column (V m c main_arg0) 3 b d (ix3 0 j 0) := by
  unfold column
  blk_simp [iblk]
  refine congrArg (V m c main_arg0) ?_
  blk_ext [index5 t, hb, hd]

/-- The pooled half's block, at a position and a column. -/
theorem blk6 (c : Dev nD) (t : Fin cfg0.N) (j : Fin 2048) (n : Fin 512) (b : Fin 8) (d : Fin 1024)
    (hb : b.val = (grid0.coords t 0).val) (hd : d.val = (grid0.coords t 1).val * 512 + n.val) :
    (iblk m c 6 t : S1x2048x512.Idx → EReal) (ix3 0 j n) = V m c main_arg1 (ix3 b j d) := by
  blk_simp [iblk]
  refine congrArg (V m c main_arg1) ?_
  blk_ext [index6 t, hb, hd]

/-- The cosine output at an index, from the table and the tokens. -/
def cosOut (T : S8x512x512.Idx → EReal) (A : S8x512x4096.Idx → EReal) (i : S8x2048x1024.Idx) : EReal :=
  cosRow T (column A 0 (i 0) (i 2)) (column A 1 (i 0) (i 2)) (column A 2 (i 0) (i 2)) (column A 3 (i 0) (i 2))
    ((i 1).val / 512) ⟨(i 1).val % 512, Nat.mod_lt _ (by decide)⟩ 0

/-- The sine output at an index, from the table and the tokens. -/
def sinOut (T : S8x512x512.Idx → EReal) (A : S8x512x4096.Idx → EReal) (i : S8x2048x1024.Idx) : EReal :=
  sinRow T (column A 0 (i 0) (i 2)) (column A 1 (i 0) (i 2)) (column A 2 (i 0) (i 2)) (column A 3 (i 0) (i 2))
    ((i 1).val / 512) ⟨(i 1).val % 512, Nat.mod_lt _ (by decide)⟩ 0

/-- Column `n` of the pooled half for batch row `b`, as a block of equal columns. -/
def pooled (P : S8x2048x1024.Idx → EReal) (b : Fin 8) (n : Fin 1024) : S1x2048x512.Idx → EReal :=
  fun x => P (ix3 b (x 1) n)

/-- The pooled output at an index, from the bands and the pooled half. -/
def poolOut (B : S4x2048x512.Idx → EReal) (P : S8x2048x1024.Idx → EReal) (i : S8x2048x1024.Idx) : EReal :=
  poolRow B (pooled P (i 0) (i 2)) ⟨(i 2).val / 256, by have h : (i 2).val < 1024 := (i 2).isLt; omega⟩ (i 1) 0

/-- A cosine row reads its table and its columns only. -/
theorem cosRow_congr {T T' : S8x512x512.Idx → EReal} {X0 X1 X2 X3 Y0 Y1 Y2 Y3 : S1x512x512.Idx → EReal} {q : ℕ} {k n n' : Fin 512}
    (hT : T = T') (h0 : ∀ j : Fin 512, X0 (ix3 0 j n) = Y0 (ix3 0 j n')) (h1 : ∀ j : Fin 512, X1 (ix3 0 j n) = Y1 (ix3 0 j n'))
    (h2 : ∀ j : Fin 512, X2 (ix3 0 j n) = Y2 (ix3 0 j n')) (h3 : ∀ j : Fin 512, X3 (ix3 0 j n) = Y3 (ix3 0 j n')) :
    cosRow T X0 X1 X2 X3 q k n = cosRow T' Y0 Y1 Y2 Y3 q k n' := by
  have e (r : Fin 8) := prod_congr (r := r) (k := k) hT h0
  have e1 (r : Fin 8) := prod_congr (r := r) (k := k) hT h1
  have e2 (r : Fin 8) := prod_congr (r := r) (k := k) hT h2
  have e3 (r : Fin 8) := prod_congr (r := r) (k := k) hT h3
  unfold cosRow
  simp only [e, e1, e2, e3]

/-- A sine row reads its table and its columns only. -/
theorem sinRow_congr {T T' : S8x512x512.Idx → EReal} {X0 X1 X2 X3 Y0 Y1 Y2 Y3 : S1x512x512.Idx → EReal} {q : ℕ} {k n n' : Fin 512}
    (hT : T = T') (h0 : ∀ j : Fin 512, X0 (ix3 0 j n) = Y0 (ix3 0 j n')) (h1 : ∀ j : Fin 512, X1 (ix3 0 j n) = Y1 (ix3 0 j n'))
    (h2 : ∀ j : Fin 512, X2 (ix3 0 j n) = Y2 (ix3 0 j n')) (h3 : ∀ j : Fin 512, X3 (ix3 0 j n) = Y3 (ix3 0 j n')) :
    sinRow T X0 X1 X2 X3 q k n = sinRow T' Y0 Y1 Y2 Y3 q k n' := by
  have e (r : Fin 8) := prod_congr (r := r) (k := k) hT h0
  have e1 (r : Fin 8) := prod_congr (r := r) (k := k) hT h1
  have e2 (r : Fin 8) := prod_congr (r := r) (k := k) hT h2
  have e3 (r : Fin 8) := prod_congr (r := r) (k := k) hT h3
  unfold sinRow
  simp only [e, e1, e2, e3]

/-- A pooled row reads its band and its column only. -/
theorem poolRow_congr {B B' : S4x2048x512.Idx → EReal} {P Q : S1x2048x512.Idx → EReal} {g : Fin 4} {p : Fin 2048} {n n' : Fin 512}
    (hB : B = B') (h : ∀ j : Fin 2048, P (ix3 0 j n) = Q (ix3 0 j n')) : poolRow B P g p n = poolRow B' Q g p n' := by
  unfold poolRow
  simp only [hB, h]

/-- The cosine array the launch leaves. -/
theorem cos_arr (c : Dev nD) : (dats m 0 c).arrAt 7 cfg0.N = cosOut (V m c main_v265) (V m c main_arg0) := by
  refine (dats m 0 c).arrAt_eq_of_covers 7 _ (by decide +kernel) fun t _ y => ?_
  blk_simp
  rw [after0_7, cos_point]
  unfold cosOut
  have e := index7 t
  have l0 : (y 0).val < 1 := (y 0).isLt
  have l1 : (y 1).val < 2048 := (y 1).isLt
  have e0 : ((win0_7.blk t).view.emb y 0).val = (grid0.coords t 0).val := by blk_simp [e]
  have e1 : ((win0_7.blk t).view.emb y 1).val = (y 1).val := by blk_simp [e]
  have e2 : ((win0_7.blk t).view.emb y 2).val = (grid0.coords t 1).val * 512 + (y 2).val := by blk_simp [e]
  have ek : (⟨((win0_7.blk t).view.emb y 1).val % 512, Nat.mod_lt _ (by decide)⟩ : Fin 512)
      = ⟨(y 1).val % 512, Nat.mod_lt _ (by decide)⟩ := Fin.ext (by show _ % 512 = _ % 512; rw [e1])
  rw [ek, e1]
  exact cosRow_congr (blk0 m c t) (fun j => blk2 m c t j (y 2) _ _ e0 e2) (fun j => blk3 m c t j (y 2) _ _ e0 e2)
    (fun j => blk4 m c t j (y 2) _ _ e0 e2) (fun j => blk5 m c t j (y 2) _ _ e0 e2)

/-- The sine array the launch leaves. -/
theorem sin_arr (c : Dev nD) : (dats m 0 c).arrAt 8 cfg0.N = sinOut (V m c main_v265) (V m c main_arg0) := by
  refine (dats m 0 c).arrAt_eq_of_covers 8 _ (by decide +kernel) fun t _ y => ?_
  blk_simp
  rw [after0_8, sin_point]
  unfold sinOut
  have e := index8 t
  have l0 : (y 0).val < 1 := (y 0).isLt
  have l1 : (y 1).val < 2048 := (y 1).isLt
  have e0 : ((win0_8.blk t).view.emb y 0).val = (grid0.coords t 0).val := by blk_simp [e]
  have e1 : ((win0_8.blk t).view.emb y 1).val = (y 1).val := by blk_simp [e]
  have e2 : ((win0_8.blk t).view.emb y 2).val = (grid0.coords t 1).val * 512 + (y 2).val := by blk_simp [e]
  have ek : (⟨((win0_8.blk t).view.emb y 1).val % 512, Nat.mod_lt _ (by decide)⟩ : Fin 512)
      = ⟨(y 1).val % 512, Nat.mod_lt _ (by decide)⟩ := Fin.ext (by show _ % 512 = _ % 512; rw [e1])
  rw [ek, e1]
  exact sinRow_congr (blk0 m c t) (fun j => blk2 m c t j (y 2) _ _ e0 e2) (fun j => blk3 m c t j (y 2) _ _ e0 e2)
    (fun j => blk4 m c t j (y 2) _ _ e0 e2) (fun j => blk5 m c t j (y 2) _ _ e0 e2)

/-- The pooled array the launch leaves. -/
theorem pool_arr (c : Dev nD) : (dats m 0 c).arrAt 9 cfg0.N = poolOut (V m c main_v370) (V m c main_arg1) := by
  refine (dats m 0 c).arrAt_eq_of_covers 9 _ (by decide +kernel) fun t _ y => ?_
  blk_simp
  rw [after0_9, pool_point]
  unfold poolOut
  have e := index9 t
  have l0 : (y 0).val < 1 := (y 0).isLt
  have l2 : (y 2).val < 512 := (y 2).isLt
  have e0 : ((win0_9.blk t).view.emb y 0).val = (grid0.coords t 0).val := by blk_simp [e]
  have e1 : ((win0_9.blk t).view.emb y 1) = y 1 := Fin.ext (by blk_simp [e])
  have e2 : ((win0_9.blk t).view.emb y 2).val = (grid0.coords t 1).val * 512 + (y 2).val := by blk_simp [e]
  have eg : groupOf t (y 2) = ⟨((win0_9.blk t).view.emb y 2).val / 256, by rw [e2]; have h : (grid0.coords t 1).val < 2 := (grid0.coords t 1).isLt; omega⟩ :=
    Fin.ext (by show 2 * (grid0.coords t 1).val + (y 2).val / 256 = _ / 256; rw [e2]; omega)
  rw [eg, e1]
  exact poolRow_congr (blk1 m c t) fun j => blk6 m c t j (y 2) _ _ e0 e2

end Cert.Mixer

end
-- ==== Proof.Mixer.RefDft.lean ====
/- The reference's two transforms, at an index. -/
module

public import proofs.«01_k».proof.Proof.Gen.SeqmixReferenceIdeal
public import proofs.«01_k».proof.Proof.Mixer.Words
public import Idealize.ShloMosaic.Lib.Pipeline.ValueKit

@[expose] public section

set_option maxRecDepth 16384

noncomputable section

namespace Cert.Mixer

open Cert.SeqmixReferenceIdeal Cert.SeqmixReferenceIdeal.Gen Idealize.ShloMosaic Idealize.ShloMosaic.TcCoe Idealize.SL.Sem

/-- Position `k`, column `n` of batch row `b`: four positions share a row of the split tokens. -/
def token (A : S8x512x4096.Idx → EReal) (b : Fin 8) (k : Fin 2048) (n : Fin 1024) : EReal :=
  A (ix3 b ⟨k.val / 4, by omega⟩ ⟨k.val % 4 * 1024 + n.val, by omega⟩)

/-- The reference's phases: row times position times the step. -/
def refPhase : FVec Ideal S2048x2048 .f32 :=
  mulf (sitofp .f32 (muli (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (broadcastInDim S2048x2048 ![] bcast_S_S2048x2048 (Host.divf (mulf (constant S_ .f32 0x40000000#32) (Host.acos (constant S_ .f32 0xBF800000#32))) (constant S_ .f32 0x45000000#32)))

/-- The reference's scale, everywhere. -/
def refScale : FVec Ideal S2048x2048 .f32 :=
  broadcastInDim S2048x2048 ![] bcast_S_S2048x2048 (Host.divf (constant S_ .f32 0x3F800000#32) (Host.sqrt (constant S_ .f32 0x45000000#32)))

/-- The reference's transform of the tokens by a table. -/
def refDft (A : FVec Ideal S8x512x4096 .bf16) (T : FVec Ideal S2048x2048 .f32) : FVec Ideal S8x2048x1024 .bf16 :=
  truncf .bf16 (transpose S8x2048x1024 [0, 2, 1] (Host.dotGeneral dot_S8x2048x1024_S2048x2048_S8x1024x2048_1_1_02_0_n_n none (extf .f32 (shapeCast _ A shapeCasts_S8x512x4096_S8x2048x1024) bitsLt_bf16_f32) T) transposes_S8x1024x2048_S8x2048x1024_0_2_1) bitsLt_bf16_f32

/-- A phase is the product of its row and its position, times the step. -/
theorem phase_at (p k : Fin 2048) : refPhase (ix2 p k) = (FloatOps.sitofp FTy.f32 (BitVec.ofNat 32 (p.val * k.val)) : Ideal .f32) * ((step : ℝ) : EReal) := by
  unfold refPhase
  pointwise
  rw [step_word, BitVec.ofNat_mul]
  rfl

/-- The scale is the same everywhere. -/
theorem scale_at (p k : Fin 2048) : refScale (ix2 p k) = ((scale : ℝ) : EReal) := by
  unfold refScale
  pointwise
  rw [← scale_word]
  try rfl

/-- The reference's transform at an index: the sum over all positions. -/
theorem dft_at (A : FVec Ideal S8x512x4096 .bf16) (T : FVec Ideal S2048x2048 .f32) (b : Fin 8) (p : Fin 2048) (n : Fin 1024) :
    refDft A T (ix3 b p n) = ∑ k : Fin 2048, token A b k n * T (ix2 p k) := by
  unfold refDft
  pointwise
  refine Finset.sum_congr rfl fun k _ => ?_
  rfl

/-- The reference's cosine transform at an index. -/
theorem ref_cos (A : FVec Ideal S8x512x4096 .bf16) (b : Fin 8) (p : Fin 2048) (n : Fin 1024) :
    refDft A (mulf (Host.cos refPhase) refScale) (ix3 b p n)
      = ∑ k : Fin 2048, token A b k n * ((Real.cos ((p.val * k.val : ℕ) * step) * scale : ℝ) : EReal) := by
  rw [dft_at]
  refine Finset.sum_congr rfl fun k _ => congrArg (token A b k n * ·) ?_
  have h : p.val * k.val < 2 ^ 31 := lt_of_le_of_lt (Nat.mul_le_mul p.isLt.le k.isLt.le) (by norm_num)
  show Ideal.cos (refPhase (ix2 p k)) * refScale (ix2 p k) = _
  rw [phase_at, scale_at, cos_whole _ h, EReal.coe_mul]

/-- The reference's sine transform at an index. -/
theorem ref_sin (A : FVec Ideal S8x512x4096 .bf16) (b : Fin 8) (p : Fin 2048) (n : Fin 1024) :
    refDft A (mulf (Host.sin refPhase) refScale) (ix3 b p n)
      = ∑ k : Fin 2048, token A b k n * ((Real.sin ((p.val * k.val : ℕ) * step) * scale : ℝ) : EReal) := by
  rw [dft_at]
  refine Finset.sum_congr rfl fun k _ => congrArg (token A b k n * ·) ?_
  have h : p.val * k.val < 2 ^ 31 := lt_of_le_of_lt (Nat.mul_le_mul p.isLt.le k.isLt.le) (by norm_num)
  show Ideal.sin (refPhase (ix2 p k)) * refScale (ix2 p k) = _
  rw [phase_at, scale_at, sin_whole _ h, EReal.coe_mul]

end Cert.Mixer

end
-- ==== Proof.Mixer.RefSum.lean ====
/- The reference's running sum and its lookup, at an index. -/
module

public import proofs.«01_k».proof.Proof.Gen.SeqmixReferenceIdeal
public import Idealize.ShloMosaic.Lib.Pipeline.ValueKit
public import Idealize.ShloMosaic.Lib.Routing.OpsOne

@[expose] public section

set_option maxRecDepth 16384

noncomputable section

namespace Cert.Mixer

open Cert.SeqmixReferenceIdeal Cert.SeqmixReferenceIdeal.Gen Idealize.ShloMosaic Idealize.ShloMosaic.TcCoe Idealize.SL.Sem

/-- The lookup by a pair of indices, at an index: where the pair holds a row `r` and a group `q`, the entry there. -/
theorem lookup_at (x : S8x2049x4x256.Idx → EReal) (idx : IVec S2048x4x2 32) (b : Fin 8) (p : Fin 2048) (g : Fin 4) (n : Fin 256)
    (r : Fin 2049) (hr : idx (ix3 p g (0 : Fin 2)) = BitVec.ofNat 32 r.val) (q : Fin 4)
    (hq : idx (ix3 p g (1 : Fin 2)) = BitVec.ofNat 32 q.val) :
    Host.gather gather_S8x2049x4x256_S2048x4x2_S8x2048x4x256_03_12_n_n_12_2_811256 x idx (ix4 b p g n) = x (ix4 b r q n) := by
  unfold Host.gather
  refine congrArg x (funext fun a => Fin.ext ?_)
  have s0 : ∀ k, GatherDims.siIdx gather_S8x2049x4x256_S2048x4x2_S8x2048x4x256_03_12_n_n_12_2_811256 (ix4 b p g n) k = ix3 p g ⟨k.val, k.isLt⟩ := by
    intro k
    funext a
    match a with
    | ⟨0, _⟩ => rfl
    | ⟨1, _⟩ => rfl
    | ⟨2, _⟩ => rfl
  have hrl := r.isLt
  have hql := q.isLt
  match a with
  | ⟨0, _⟩ =>
    show 0 + 0 + b.val = b.val
    omega
  | ⟨1, _⟩ =>
    show min (idx (GatherDims.siIdx gather_S8x2049x4x256_S2048x4x2_S8x2048x4x256_03_12_n_n_12_2_811256 (ix4 b p g n) ⟨0, by decide⟩)).toInt.toNat 2048 + 0 + 0 = r.val
    rw [s0]
    erw [hr]
    rw [StableHlo.Predicate.toInt_ofNat_small _ (by omega)]
    omega
  | ⟨2, _⟩ =>
    show min (idx (GatherDims.siIdx gather_S8x2049x4x256_S2048x4x2_S8x2048x4x256_03_12_n_n_12_2_811256 (ix4 b p g n) ⟨1, by decide⟩)).toInt.toNat 3 + 0 + 0 = q.val
    rw [s0]
    erw [hq]
    rw [StableHlo.Predicate.toInt_ofNat_small _ (by omega)]
    omega
  | ⟨3, _⟩ =>
    show 0 + 0 + n.val = n.val
    omega

/-- Adding a list's values one by one to a start is the start plus their sum. -/
theorem foldl_add {ι : Type} (l : List ι) (h : ι → EReal) (v : EReal) : l.foldl (fun r n => r + h n) v = v + (l.map h).sum := by
  induction l generalizing v with
  | nil => simp
  | cons a l ih => rw [List.foldl_cons, ih, List.map_cons, List.sum_cons, add_assoc]

/-- A window that ends at position `p`, padded in front: the sum up to `p`. -/
theorem sum_padded (z : ℕ → EReal) (p : ℕ) (hp : p < 2048) :
    ∑ w ∈ Finset.range 2048, (if 2047 ≤ p + w then z (p + w - 2047) else 0) = ∑ k ∈ Finset.range (p + 1), z k := by
  have e : 2048 = (2047 - p) + (p + 1) := by omega
  rw [e, Finset.sum_range_add]
  have h1 : ∑ w ∈ Finset.range (2047 - p), (if 2047 ≤ p + w then z (p + w - 2047) else 0) = 0 :=
    Finset.sum_eq_zero fun w hw => if_neg (by rw [Finset.mem_range] at hw; omega)
  rw [h1, zero_add]
  refine Finset.sum_congr rfl fun w _ => ?_
  rw [if_pos (by omega), show p + (2047 - p + w) - 2047 = w by omega]

/-- The window's shape. -/
abbrev WS : Shape := ⟨4, ![1, 2048, 1, 1]⟩

/-- The window's positions are as many as the sequence's. -/
theorem WS_numel : WS.numel = 2048 := by rw [Shape.numel_rank4]; rfl

/-- Position `n` of the window lies at `n` on the sequence's axis. -/
theorem WS_symm (n : Fin WS.numel) : WS.rowMajor.symm n = (ix4 (0 : Fin 1) (n.cast WS_numel) (0 : Fin 1) (0 : Fin 1) : WS.Idx) :=
  (WS.rowMajor.symm_apply_eq).2 (Fin.ext (by
    rw [Shape.rowMajor_val_four]
    show n.val = ((0 * 2048 + n.val) * 1 + 0) * 1 + 0
    omega))

/-- The reference's running sum, at an index: the sum of the tokens up to there. -/
theorem running_at (x : FVec Ideal S8x2048x4x256 .f32) (v : FVec Ideal S_ .f32) (hv : v ix0 = (0 : EReal)) (z : ℕ → EReal)
    (b : Fin 8) (p : Fin 2048) (g : Fin 4) (n : Fin 256) (hz : ∀ k : Fin 2048, x (ix4 b k g n) = z k.val) :
    Host.reduceWindowAdd ![1, 2048, 1, 1] ![1, 1, 1, 1] ![0, 2047, 0, 0] ![0, 0, 0, 0] x v
      reduceWindows_S8x2048x4x256_S8x2048x4x256_w1s1p0_0_w2048s1p2047_0_w1s1p0_0_w1s1p0_0 h_S_ (ix4 b p g n)
      = ∑ k ∈ Finset.range (p.val + 1), z k := by
  have hp := p.isLt
  have hb := b.isLt
  have hg := g.isLt
  have hn := n.isLt
  have hv' : v (Shape.Idx.first h_S_) = (0 : EReal) := (congrArg v (funext fun a => a.elim0)).trans hv
  unfold Host.reduceWindowAdd
  rw [Ideal.hostReduceWindowAdd_def, hv']
  unfold Ideal.hostReduceWindowAdd Host.reduceWindow
  dsimp only
  refine (foldl_add (List.finRange WS.numel) _ 0).trans ?_
  rw [zero_add, ← sum_padded z p.val hp]
  trans ((List.finRange WS.numel).map fun w : Fin WS.numel => if 2047 ≤ p.val + w.val then z (p.val + w.val - 2047) else 0).sum
  · refine congrArg List.sum (List.map_congr_left fun w _ => ?_)
    have hw : w.val < 2048 := (w.cast WS_numel).isLt
    have w0 : (WS.rowMajor.symm w 0).val = 0 := by rw [WS_symm]; rfl
    have w1 : (WS.rowMajor.symm w 1).val = w.val := by rw [WS_symm]; rfl
    have w2 : (WS.rowMajor.symm w 2).val = 0 := by rw [WS_symm]; rfl
    have w3 : (WS.rowMajor.symm w 3).val = 0 := by rw [WS_symm]; rfl
    split
    · next hin =>
      have h1 : 2047 ≤ p.val * 1 + (WS.rowMajor.symm w 1).val := (hin 1).1
      rw [w1] at h1
      rw [if_pos (by omega), show p.val + w.val - 2047 = (⟨p.val + w.val - 2047, by omega⟩ : Fin 2048).val from rfl, ← hz]
      refine congrArg x (funext fun a => Fin.ext ?_)
      match a with
      | ⟨0, _⟩ =>
        show b.val * 1 + (WS.rowMajor.symm w 0).val - 0 = b.val
        omega
      | ⟨1, _⟩ =>
        show p.val * 1 + (WS.rowMajor.symm w 1).val - 2047 = p.val + w.val - 2047
        omega
      | ⟨2, _⟩ =>
        show g.val * 1 + (WS.rowMajor.symm w 2).val - 0 = g.val
        omega
      | ⟨3, _⟩ =>
        show n.val * 1 + (WS.rowMajor.symm w 3).val - 0 = n.val
        omega
    · next hin =>
      rw [if_neg fun hle => hin fun a => by
        match a with
        | ⟨0, _⟩ =>
          show 0 ≤ b.val * 1 + (WS.rowMajor.symm w 0).val ∧ b.val * 1 + (WS.rowMajor.symm w 0).val - 0 < 8
          omega
        | ⟨1, _⟩ =>
          show 2047 ≤ p.val * 1 + (WS.rowMajor.symm w 1).val ∧ p.val * 1 + (WS.rowMajor.symm w 1).val - 2047 < 2048
          omega
        | ⟨2, _⟩ =>
          show 0 ≤ g.val * 1 + (WS.rowMajor.symm w 2).val ∧ g.val * 1 + (WS.rowMajor.symm w 2).val - 0 < 4
          omega
        | ⟨3, _⟩ =>
          show 0 ≤ n.val * 1 + (WS.rowMajor.symm w 3).val ∧ n.val * 1 + (WS.rowMajor.symm w 3).val - 0 < 256
          omega]
  · rw [Routing.map_finRange_val WS.numel (fun w => if 2047 ≤ p.val + w then z (p.val + w - 2047) else 0), WS_numel]
    rfl

end Cert.Mixer

end
-- ==== Proof.Mixer.RefPool.lean ====
/- The reference's pooling, at an index. -/
module

public import proofs.«01_k».proof.Proof.Gen.SeqmixReferenceIdeal.Run
public import proofs.«01_k».proof.Proof.Mixer.BandWords
public import proofs.«01_k».proof.Proof.Mixer.RefSum

@[expose] public section

set_option maxRecDepth 16384

noncomputable section

namespace Cert.Mixer

open Cert.SeqmixReferenceIdeal Cert.SeqmixReferenceIdeal.Gen Idealize.ShloMosaic Idealize.ShloMosaic.TcCoe Idealize.SL.Sem

/-- The reference's tokens by group. -/
def refZ (P : FVec Ideal S8x2048x1024 .bf16) : FVec Ideal S8x2048x4x256 .f32 :=
  extf .f32 (shapeCast _ P shapeCasts_S8x2048x1024_S8x2048x4x256) bitsLt_bf16_f32

/-- The reference's running sums, from a row of zeros. -/
def refSums (P : FVec Ideal S8x2048x1024 .bf16) : FVec Ideal S8x2049x4x256 .f32 :=
  concatenate S8x2049x4x256 1 [⟨S8x1x4x256, (broadcastInDim S8x1x4x256 ![] bcast_S_S8x1x4x256 (constant S_ .f32 0x00000000#32))⟩, ⟨S8x2048x4x256, (Host.reduceWindowAdd ![1, 2048, 1, 1] ![1, 1, 1, 1] ![0, 2047, 0, 0] ![0, 0, 0, 0] (refZ P) (broadcastInDim S_ ![] bcast_S_S_ (constant S_ .f32 0x00000000#32)) reduceWindows_S8x2048x4x256_S8x2048x4x256_w1s1p0_0_w2048s1p2047_0_w1s1p0_0_w1s1p0_0 h_S_)⟩] concatenates_S8x1x4x256_S8x2048x4x256_S8x2049x4x256_d1

/-- The half widths, at every position. -/
def refHalf : IVec S2048x4 32 :=
  broadcastInDim S2048x4 ![0, 1] bcast_S1x4_S2048x4_0_1 (broadcastInDim S1x4 ![1] bcast_S4_S1x4_1 ((fun i => lit0 (S4.rowMajor i))))

/-- The positions, in every group. -/
def refPos : IVec S2048x4 32 :=
  broadcastInDim S2048x4 ![0, 1] bcast_S2048x1_S2048x4_0_1 (broadcastInDim S2048x1 ![0] bcast_S2048_S2048x1_0 (iotaInDim S2048 32 0))

/-- A word kept between 0 and the length. -/
def refClip (d : IVec S2048x4 32) : IVec S2048x4 32 :=
  minsi (broadcastInDim S2048x4 ![] bcast_S_S2048x4 (id (constantI S_ 32 2048#32))) (maxsi (broadcastInDim S2048x4 ![] bcast_S_S2048x4 (id (constantI S_ 32 0#32))) d)

/-- The pairs of row and group that a table of rows looks up. -/
def refPairs (w : IVec S2048x4 32) : IVec S2048x4x2 32 :=
  concatenate S2048x4x2 2 [⟨S2048x4x1, (broadcastInDim S2048x4x1 ![0, 1] bcast_S2048x4_S2048x4x1_0_1 (select (cmpi .slt w (broadcastInDim S2048x4 ![] bcast_S_S2048x4 (constantI S_ 32 0#32))) (addi w (broadcastInDim S2048x4 ![] bcast_S_S2048x4 (constantI S_ 32 2049#32))) w))⟩, ⟨S2048x4x1, (broadcastInDim S2048x4x1 ![0, 1] bcast_S2048x4_S2048x4x1_0_1 (broadcastInDim S2048x4 ![0, 1] bcast_S1x4_S2048x4_0_1 (select (cmpi .slt (broadcastInDim S1x4 ![1] bcast_S4_S1x4_1 (iotaInDim S4 32 0)) (broadcastInDim S1x4 ![] bcast_S_S1x4 (constantI S_ 32 0#32))) (addi (broadcastInDim S1x4 ![1] bcast_S4_S1x4_1 (iotaInDim S4 32 0)) (broadcastInDim S1x4 ![] bcast_S_S1x4 (constantI S_ 32 4#32))) (broadcastInDim S1x4 ![1] bcast_S4_S1x4_1 (iotaInDim S4 32 0)))))⟩] concatenates_S2048x4x1_S2048x4x1_S2048x4x2_d2

/-- The running sums at a table of rows. -/
def refLook (P : FVec Ideal S8x2048x1024 .bf16) (w : IVec S2048x4 32) : FVec Ideal S8x2048x4x256 .f32 :=
  Host.gather gather_S8x2049x4x256_S2048x4x2_S8x2048x4x256_03_12_n_n_12_2_811256 (refSums P) (refPairs w)

/-- The windows' lengths, everywhere. -/
def refCount : FVec Ideal S8x2048x4x256 .f32 :=
  broadcastInDim S8x2048x4x256 ![0, 1, 2, 3] bcast_S1x2048x4x1_S8x2048x4x256_0_1_2_3 (broadcastInDim S1x2048x4x1 ![1, 2] bcast_S2048x4_S1x2048x4x1_1_2 (sitofp .f32 (subi (refClip (addi refPos refHalf)) (refClip (subi refPos refHalf)))))

/-- The reference's pooling: the window's mean less the token. -/
def refPool (P : FVec Ideal S8x2048x1024 .bf16) : FVec Ideal S8x2048x1024 .bf16 :=
  shapeCast _ (truncf .bf16 (subf (Host.divf (subf (refLook P (refClip (addi refPos refHalf))) (refLook P (refClip (subi refPos refHalf)))) refCount) (refZ P)) bitsLt_bf16_f32) shapeCasts_S8x2048x4x256_S8x2048x1024

/-- The reference's third result is its pooling of the second argument. -/
theorem ref_out (m : (ℓ : Loc nD τ sig) → Buf (Elt Ideal) ℓ) (c : Dev nD) :
    Cert.SeqmixReferenceIdeal.Value.res_main_v85 m c = refPool (m ((c.tc : Thread nD τ).loc main_arg1)) := rfl

/-- The half widths' literal. -/
theorem half_at (p : Fin 2048) (g : Fin 4) : refHalf (ix2 p g) = BitVec.ofNat 32 (half g) := by
  unfold refHalf
  pointwise
  have e : S4.rowMajor (ix1 g) = g := Fin.ext (by rw [Shape.rowMajor_val_one]; rfl)
  have h : ∀ g : Fin 4, lit0 g = BitVec.ofNat 32 (half g) := by decide
  first
  | exact h g
  | (rw [e]; exact h g)

/-- The positions. -/
theorem pos_at (p : Fin 2048) (g : Fin 4) : refPos (ix2 p g) = BitVec.ofNat 32 p.val := by
  unfold refPos
  pointwise
  try rfl

/-- The windows' first rows. -/
theorem lo_at (p : Fin 2048) (g : Fin 4) : refClip (subi refPos refHalf) (ix2 p g) = BitVec.ofNat 32 (p.val - half g) := by
  rw [← lo_word g p, ← half_at p g, ← pos_at p g]
  rfl

/-- The rows after the windows' last. -/
theorem hi_at (p : Fin 2048) (g : Fin 4) : refClip (addi refPos refHalf) (ix2 p g) = BitVec.ofNat 32 (min (p.val + half g) 2048) := by
  rw [← hi_word g p, ← half_at p g, ← pos_at p g]
  rfl

/-- A word that is a small natural is not negative: a choice by its sign keeps it. -/
theorem keep_word (a : ℕ) (ha : a < 2 ^ 31) (x : BitVec 32) :
    Scalar.select (IntOp.cmpi CmpIPredicate.slt (BitVec.ofNat 32 a) 0#32) x (BitVec.ofNat 32 a) = BitVec.ofNat 32 a := by
  rw [show (0#32 : BitVec 32) = BitVec.ofNat 32 0 from rfl, WordCmp.cmpi_slt_ofNat ha (by norm_num)]
  simp [Scalar.select]

/-- The row of a pair. -/
theorem pairs_row (w : IVec S2048x4 32) (p : Fin 2048) (g : Fin 4) (a : ℕ) (ha : a < 2 ^ 31) (hw : w (ix2 p g) = BitVec.ofNat 32 a) :
    refPairs w (ix3 p g (0 : Fin 2)) = BitVec.ofNat 32 a := by
  unfold refPairs
  pointwise
  simp only [hw]
  exact keep_word a ha _

/-- The group of a pair. -/
theorem pairs_group (w : IVec S2048x4 32) (p : Fin 2048) (g : Fin 4) :
    refPairs w (ix3 p g (1 : Fin 2)) = BitVec.ofNat 32 g.val := by
  unfold refPairs
  pointwise
  exact keep_word g.val (by omega) _

/-- A token by group, at an index. -/
theorem z_at (P : FVec Ideal S8x2048x1024 .bf16) (b : Fin 8) (p : Fin 2048) (g : Fin 4) (n : Fin 256) :
    refZ P (ix4 b p g n) = P (ix3 b p ⟨g.val * 256 + n.val, by omega⟩) := by
  unfold refZ
  pointwise
  try rfl

/-- The tokens of one column, zero past the end. -/
def column1 (P : S8x2048x1024.Idx → EReal) (b : Fin 8) (n : Fin 1024) (k : ℕ) : EReal :=
  if h : k < 2048 then P (ix3 b ⟨k, h⟩ n) else 0

/-- The running sums at a row: the sum of the tokens before it. -/
theorem sums_at (P : FVec Ideal S8x2048x1024 .bf16) (b : Fin 8) (r : Fin 2049) (g : Fin 4) (n : Fin 256) :
    refSums P (ix4 b r g n) = ∑ k ∈ Finset.range r.val, column1 P b ⟨g.val * 256 + n.val, by omega⟩ k := by
  have hr := r.isLt
  have hz : ∀ k : Fin 2048, refZ P (ix4 b k g n) = column1 P b ⟨g.val * 256 + n.val, by omega⟩ k.val := fun k => by
    rw [z_at]
    unfold column1
    rw [dif_pos k.isLt]
  have hv : (broadcastInDim S_ ![] bcast_S_S_ (constant S_ .f32 0x00000000#32) : FVec Ideal S_ .f32) ix0 = (0 : EReal) := by
    pointwise
    try simp
  unfold refSums
  pointwise
  split
  · next h =>
    rw [show r.val = 0 by omega, Finset.range_zero, Finset.sum_empty]
  · next h =>
    refine (running_at (refZ P) _ hv (column1 P b ⟨g.val * 256 + n.val, by omega⟩) b ⟨r.val - 1, by omega⟩ g n (fun k => hz k)).trans ?_
    rw [show r.val - 1 + 1 = r.val by omega]

/-- The reference's lookup of the running sums: the sum of the tokens before the row looked up. -/
theorem look_at (P : FVec Ideal S8x2048x1024 .bf16) (w : IVec S2048x4 32) (b : Fin 8) (p : Fin 2048) (g : Fin 4) (n : Fin 256)
    (a : ℕ) (ha : a < 2049) (hw : w (ix2 p g) = BitVec.ofNat 32 a) :
    refLook P w (ix4 b p g n) = ∑ k ∈ Finset.range a, column1 P b ⟨g.val * 256 + n.val, by omega⟩ k := by
  unfold refLook
  rw [lookup_at (refSums P) (refPairs w) b p g n ⟨a, ha⟩ (pairs_row w p g a (by omega) hw) g (pairs_group w p g), sums_at]

/-- The windows' lengths, at an index. -/
theorem count_at (b : Fin 8) (p : Fin 2048) (g : Fin 4) (n : Fin 256) :
    refCount (ix4 b p g n) = (((min (p.val + half g) 2048 - (p.val - half g) : ℕ) : ℝ) : EReal) := by
  have e : refCount (ix4 b p g n)
      = FloatOps.sitofp FTy.f32 (IntOp.subi (refClip (addi refPos refHalf) (ix2 p g)) (refClip (subi refPos refHalf) (ix2 p g))) := by
    unfold refCount
    generalize refClip (addi refPos refHalf) = u
    generalize refClip (subi refPos refHalf) = v
    pointwise
    try rfl
  rw [e, hi_at, lo_at, length_word _ _ (by omega), sitofp_word _ (by omega)]

/-- The reference's pooling at an index. -/
theorem ref_pool (P : FVec Ideal S8x2048x1024 .bf16) (b : Fin 8) (p : Fin 2048) (g : Fin 4) (n : Fin 256) :
    refPool P (ix3 b p ⟨g.val * 256 + n.val, by omega⟩)
      = Ideal.div (∑ k ∈ Finset.range (min (p.val + half g) 2048), column1 P b ⟨g.val * 256 + n.val, by omega⟩ k
            - ∑ k ∈ Finset.range (p.val - half g), column1 P b ⟨g.val * 256 + n.val, by omega⟩ k)
          (((min (p.val + half g) 2048 - (p.val - half g) : ℕ) : ℝ) : EReal)
        - P (ix3 b p ⟨g.val * 256 + n.val, by omega⟩) := by
  have e : refPool P (ix3 b p ⟨g.val * 256 + n.val, by omega⟩)
      = Ideal.div (refLook P (refClip (addi refPos refHalf)) (ix4 b p g n) - refLook P (refClip (subi refPos refHalf)) (ix4 b p g n))
          (refCount (ix4 b p g n)) - refZ P (ix4 b p g n) := by
    unfold refPool
    generalize refLook P (refClip (addi refPos refHalf)) = u
    generalize refLook P (refClip (subi refPos refHalf)) = v
    generalize refCount = q
    generalize refZ P = z
    pointwise
  rw [e, look_at P _ b p g n _ (by omega) (hi_at p g), look_at P _ b p g n _ (by omega) (lo_at p g), count_at, z_at]

end Cert.Mixer

end
-- ==== Proof.Mixer.Bridge.lean ====
/- The mixers' launch and its reference over the reals: both arrays are the same real number at every index. -/
module

public import proofs.«01_k».proof.Proof.Mixer.Trig0
public import proofs.«01_k».proof.Proof.Mixer.Trig2
public import proofs.«01_k».proof.Proof.Mixer.Band
public import proofs.«01_k».proof.Proof.Mixer.Arr
public import proofs.«01_k».proof.Proof.Mixer.RefDft
public import proofs.«01_k».proof.Proof.Mixer.RefPool

@[expose] public section

set_option maxRecDepth 16384

noncomputable section

namespace Cert.Mixer

open Cert.SeqmixIdeal Cert.SeqmixIdeal.Gen Idealize.ShloMosaic Idealize.ShloMosaic.TcCoe Idealize.SL.Sem
open Real (cos sin)

/-- A finite sum of reals, read as extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over all positions, residue by residue. -/
theorem sum_residues (f : ℕ → ℝ) :
    ∑ k : Fin 2048, f k.val = ∑ r : Fin 4, ∑ j : Fin 512, f (4 * j.val + r.val) := by
  rw [← Fintype.sum_equiv (finProdFinEquiv (m := 512) (n := 4)) (fun x => f (finProdFinEquiv x : Fin (512 * 4)).val) (fun k : Fin 2048 => f k.val) (fun _ => rfl),
    Fintype.sum_prod_type, Finset.sum_comm]
  refine Finset.sum_congr rfl fun r _ => Finset.sum_congr rfl fun j _ => congrArg f ?_
  show r.val + 4 * j.val = _
  omega

section Dft

variable (a : S8x512x4096.Idx → ℝ) (b : Fin 8) (n : Fin 1024) (k : ℕ)

/-- The tokens of residue `r` against row `k` of the cosine table. -/
def cosPart (r : Fin 4) : ℝ :=
  ∑ j : Fin 512, cos ((k * (4 * j.val + r.val) : ℕ) * step) * scale * a (ix3 b j ⟨r.val * 1024 + n.val, by omega⟩)

/-- The tokens of residue `r` against row `k` of the sine table. -/
def sinPart (r : Fin 4) : ℝ :=
  ∑ j : Fin 512, sin ((k * (4 * j.val + r.val) : ℕ) * step) * scale * a (ix3 b j ⟨r.val * 1024 + n.val, by omega⟩)

/-- The token at a position, as a real number, zero past the end. -/
def tokenR (i : ℕ) : ℝ :=
  if h : i < 2048 then a (ix3 b ⟨i / 4, by omega⟩ ⟨i % 4 * 1024 + n.val, by omega⟩) else 0

/-- The token of residue `r` in row `j` of the split tokens. -/
theorem tokenR_split (j : Fin 512) (r : Fin 4) :
    tokenR a b n (4 * j.val + r.val) = a (ix3 b j ⟨r.val * 1024 + n.val, by omega⟩) := by
  unfold tokenR
  rw [dif_pos (by omega)]
  exact congrArg a (ix3_eq rfl (by show (4 * j.val + r.val) / 4 = j.val; omega)
    (by show (4 * j.val + r.val) % 4 * 1024 + n.val = r.val * 1024 + n.val; omega))

/-- The tokens as real numbers. -/
theorem token_real (i : Fin 2048) : token (fun x => ((a x : ℝ) : EReal)) b i n = ((tokenR a b n i.val : ℝ) : EReal) := by
  unfold token tokenR
  rw [dif_pos i.isLt]

/-- The whole cosine sum of a row in quarter `q`, residue by residue. -/
theorem cos_sum (q : Fin 4) :
    ∑ i : Fin 2048, tokenR a b n i.val * (cos (((q.val * 512 + k) * i.val : ℕ) * step) * scale)
      = ∑ r : Fin 4, ((![![1, 1, 1, 1], ![1, 0, -1, 0], ![1, -1, 1, -1], ![1, 0, -1, 0]] q r : ℝ) * cosPart a b n k r
          + (![![0, 0, 0, 0], ![0, -1, 0, 1], ![0, 0, 0, 0], ![0, 1, 0, -1]] q r : ℝ) * sinPart a b n k r) := by
  rw [sum_residues fun i => tokenR a b n i * (cos (((q.val * 512 + k) * i : ℕ) * step) * scale)]
  refine Finset.sum_congr rfl fun r _ => ?_
  unfold cosPart sinPart
  rw [Finset.mul_sum, Finset.mul_sum, ← Finset.sum_add_distrib]
  refine Finset.sum_congr rfl fun j _ => ?_
  rw [tokenR_split, cos_row]
  ring

/-- The whole sine sum of a row in quarter `q`, residue by residue. -/
theorem sin_sum (q : Fin 4) :
    ∑ i : Fin 2048, tokenR a b n i.val * (sin (((q.val * 512 + k) * i.val : ℕ) * step) * scale)
      = ∑ r : Fin 4, ((![![1, 1, 1, 1], ![1, 0, -1, 0], ![1, -1, 1, -1], ![1, 0, -1, 0]] q r : ℝ) * sinPart a b n k r
          + (![![0, 0, 0, 0], ![0, 1, 0, -1], ![0, 0, 0, 0], ![0, -1, 0, 1]] q r : ℝ) * cosPart a b n k r) := by
  rw [sum_residues fun i => tokenR a b n i * (sin (((q.val * 512 + k) * i : ℕ) * step) * scale)]
  refine Finset.sum_congr rfl fun r _ => ?_
  unfold cosPart sinPart
  rw [Finset.mul_sum, Finset.mul_sum, ← Finset.sum_add_distrib]
  refine Finset.sum_congr rfl fun j _ => ?_
  rw [tokenR_split, sin_row]
  ring

end Dft

section Launch

variable (m : (ℓ : Loc nD τ sig) → Buf (Elt Ideal) ℓ)

/-- A product of a table and a column, from the table's entries as real numbers. -/
theorem prod_real (T : S8x512x512.Idx → EReal) (a : S8x512x4096.Idx → ℝ) (r : Fin 4) (b : Fin 8) (n : Fin 1024) (k : Fin 512)
    (r' : Fin 8) (w : Fin 512 → ℝ) (hT : ∀ j : Fin 512, T (ix3 r' k j) = ((w j : ℝ) : EReal)) :
    prod T (column (fun x => ((a x : ℝ) : EReal)) r b n) r' k 0
      = ((∑ j : Fin 512, w j * a (ix3 b j ⟨r.val * 1024 + n.val, by omega⟩) : ℝ) : EReal) := by
  rw [coe_sum]
  unfold prod column
  refine Finset.sum_congr rfl fun j _ => ?_
  rw [hT, EReal.coe_mul]
  rfl

/-- A cos row in quarter `q`, from real products. -/
theorem cos_join (q : Fin 4) (C S : Fin 4 → ℝ) :
    (if q.val = 0 then ((C 0 : EReal) + (C 2 : EReal)) + ((C 1 : EReal) + (C 3 : EReal))
      else if q.val = 1 then ((C 0 : EReal) - (C 2 : EReal)) - ((S 1 : EReal) - (S 3 : EReal))
      else if q.val = 2 then ((C 0 : EReal) + (C 2 : EReal)) - ((C 1 : EReal) + (C 3 : EReal))
      else ((C 0 : EReal) - (C 2 : EReal)) + ((S 1 : EReal) - (S 3 : EReal)) : EReal)
      = ((∑ r : Fin 4, ((![![1, 1, 1, 1], ![1, 0, -1, 0], ![1, -1, 1, -1], ![1, 0, -1, 0]] q r : ℝ) * C r + (![![0, 0, 0, 0], ![0, -1, 0, 1], ![0, 0, 0, 0], ![0, 1, 0, -1]] q r : ℝ) * S r) : ℝ) : EReal) := by
  rw [Fin.sum_univ_four]
  fin_cases q <;>
    · simp
      norm_cast
      try ring

/-- A sin row in quarter `q`, from real products. -/
theorem sin_join (q : Fin 4) (C S : Fin 4 → ℝ) :
    (if q.val = 0 then ((S 0 : EReal) + (S 2 : EReal)) + ((S 1 : EReal) + (S 3 : EReal))
      else if q.val = 1 then ((S 0 : EReal) - (S 2 : EReal)) + ((C 1 : EReal) - (C 3 : EReal))
      else if q.val = 2 then ((S 0 : EReal) + (S 2 : EReal)) - ((S 1 : EReal) + (S 3 : EReal))
      else ((S 0 : EReal) - (S 2 : EReal)) - ((C 1 : EReal) - (C 3 : EReal)) : EReal)
      = ((∑ r : Fin 4, ((![![1, 1, 1, 1], ![1, 0, -1, 0], ![1, -1, 1, -1], ![1, 0, -1, 0]] q r : ℝ) * S r + (![![0, 0, 0, 0], ![0, 1, 0, -1], ![0, 0, 0, 0], ![0, -1, 0, 1]] q r : ℝ) * C r) : ℝ) : EReal) := by
  rw [Fin.sum_univ_four]
  fin_cases q <;>
    · simp
      norm_cast
      try ring

/-- The launch's cosine array on real tokens. -/
theorem cos_out (c : Dev nD) (a : S8x512x4096.Idx → ℝ) (b : Fin 8) (p : Fin 2048) (n : Fin 1024) :
    cosOut (V m c main_v265) (fun x => ((a x : ℝ) : EReal)) (ix3 b p n)
      = ((∑ i : Fin 2048, tokenR a b n i.val * (cos ((p.val * i.val : ℕ) * step) * scale) : ℝ) : EReal) := by
  have hp := p.isLt
  obtain ⟨k, hk⟩ : ∃ k : Fin 512, k.val = p.val % 512 := ⟨⟨p.val % 512, by omega⟩, rfl⟩
  obtain ⟨q, hq⟩ : ∃ q : Fin 4, q.val = p.val / 512 := ⟨⟨p.val / 512, by omega⟩, rfl⟩
  have hpq : p.val = q.val * 512 + k.val := by omega
  have c0 : prod (V m c main_v265) (column (fun x => ((a x : ℝ) : EReal)) 0 b n) 0 k 0 = ((cosPart a b n k.val 0 : ℝ) : EReal) :=
    prod_real (V m c main_v265) a 0 b n k 0 _ (fun j => cos_table_0 m c k j)
  have c1 : prod (V m c main_v265) (column (fun x => ((a x : ℝ) : EReal)) 1 b n) 2 k 0 = ((cosPart a b n k.val 1 : ℝ) : EReal) :=
    prod_real (V m c main_v265) a 1 b n k 2 _ (fun j => cos_table_1 m c k j)
  have s1 : prod (V m c main_v265) (column (fun x => ((a x : ℝ) : EReal)) 1 b n) 3 k 0 = ((sinPart a b n k.val 1 : ℝ) : EReal) :=
    prod_real (V m c main_v265) a 1 b n k 3 _ (fun j => sin_table_1 m c k j)
  have c2 : prod (V m c main_v265) (column (fun x => ((a x : ℝ) : EReal)) 2 b n) 4 k 0 = ((cosPart a b n k.val 2 : ℝ) : EReal) :=
    prod_real (V m c main_v265) a 2 b n k 4 _ (fun j => cos_table_2 m c k j)
  have c3 : prod (V m c main_v265) (column (fun x => ((a x : ℝ) : EReal)) 3 b n) 6 k 0 = ((cosPart a b n k.val 3 : ℝ) : EReal) :=
    prod_real (V m c main_v265) a 3 b n k 6 _ (fun j => cos_table_3 m c k j)
  have s3 : prod (V m c main_v265) (column (fun x => ((a x : ℝ) : EReal)) 3 b n) 7 k 0 = ((sinPart a b n k.val 3 : ℝ) : EReal) :=
    prod_real (V m c main_v265) a 3 b n k 7 _ (fun j => sin_table_3 m c k j)
  rw [hpq, cos_sum a b n k.val q, ← cos_join]
  have e : cosOut (V m c main_v265) (fun x => ((a x : ℝ) : EReal)) (ix3 b p n)
      = cosRow (V m c main_v265) (column (fun x => ((a x : ℝ) : EReal)) 0 b n) (column (fun x => ((a x : ℝ) : EReal)) 1 b n)
          (column (fun x => ((a x : ℝ) : EReal)) 2 b n) (column (fun x => ((a x : ℝ) : EReal)) 3 b n) q.val k 0 := by
    rw [show k = (⟨p.val % 512, Nat.mod_lt _ (by decide)⟩ : Fin 512) from Fin.ext hk, hq]
    rfl
  rw [e]
  unfold cosRow
  rw [c0, c1, c2, c3, s1, s3]

/-- The launch's cosine array is the reference's transform of the same real tokens. -/
theorem cos_eq (c : Dev nD) (a : S8x512x4096.Idx → ℝ) :
    cosOut (V m c main_v265) (fun x => ((a x : ℝ) : EReal))
      = refDft (fun x => ((a x : ℝ) : EReal)) (mulf (Host.cos refPhase) refScale) := by
  funext i
  obtain ⟨b, p, n, rfl⟩ : ∃ b p n, i = ix3 b p n := ⟨i 0, i 1, i 2, by funext x; match x with | ⟨0, _⟩ => rfl | ⟨1, _⟩ => rfl | ⟨2, _⟩ => rfl⟩
  rw [cos_out, ref_cos, coe_sum]
  refine Finset.sum_congr rfl fun k _ => ?_
  rw [token_real, EReal.coe_mul]

/-- The launch's sine array on real tokens. -/
theorem sin_out (c : Dev nD) (a : S8x512x4096.Idx → ℝ) (b : Fin 8) (p : Fin 2048) (n : Fin 1024) :
    sinOut (V m c main_v265) (fun x => ((a x : ℝ) : EReal)) (ix3 b p n)
      = ((∑ i : Fin 2048, tokenR a b n i.val * (sin ((p.val * i.val : ℕ) * step) * scale) : ℝ) : EReal) := by
  have hp := p.isLt
  obtain ⟨k, hk⟩ : ∃ k : Fin 512, k.val = p.val % 512 := ⟨⟨p.val % 512, by omega⟩, rfl⟩
  obtain ⟨q, hq⟩ : ∃ q : Fin 4, q.val = p.val / 512 := ⟨⟨p.val / 512, by omega⟩, rfl⟩
  have hpq : p.val = q.val * 512 + k.val := by omega
  have s0 : prod (V m c main_v265) (column (fun x => ((a x : ℝ) : EReal)) 0 b n) 1 k 0 = ((sinPart a b n k.val 0 : ℝ) : EReal) :=
    prod_real (V m c main_v265) a 0 b n k 1 _ (fun j => sin_table_0 m c k j)
  have c1 : prod (V m c main_v265) (column (fun x => ((a x : ℝ) : EReal)) 1 b n) 2 k 0 = ((cosPart a b n k.val 1 : ℝ) : EReal) :=
    prod_real (V m c main_v265) a 1 b n k 2 _ (fun j => cos_table_1 m c k j)
  have s1 : prod (V m c main_v265) (column (fun x => ((a x : ℝ) : EReal)) 1 b n) 3 k 0 = ((sinPart a b n k.val 1 : ℝ) : EReal) :=
    prod_real (V m c main_v265) a 1 b n k 3 _ (fun j => sin_table_1 m c k j)
  have s2 : prod (V m c main_v265) (column (fun x => ((a x : ℝ) : EReal)) 2 b n) 5 k 0 = ((sinPart a b n k.val 2 : ℝ) : EReal) :=
    prod_real (V m c main_v265) a 2 b n k 5 _ (fun j => sin_table_2 m c k j)
  have c3 : prod (V m c main_v265) (column (fun x => ((a x : ℝ) : EReal)) 3 b n) 6 k 0 = ((cosPart a b n k.val 3 : ℝ) : EReal) :=
    prod_real (V m c main_v265) a 3 b n k 6 _ (fun j => cos_table_3 m c k j)
  have s3 : prod (V m c main_v265) (column (fun x => ((a x : ℝ) : EReal)) 3 b n) 7 k 0 = ((sinPart a b n k.val 3 : ℝ) : EReal) :=
    prod_real (V m c main_v265) a 3 b n k 7 _ (fun j => sin_table_3 m c k j)
  rw [hpq, sin_sum a b n k.val q, ← sin_join]
  have e : sinOut (V m c main_v265) (fun x => ((a x : ℝ) : EReal)) (ix3 b p n)
      = sinRow (V m c main_v265) (column (fun x => ((a x : ℝ) : EReal)) 0 b n) (column (fun x => ((a x : ℝ) : EReal)) 1 b n)
          (column (fun x => ((a x : ℝ) : EReal)) 2 b n) (column (fun x => ((a x : ℝ) : EReal)) 3 b n) q.val k 0 := by
    rw [show k = (⟨p.val % 512, Nat.mod_lt _ (by decide)⟩ : Fin 512) from Fin.ext hk, hq]
    rfl
  rw [e]
  unfold sinRow
  rw [s0, s1, s2, s3, c1, c3]

/-- The launch's sine array is the reference's transform of the same real tokens. -/
theorem sin_eq (c : Dev nD) (a : S8x512x4096.Idx → ℝ) :
    sinOut (V m c main_v265) (fun x => ((a x : ℝ) : EReal))
      = refDft (fun x => ((a x : ℝ) : EReal)) (mulf (Host.sin refPhase) refScale) := by
  funext i
  obtain ⟨b, p, n, rfl⟩ : ∃ b p n, i = ix3 b p n := ⟨i 0, i 1, i 2, by funext x; match x with | ⟨0, _⟩ => rfl | ⟨1, _⟩ => rfl | ⟨2, _⟩ => rfl⟩
  rw [sin_out, ref_sin, coe_sum]
  refine Finset.sum_congr rfl fun k _ => ?_
  rw [token_real, EReal.coe_mul]

/-- A band's entry, for every group. -/
theorem band_table (c : Dev nD) (g : Fin 4) (p : Fin 2048) (j : Fin 512) (h : 128 ≤ p.val / 256 * 256 + j.val) :
    V m c main_v370 (ix3 g p j)
      = ((weight p.val (p.val - half g) (min (p.val + half g) 2048) (p.val / 256 * 256 + j.val - 128) : ℝ) : EReal) := by
  fin_cases g
  · exact band_table_0 m c p j h
  · exact band_table_1 m c p j h
  · exact band_table_2 m c p j h
  · exact band_table_3 m c p j h

/-- A token of the pooled half as a real number, zero past the end. -/
def pooledR (a : S8x2048x1024.Idx → ℝ) (b : Fin 8) (n : Fin 1024) (k : ℕ) : ℝ :=
  if h : k < 2048 then a (ix3 b ⟨k, h⟩ n) else 0

/-- The tokens of a column as real numbers. -/
theorem column_real (a : S8x2048x1024.Idx → ℝ) (b : Fin 8) (n : Fin 1024) (k : ℕ) :
    column1 (fun x => ((a x : ℝ) : EReal)) b n k = ((pooledR a b n k : ℝ) : EReal) := by
  unfold column1 pooledR
  split <;> simp

/-- A half width is at least one and at most eight. -/
theorem half_bounds (g : Fin 4) : 1 ≤ half g ∧ half g ≤ 8 := by
  revert g; decide

/-- A band's row times the positions from `off` on that its columns stand for: the window's mean less the token. -/
theorem pool_sum (a : S8x2048x1024.Idx → ℝ) (b : Fin 8) (n : Fin 1024) (g : Fin 4) (p off len : ℕ) (hp : p < 2048)
    (ho : off + len ≤ 2048) (h1 : off ≤ p - half g) (h2 : min (p + half g) 2048 ≤ off + len) (h3 : off ≤ p) (h4 : p < off + len)
    (f : Fin len → EReal)
    (hf : ∀ j : Fin len, f j = ((weight p (p - half g) (min (p + half g) 2048) (off + j.val) * pooledR a b n (off + j.val) : ℝ) : EReal)) :
    ∑ j : Fin len, f j
      = (((∑ k ∈ Finset.range (min (p + half g) 2048), pooledR a b n k - ∑ k ∈ Finset.range (p - half g), pooledR a b n k)
          / ((min (p + half g) 2048 - (p - half g) : ℕ) : ℝ) - pooledR a b n p : ℝ) : EReal) := by
  rw [← sum_weight _ p _ _ hp (by omega) (by omega), ← sum_weight_band _ p _ _ off len ho h1 h2 h3 h4, Finset.sum_range, coe_sum]
  exact Finset.sum_congr rfl fun j _ => hf j

/-- The launch's pooled array is the reference's pooling of the same real tokens. -/
theorem pool_eq (c : Dev nD) (a : S8x2048x1024.Idx → ℝ) :
    poolOut (V m c main_v370) (fun x => ((a x : ℝ) : EReal)) = refPool (fun x => ((a x : ℝ) : EReal)) := by
  funext i
  obtain ⟨b, p, d, rfl⟩ : ∃ b p d, i = ix3 b p d := ⟨i 0, i 1, i 2, by funext x; match x with | ⟨0, _⟩ => rfl | ⟨1, _⟩ => rfl | ⟨2, _⟩ => rfl⟩
  obtain ⟨g, n, rfl⟩ : ∃ (g : Fin 4) (n : Fin 256), d = ⟨g.val * 256 + n.val, by omega⟩ :=
    ⟨⟨d.val / 256, by omega⟩, ⟨d.val % 256, by omega⟩, Fin.ext (by show d.val = d.val / 256 * 256 + d.val % 256; omega)⟩
  have hp := p.isLt
  obtain ⟨hg1, hg8⟩ := half_bounds g
  rw [ref_pool]
  simp only [column_real]
  rw [← coe_sum, ← coe_sum, ← EReal.coe_sub, Ideal.div_coe (by
    have : 0 < min (p.val + half g) 2048 - (p.val - half g) := by omega
    exact_mod_cast this.ne'), ← EReal.coe_mul, ← EReal.coe_sub, mul_one_div]
  have ez : a (ix3 b p ⟨g.val * 256 + n.val, by omega⟩) = pooledR a b ⟨g.val * 256 + n.val, by omega⟩ p.val := by
    unfold pooledR; rw [dif_pos hp]
  rw [ez]
  have eg : poolOut (V m c main_v370) (fun x => ((a x : ℝ) : EReal)) (ix3 b p ⟨g.val * 256 + n.val, by omega⟩)
      = poolRow (V m c main_v370) (pooled (fun x => ((a x : ℝ) : EReal)) b ⟨g.val * 256 + n.val, by omega⟩) g p 0 := by
    have hg : (⟨(g.val * 256 + n.val) / 256, by omega⟩ : Fin 4) = g := Fin.ext (by show (g.val * 256 + n.val) / 256 = g.val; omega)
    exact congrArg (fun g' => poolRow (V m c main_v370) (pooled (fun x => ((a x : ℝ) : EReal)) b ⟨g.val * 256 + n.val, by omega⟩) g' p 0) hg
  rw [eg]
  have hz : ∀ (k : ℕ) (hk : k < 2048), pooled (fun x => ((a x : ℝ) : EReal)) b ⟨g.val * 256 + n.val, by omega⟩ (ix3 0 ⟨k, hk⟩ 0)
      = ((pooledR a b ⟨g.val * 256 + n.val, by omega⟩ k : ℝ) : EReal) := fun k hk => by
    unfold pooled pooledR
    rw [dif_pos hk]
    rfl
  unfold poolRow
  split
  · refine pool_sum a b _ g p.val 0 384 hp (by omega) (by omega) (by omega) (by omega) (by omega) _ fun j => ?_
    have hj := j.isLt
    rw [band_table m c g p _ (by show 128 ≤ _ + (128 + j.val); omega), hz, ← EReal.coe_mul]
    show ((weight _ _ _ (p.val / 256 * 256 + (128 + j.val) - 128) * _ : ℝ) : EReal) = _
    rw [show p.val / 256 * 256 + (128 + j.val) - 128 = 0 + j.val by omega, Nat.zero_add]
  · split
    · refine pool_sum a b _ g p.val (p.val / 256 * 256 - 128) 512 hp (by omega) (by omega) (by omega) (by omega) (by omega) _ fun j => ?_
      have hj := j.isLt
      rw [band_table m c g p _ (by omega), hz, ← EReal.coe_mul,
        show (p.val / 256 * 256 + j.val - 128) % 2048 = p.val / 256 * 256 - 128 + j.val by omega,
        show p.val / 256 * 256 + j.val - 128 = p.val / 256 * 256 - 128 + j.val by omega]
    · refine pool_sum a b _ g p.val 1664 384 hp (by omega) (by omega) (by omega) (by omega) (by omega) _ fun j => ?_
      have hj := j.isLt
      rw [band_table m c g p _ (by show 128 ≤ _ + j.val; omega), hz, ← EReal.coe_mul]
      show ((weight _ _ _ (p.val / 256 * 256 + j.val - 128) * _ : ℝ) : EReal) = _
      rw [show p.val / 256 * 256 + j.val - 128 = 1664 + j.val by omega]

end Launch

end Cert.Mixer

end
-- ==== Proof.Mixer.Finite.lean ====
/- What the precondition gives: every element of both arrays is a real number. -/
module

public import proofs.«01_k».proof.Proof.Gen.Pre_finite_mixer_inputs
public import Idealize.ShloMosaic.Lib.ReduceAll
public import Idealize.ShloMosaic.Lib.Pointwise
public import Idealize.ShloMosaic.Lib.IdealHost

@[expose] public section

set_option maxRecDepth 16384

noncomputable section

namespace Cert.Mixer

open Cert.Pre_finite_mixer_inputs Cert.Pre_finite_mixer_inputs.Gen Idealize.ShloMosaic

/-- The word of infinity denotes it. -/
theorem ofBits_inf : Ideal.ofBits FTy.f32 2139095040#32 = (⊤ : EReal) := by
  simp [Ideal.ofBits, Ideal.ieee]

/-- A value whose absolute value is below infinity is a real number. -/
theorem real_of_abs_lt (x : EReal) (h : max x (-x) < ⊤) : ∃ r : ℝ, x = (r : EReal) := by
  induction x with
  | bot => simp at h
  | top => simp at h
  | coe r => exact ⟨r, rfl⟩

/-- An index of the rank-0 shape is the only one. -/
instance : Subsingleton S_.Idx := ⟨fun a b => funext fun i => i.elim0⟩

/-- An array all of whose elements pass the comparison with infinity holds real numbers. -/
theorem real_of_cmp {s : Shape} (x : FVec Ideal s .f32) (b : FVec Ideal s .f32) (hb : ∀ i, b i = (⊤ : EReal))
    (h : ∀ i, cmpf .olt (Host.absf x) b i = 1#1) : ∃ r : s.Idx → ℝ, x = fun i => ((r i : ℝ) : EReal) := by
  have e : ∀ i, ∃ r : ℝ, x i = (r : EReal) := fun i => by
    refine real_of_abs_lt (x i) ?_
    have := h i
    simp only [cmpf, Host.absf] at this
    rw [hb] at this
    change BitVec.ofBool (decide (max (x i) (-x i) < (⊤ : EReal))) = 1#1 at this
    by_contra hn
    rw [decide_eq_false hn] at this
    exact absurd this (by decide)
  choose r hr using e
  exact ⟨r, funext hr⟩

/-- The precondition: both arrays hold real numbers. -/
theorem real_of_pre (A : FVec Ideal S8x512x4096 .bf16) (P : FVec Ideal S8x2048x1024 .bf16)
    (h : Cert.Pre_finite_mixer_inputs.fn A P = fun _ => 1#1) :
    (∃ r : S8x512x4096.Idx → ℝ, A = fun i => ((r i : ℝ) : EReal)) ∧ (∃ r : S8x2048x1024.Idx → ℝ, P = fun i => ((r i : ℝ) : EReal)) := by
  have h0 := congrFun h (fun i => i.elim0)
  dsimp only [Cert.Pre_finite_mixer_inputs.fn] at h0
  have h1 := IntOp.andi_eq_one.1 h0
  refine ⟨real_of_cmp A _ (fun i => ?_) fun i => Host.reduce_andi_all _ _ _ _ _ h1.1 i, real_of_cmp P _ (fun i => ?_) fun i => Host.reduce_andi_all _ _ _ _ _ h1.2 i⟩
  · pointwise
    exact ofBits_inf
  · pointwise
    exact ofBits_inf

end Cert.Mixer

end
-- ==== Proof.Mixer.Claims.lean ====
/- The claims about the sequence mixers. -/
module

public import proofs.«01_k».proof.Defs
public import proofs.«01_k».proof.Proof.Gen.Seqmix
public import proofs.«01_k».proof.Proof.Mixer.Seqmix.Frame
public import proofs.«01_k».proof.Proof.Mixer.Bridge
public import proofs.«01_k».proof.Proof.Mixer.Finite
public import Idealize.ShloMosaic.Adequacy
public import Idealize.ShloMosaic.Init

@[expose] public section

noncomputable section

namespace Cert.Mixer

open Idealize.ShloMosaic Idealize.SL.Sem

/-- The kernel's frame: it runs to a quiet end and leaves its arguments as they were. -/
theorem frame_kernel : Cert.quiescent_Seqmix := fun m ρ _ => Cert.Seqmix.Gen.frame m ρ

/-- The same of the kernel read over the extended reals. -/
theorem frame_ideal : Cert.quiescent_SeqmixIdeal := fun m ρ _ => Cert.SeqmixIdeal.Gen.frame m ρ

/-- The same under the precondition. -/
theorem frame_ideal_pre : Cert.quiescent_SeqmixIdeal_pre_finite_mixer_inputs := fun m ρ _ => Cert.SeqmixIdeal.Gen.frame m ρ

/-- The reference's frame. -/
theorem frame_reference : Cert.quiescent_SeqmixReferenceIdeal := fun m ρ _ =>
  (θ_run _ _ _).mono (fun r h => ⟨fun c => ⟨(h c).2.2.2.1, (h c).2.2.2.2⟩, funext fun e => nomatch e⟩)
    (Cert.SeqmixReferenceIdeal.Value.run m ρ)

/-- The reference's frame under the precondition. -/
theorem frame_reference_pre : Cert.quiescent_SeqmixReferenceIdeal_pre_finite_mixer_inputs := fun m ρ _ =>
  frame_reference m ρ trivial

open Cert.SeqmixIdeal.Gen in
/-- The kernel and the reference end with equal results from equal real arguments. -/
theorem values : Cert.algebraic_SeqmixIdeal_SeqmixReferenceIdeal_pre_finite_mixer_inputs := by
  intro m g m' g' hpre hargs
  refine ⟨fun c => cosOut (V m c Cert.SeqmixIdeal.main_v265) (m ((c.tc : Thread Cert.SeqmixIdeal.nD Cert.SeqmixIdeal.τ).loc Cert.SeqmixIdeal.main_arg0)),
    fun c => sinOut (V m c Cert.SeqmixIdeal.main_v265) (m ((c.tc : Thread Cert.SeqmixIdeal.nD Cert.SeqmixIdeal.τ).loc Cert.SeqmixIdeal.main_arg0)),
    fun c => poolOut (V m c Cert.SeqmixIdeal.main_v370) (m ((c.tc : Thread Cert.SeqmixIdeal.nD Cert.SeqmixIdeal.τ).loc Cert.SeqmixIdeal.main_arg1)), ?_, ?_⟩
  · refine (θ_run _ _ _).mono (fun r h c => ?_) (Cert.SeqmixIdeal.Value.run_blocks m g)
    obtain ⟨h7, h8, h9, ha, hb⟩ := h c
    refine ⟨h7.trans ?_, h8.trans ?_, h9.trans ?_, ha, hb⟩
    · rw [cos_arr, V_main_arg0]
    · rw [sin_arr, V_main_arg0]
    · rw [pool_arr, V_main_arg1]
  · refine (θ_run _ _ _).mono (fun r h c => ?_) (Cert.SeqmixReferenceIdeal.Value.run m' g')
    obtain ⟨h0, h1, h2, ha, hb⟩ := h c
    obtain ⟨e0, e1⟩ := hargs c
    obtain ⟨⟨a, hA⟩, ⟨p, hP⟩⟩ := real_of_pre _ _ (hpre c)
    have k0 : refDft (m' ((c.tc : Thread Cert.SeqmixReferenceIdeal.nD Cert.SeqmixReferenceIdeal.τ).loc Cert.SeqmixReferenceIdeal.main_arg0)) (mulf (Host.cos refPhase) refScale) = cosOut (V m c Cert.SeqmixIdeal.main_v265) (m ((c.tc : Thread Cert.SeqmixIdeal.nD Cert.SeqmixIdeal.τ).loc Cert.SeqmixIdeal.main_arg0)) :=
      (congrArg (fun A => refDft A (mulf (Host.cos refPhase) refScale)) (e0.trans hA)).trans
        ((cos_eq m c a).symm.trans (congrArg (cosOut (V m c Cert.SeqmixIdeal.main_v265)) hA.symm))
    have k1 : refDft (m' ((c.tc : Thread Cert.SeqmixReferenceIdeal.nD Cert.SeqmixReferenceIdeal.τ).loc Cert.SeqmixReferenceIdeal.main_arg0)) (mulf (Host.sin refPhase) refScale) = sinOut (V m c Cert.SeqmixIdeal.main_v265) (m ((c.tc : Thread Cert.SeqmixIdeal.nD Cert.SeqmixIdeal.τ).loc Cert.SeqmixIdeal.main_arg0)) :=
      (congrArg (fun A => refDft A (mulf (Host.sin refPhase) refScale)) (e0.trans hA)).trans
        ((sin_eq m c a).symm.trans (congrArg (sinOut (V m c Cert.SeqmixIdeal.main_v265)) hA.symm))
    have k2 : refPool (m' ((c.tc : Thread Cert.SeqmixReferenceIdeal.nD Cert.SeqmixReferenceIdeal.τ).loc Cert.SeqmixReferenceIdeal.main_arg1)) = poolOut (V m c Cert.SeqmixIdeal.main_v370) (m ((c.tc : Thread Cert.SeqmixIdeal.nD Cert.SeqmixIdeal.τ).loc Cert.SeqmixIdeal.main_arg1)) :=
      (congrArg refPool (e1.trans hP)).trans
        ((pool_eq m c p).symm.trans (congrArg (poolOut (V m c Cert.SeqmixIdeal.main_v370)) hP.symm))
    exact ⟨h0.trans k0, h1.trans k1, h2.trans ((ref_out m' c).trans k2), ha, hb⟩

end Cert.Mixer

end
-- ==== Proof.Common.Norm.lean ====
/- A root mean square norm moves out of a product: the facts about extended reals that both norms of the layer need. -/
module

public import Idealize.ShloMosaic.PureOps.Ideal

@[expose] public section

namespace Cert.Common

open Idealize.ShloMosaic

/-- The reciprocal root of a positive extended real is a real that is not negative. -/
theorem rsqrt_of_pos {a : EReal} (h : 0 < a) : ∃ r : ℝ, 0 ≤ r ∧ Ideal.rsqrt a = (r : EReal) := by
  induction a using EReal.rec with
  | bot => exact absurd h (by simp)
  | top => exact ⟨0, le_rfl, rfl⟩
  | coe r =>
    have hr : 0 < r := by exact_mod_cast h
    refine ⟨(Real.sqrt r)⁻¹, inv_nonneg.2 (Real.sqrt_nonneg r), ?_⟩
    show (if r < 0 then ⊥ else if r = 0 then ⊤ else (((Real.sqrt r)⁻¹ : ℝ) : EReal)) = _
    rw [if_neg (not_lt.2 hr.le), if_neg hr.ne']

/-- A square is not negative. -/
theorem square_nonneg (x : EReal) : 0 ≤ x * x := by
  rcases le_total 0 x with h | h
  · exact mul_nonneg h h
  · have h' : 0 ≤ -x := by simpa using EReal.neg_le_neg_iff.2 h
    have := mul_nonneg h' h'
    rwa [neg_mul_neg] at this

/-- The reciprocal root of the mean of squares, with a positive number added, is a real that is not negative. -/
theorem rms_real {n : ℕ} (x : Fin n → EReal) {c e : ℝ} (hc : 0 < c) (he : 0 < e) :
    ∃ r : ℝ, 0 ≤ r ∧ Ideal.rsqrt (Ideal.div (∑ k, x k * x k) (c : EReal) + (e : EReal)) = (r : EReal) := by
  refine rsqrt_of_pos ?_
  have hs : 0 ≤ ∑ k, x k * x k := Finset.sum_nonneg fun k _ => square_nonneg (x k)
  have hd : 0 ≤ Ideal.div (∑ k, x k * x k) (c : EReal) := by
    unfold Ideal.div
    rw [if_neg (by exact_mod_cast hc.ne')]
    exact mul_nonneg hs (EReal.inv_nonneg_of_nonneg (by exact_mod_cast hc.le))
  exact lt_of_lt_of_le (by exact_mod_cast he : (0 : EReal) < e) (le_add_of_nonneg_left hd)

/-- A real factor that is not negative moves into a sum. -/
theorem sum_mul_real {n : ℕ} (f : Fin n → EReal) {r : ℝ} (hr : 0 ≤ r) : (∑ k, f k) * (r : EReal) = ∑ k, f k * (r : EReal) := by
  refine Finset.induction_on (motive := fun s : Finset (Fin n) => (∑ k ∈ s, f k) * (r : EReal) = ∑ k ∈ s, f k * (r : EReal))
    Finset.univ (by simp) fun a s ha ih => ?_
  rw [Finset.sum_insert ha, Finset.sum_insert ha,
    EReal.right_distrib_of_nonneg_of_ne_top (by exact_mod_cast hr) (EReal.coe_ne_top r), ih]

/-- A row times scaled weights, scaled afterwards by the norm, is the normed and scaled row times the weights. -/
theorem norm_product {n : ℕ} (x g w : Fin n → EReal) {r : ℝ} (hr : 0 ≤ r) :
    (∑ k, x k * (g k * w k)) * (r : EReal) = ∑ k, x k * (r : EReal) * g k * w k := by
  rw [sum_mul_real _ hr]
  refine Finset.sum_congr rfl fun k _ => ?_
  ac_rfl

end Cert.Common
-- ==== Proof.Project.Ref.lean ====
/- The reference of the projections, at an index. -/
module

public import proofs.«01_k».proof.Proof.Gen.ProjReferenceIdeal
public import Idealize.ShloMosaic.Lib.Pipeline.ValueKit

@[expose] public section

set_option maxRecDepth 16384

noncomputable section

namespace Cert.Project

open Cert.ProjReferenceIdeal Cert.ProjReferenceIdeal.Gen Idealize.ShloMosaic Idealize.ShloMosaic.TcCoe Idealize.SL.Sem

/-- The reciprocal root mean square of a row. -/
def inv {n : ℕ} (x : Fin n → EReal) : EReal :=
  Ideal.rsqrt (Ideal.div (∑ k, x k * x k) (Ideal.ofBits .f32 0x45000000#32) + Ideal.ofBits .f32 0x358637BD#32)

/-- The normed sequence, as the reference writes it. -/
def refNormed (a0 : FVec Ideal S8x2048x2048 .f32) (a1 : FVec Ideal S1x2048 .f32) : FVec Ideal S8x2048x2048 .f32 :=
  mulf (mulf a0 (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf a0 a0) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ a1 shapeCasts_S1x2048_S2048)))

/-- The normed sequence at an index. -/
theorem normed_at (a0 : FVec Ideal S8x2048x2048 .f32) (a1 : FVec Ideal S1x2048 .f32) (b : Fin 8) (s k : Fin 2048) :
    refNormed a0 a1 (ix3 b s k) = a0 (ix3 b s k) * inv (fun j => a0 (ix3 b s j)) * a1 (ix2 0 k) := by
  unfold refNormed inv
  pointwise

/-- The projected sequence, as the reference writes it. -/
def refP (N : FVec Ideal S8x2048x2048 .f32) (a2 : FVec Ideal S1x2048x2048 .f32) : FVec Ideal S8x2048x2048 .f32 :=
  Host.dotGeneral dot_S8x2048x2048_S2048x2048_S8x2048x2048_2_0_01_1_n_n none N (shapeCast _ a2 shapeCasts_S1x2048x2048_S2048x2048)

/-- The projected sequence at an index. -/
theorem p_at (N : FVec Ideal S8x2048x2048 .f32) (a2 : FVec Ideal S1x2048x2048 .f32) (b : Fin 8) (s n : Fin 2048) :
    refP N a2 (ix3 b s n) = ∑ k : Fin 2048, N (ix3 b s k) * a2 (ix3 0 k n) := by
  unfold refP
  pointwise

/-- The Fourier half of the projected sequence, four positions to a row. -/
theorem ref_fourier (P : FVec Ideal S8x2048x2048 .f32) (i j : Fin 4096) :
    (truncf .bf16 (shapeCast _ (extractStridedSlice S8x2048x1024 ![0, 0, 0] P slices_S8x2048x2048_S8x2048x1024_0_0_0) shapeCasts_S8x2048x1024_S4096x4096) bitsLt_bf16_f32 : FVec Ideal S4096x4096 .bf16) (ix2 i j)
      = P (ix3 ⟨i.val / 512, by omega⟩ ⟨i.val % 512 * 4 + j.val / 1024, by omega⟩ ⟨j.val % 1024, by omega⟩) := by
  pointwise

/-- The pooling half of the projected sequence. -/
theorem ref_pool (P : FVec Ideal S8x2048x2048 .f32) (i : Fin 16384) (j : Fin 1024) :
    (truncf .bf16 (shapeCast _ (extractStridedSlice S8x2048x1024 ![0, 0, 1024] P slices_S8x2048x2048_S8x2048x1024_0_0_1024) shapeCasts_S8x2048x1024_S16384x1024) bitsLt_bf16_f32 : FVec Ideal S16384x1024 .bf16) (ix2 i j)
      = P (ix3 ⟨i.val / 2048, by omega⟩ ⟨i.val % 2048, by omega⟩ ⟨1024 + j.val, by omega⟩) := by
  pointwise

/-- The gates, as the reference writes them. -/
def refGate (N : FVec Ideal S8x2048x2048 .f32) (a3 : FVec Ideal S1x2048x4096 .f32) (a4 : FVec Ideal S1x4096 .f32) : FVec Ideal S16384x4096 .bf16 :=
  truncf .bf16 (shapeCast _ (Host.divf (broadcastInDim S8x2048x4096 ![] bcast_S_S8x2048x4096 (constant S_ .f32 0x3F800000#32)) (addf (broadcastInDim S8x2048x4096 ![] bcast_S_S8x2048x4096 (constant S_ .f32 0x3F800000#32)) (Host.exp (Host.negf (addf (Host.dotGeneral dot_S8x2048x2048_S2048x4096_S8x2048x4096_2_0_01_1_n_n none N (shapeCast _ a3 shapeCasts_S1x2048x4096_S2048x4096)) (broadcastInDim S8x2048x4096 ![0, 1, 2] bcast_S1x1x4096_S8x2048x4096_0_1_2 (broadcastInDim S1x1x4096 ![2] bcast_S4096_S1x1x4096_2 (shapeCast _ a4 shapeCasts_S1x4096_S4096)))))))) shapeCasts_S8x2048x4096_S16384x4096) bitsLt_bf16_f32

/-- The logistic function. -/
def logistic (x : EReal) : EReal :=
  Ideal.div (Ideal.ofBits .f32 0x3F800000#32) (Ideal.ofBits .f32 0x3F800000#32 + Ideal.exp (-x))

/-- The gates at an index. -/
theorem ref_gate (N : FVec Ideal S8x2048x2048 .f32) (a3 : FVec Ideal S1x2048x4096 .f32) (a4 : FVec Ideal S1x4096 .f32) (i : Fin 16384) (j : Fin 4096) :
    refGate N a3 a4 (ix2 i j)
      = logistic (∑ k : Fin 2048, N (ix3 ⟨i.val / 2048, by omega⟩ ⟨i.val % 2048, by omega⟩ k) * a3 (ix3 0 k j) + a4 (ix2 0 j)) := by
  unfold refGate logistic
  pointwise

end Cert.Project

end
-- ==== Proof.Project.Scaled.lean ====
/- A block's product with the weights, scaled row by row. -/
module

public import proofs.«01_k».proof.Proof.Gen.ProjIdeal.Value
public import proofs.«01_k».proof.Proof.Project.Ref
public import Idealize.ShloMosaic.Lib.Pipeline.ValueKit

@[expose] public section

set_option maxRecDepth 16384

noncomputable section

namespace Cert.Project

open Cert.ProjIdeal Cert.ProjIdeal.Gen Idealize.ShloMosaic Idealize.ShloMosaic.TcCoe Idealize.SL.Sem

/-- Row `i` times column `j`, scaled by the row's reciprocal root mean square. -/
def scaled {n : ℕ} (X : S512x2048.Idx → EReal) (W : Fin 2048 → Fin n → EReal) (i : Fin 512) (j : Fin n) : EReal :=
  (∑ k : Fin 2048, X (ix2 i k) * W k j) * inv fun k => X (ix2 i k)

/-- A product with a reciprocal root mean square written out is the scaled product at the row and column of the same numbers. -/
theorem scaled_eq {n : ℕ} (X : S512x2048.Idx → EReal) (W : Fin 2048 → Fin n → EReal) {i i' : Fin 512} {j j' : Fin n}
    (hi : i.val = i'.val) (hj : j.val = j'.val) :
    (∑ k : Fin 2048, X (ix2 i k) * W k j)
        * Ideal.rsqrt (Ideal.div (∑ k : Fin 2048, X (ix2 i k) * X (ix2 i k)) (Ideal.ofBits FTy.f32 1157627904#32) + Ideal.ofBits FTy.f32 897988541#32)
      = scaled X W i' j' := by
  rw [Fin.ext hi, Fin.ext hj]
  rfl

end Cert.Project

end
-- ==== Proof.Project.Plane.lean ====
/- A strided read of a stored plane. -/
module

public import proofs.«01_k».proof.Proof.Gen.ProjIdeal.Value
public import proofs.«01_k».proof.Proof.Project.Scaled
public import Idealize.ShloMosaic.Lib.Pipeline.ValueKit

@[expose] public section

set_option maxRecDepth 16384

noncomputable section

namespace Cert.Project

open Cert.ProjIdeal Cert.ProjIdeal.Gen Idealize.ShloMosaic Idealize.ShloMosaic.TcCoe Idealize.SL.Sem

/-- A read of every fourth row of the plane stored last is the stored plane at that row. -/
theorem read_plane {κ : Kind} {sp : Space} (v : View sig κ sp S4x512x128 .f32) {c r : ℕ} (hr : r < 4)
    (inb : ∀ a, (![c, 0, 0] : Fin 3 → ℕ) a + (![1, 512, 128] : Fin 3 → ℕ) a ≤ S4x512x128.size a)
    (w : S1x512x128.Idx → Elt Ideal .f32)
    (L : List (View.Piece (Elt Ideal) S4x512x128 .f32))
    (inb' : _) (x0 x1 : Fin 128) :
    v.readCov (⟨Rect.unit (s := S4x512x128) ![c, 0, 0] ![1, 512, 128] inb, w⟩ :: L) (⟨![c, r, 0], ![1, 128, 128], ![1, 4, 1], inb'⟩ : LoadRect S4x512x128) (ix3 0 x0 x1 : S1x128x128.Idx)
      = w (ix3 0 ⟨r + 4 * x0.val, by omega⟩ x1) := by
  rw [View.readCov_eq_canon']
  beta_reduce
  refine Eq.trans (congrArg (View.canon _) ?_) (View.canon_cons_emb (Rect.unit (s := S4x512x128) ![c, 0, 0] ![1, 512, 128] inb) w L (ix3 0 ⟨r + 4 * x0.val, by omega⟩ x1 : S1x512x128.Idx))
  funext a
  apply Fin.ext
  fin_cases a
  · show c + 1 * 0 = c + 1 * 0
    rfl
  · show r + 4 * x0.val = 0 + 1 * (r + 4 * x0.val)
    omega
  · show 0 + 1 * x1.val = 0 + 1 * x1.val
    rfl

end Cert.Project

end
-- ==== Proof.Project.Fourier.lean ====
/- What one point of the projections' launch leaves in the Fourier half. -/
module

public import proofs.«01_k».proof.Proof.Gen.ProjIdeal.Value
public import proofs.«01_k».proof.Proof.Project.Scaled
public import proofs.«01_k».proof.Proof.Project.Plane
public import Idealize.ShloMosaic.Lib.Pipeline.ValueKit

@[expose] public section

set_option maxRecDepth 16384

noncomputable section

namespace Cert.Project

open Cert.ProjIdeal Cert.ProjIdeal.Gen Idealize.ShloMosaic Idealize.ShloMosaic.TcCoe Idealize.SL.Sem

variable (m : (ℓ : Loc nD τ sig) → Buf (Elt Ideal) ℓ)

set_option maxHeartbeats 2000000 in
/-- The Fourier half, at a point: row `i` and column `j` hold position `4 i + j / 1024`, channel `j % 1024`. -/
theorem fourier_point (c : Dev nD) (t : Fin cfg0.N) (y : S128x4096.Idx) :
    (outsAt0 m c t).1 y
      = scaled (iblk m c 0 t) (fun k j => iblk m c 1 t (ix2 k j))
        (⟨(y 1).val / 1024 + 4 * (y 0).val, by have h0 : (y 0).val < 128 := (y 0).isLt; have h1 : (y 1).val < 4096 := (y 1).isLt; omega⟩ : Fin 512)
        (⟨(y 1).val % 1024, by omega⟩ : Fin 2048) := by
  dsimp only [outsAt0]
  frame_out
  generalize iblk m c 0 t = X, iblk m c 1 t = W, iblk m c 2 t = G, iblk m c 3 t = B, iblk m c 4 t = C
  canon_tiles x h
  all_goals
    open_payloads
    idx_vars x
    pointwise
    refine (read_plane _ ?_ _ _ _ _ _ _).trans ?_
    · decide
    pointwise
    exact scaled_eq X (fun k j => W (ix2 k j)) (by dsimp only; omega) (by dsimp only; omega)

end Cert.Project

end
-- ==== Proof.Project.Body.lean ====
/- What one point of the projections' launch leaves in its outputs. -/
module

public import proofs.«01_k».proof.Proof.Gen.ProjIdeal.Value
public import proofs.«01_k».proof.Proof.Project.Scaled
public import Idealize.ShloMosaic.Lib.Pipeline.ValueKit

@[expose] public section

set_option maxRecDepth 16384

noncomputable section

namespace Cert.Project

open Cert.ProjIdeal Cert.ProjIdeal.Gen Idealize.ShloMosaic Idealize.ShloMosaic.TcCoe Idealize.SL.Sem

variable (m : (ℓ : Loc nD τ sig) → Buf (Elt Ideal) ℓ)

set_option maxHeartbeats 400000 in
/-- The pooling half of the projection, at a point. -/
theorem pool_point (c : Dev nD) (t : Fin cfg0.N) (y : S512x1024.Idx) :
    (outsAt0 m c t).2.1 y
      = scaled (iblk m c 0 t) (fun k j => iblk m c 1 t (ix2 k j)) (y 0) (⟨1024 + (y 1).val, by have : (y 1).val < 1024 := (y 1).isLt; omega⟩ : Fin 2048) := by
  dsimp only [outsAt0]
  frame_out
  generalize iblk m c 0 t = X, iblk m c 1 t = W, iblk m c 2 t = G, iblk m c 3 t = B, iblk m c 4 t = C
  canon_tiles x h
  all_goals
    open_payloads
    idx_vars x
    pointwise
    exact scaled_eq X (fun k j => W (ix2 k j)) h0.symm (by dsimp only; omega)

end Cert.Project

end
-- ==== Proof.Project.Gate.lean ====
/- What one point of the projections' launch leaves in its outputs. -/
module

public import proofs.«01_k».proof.Proof.Gen.ProjIdeal.Value
public import proofs.«01_k».proof.Proof.Project.Scaled
public import Idealize.ShloMosaic.Lib.Pipeline.ValueKit

@[expose] public section

set_option maxRecDepth 16384

noncomputable section

namespace Cert.Project

open Cert.ProjIdeal Cert.ProjIdeal.Gen Idealize.ShloMosaic Idealize.ShloMosaic.TcCoe Idealize.SL.Sem

variable (m : (ℓ : Loc nD τ sig) → Buf (Elt Ideal) ℓ)

set_option maxHeartbeats 400000 in
/-- The gates, at a point. -/
theorem gate_point (c : Dev nD) (t : Fin cfg0.N) (y : S512x4096.Idx) :
    (outsAt0 m c t).2.2.1 y
      = Ideal.logistic (scaled (iblk m c 0 t) (fun k j => iblk m c 2 t (ix2 k j)) (y 0) (y 1) + iblk m c 3 t (ix2 0 (y 1))) := by
  dsimp only [outsAt0]
  frame_out
  generalize iblk m c 0 t = X, iblk m c 1 t = W, iblk m c 2 t = G, iblk m c 3 t = B, iblk m c 4 t = C
  canon_tiles x h
  all_goals
    open_payloads
    idx_vars x
    pointwise
    refine congrArg Ideal.logistic (congrArg₂ (· + ·) (scaled_eq X (fun k j => G (ix2 k j)) h0.symm h1.symm) (congrArg B ?_))
    exact congrArg (ix2 0) (Fin.ext h1.symm)

end Cert.Project

end
-- ==== Proof.Project.Copy.lean ====
/- What one point of the projections' launch leaves in its outputs. -/
module

public import proofs.«01_k».proof.Proof.Gen.ProjIdeal.Value
public import proofs.«01_k».proof.Proof.Project.Scaled
public import Idealize.ShloMosaic.Lib.Pipeline.ValueKit

@[expose] public section

set_option maxRecDepth 16384

noncomputable section

namespace Cert.Project

open Cert.ProjIdeal Cert.ProjIdeal.Gen Idealize.ShloMosaic Idealize.ShloMosaic.TcCoe Idealize.SL.Sem

variable (m : (ℓ : Loc nD τ sig) → Buf (Elt Ideal) ℓ)

/-- The copied weights, at a point. -/
theorem copy_point (c : Dev nD) (t : Fin cfg0.N) (y : S64x2048.Idx) :
    (outsAt0 m c t).2.2.2 y = iblk m c 4 t y := by
  dsimp only [outsAt0]
  frame_out
  generalize iblk m c 4 t = X
  open_payloads
  pointwise

end Cert.Project

end
-- ==== Proof.Project.Host.lean ====
/- The arrays the host prepares for the projections' launch, each at an index. -/
module

public import proofs.«01_k».proof.Proof.Gen.ProjIdeal.Value
public import Idealize.ShloMosaic.Lib.StableHlo.ReadAt
public import Idealize.ShloMosaic.Lib.Pointwise

@[expose] public section

set_option maxRecDepth 16384

noncomputable section

namespace Cert.Project

open Cert.ProjIdeal Cert.ProjIdeal.Gen Idealize.ShloMosaic Idealize.ShloMosaic.TcCoe Idealize.SL.Sem

variable (m : (ℓ : Loc nD τ sig) → Buf (Elt Ideal) ℓ)

/-- The norm's gain of a row times the row's weight. -/
def gained {n : ℕ} (g : S1x2048.Idx → EReal) (W : Fin 2048 → Fin n → EReal) (k : Fin 2048) (j : Fin n) : EReal :=
  g (ix2 0 k) * W k j

/-- The sequence, batch rows one after the other. -/
theorem host_x (c : Dev nD) (i : Fin 16384) (k : Fin 2048) :
    V m c main_v0 (ix2 i k)
      = m ((c.tc : Thread nD τ).loc main_arg0) (ix3 (⟨i.val / 2048, by omega⟩ : Fin 8) (⟨i.val % 2048, by omega⟩ : Fin 2048) k) := by
  unfold V
  after_reads_at

/-- The input projection's weights, each row scaled by the norm's gain. -/
theorem host_w_in (c : Dev nD) (k j : Fin 2048) :
    V m c main_v6 (ix2 k j)
      = gained (m ((c.tc : Thread nD τ).loc main_arg1)) (fun k j => m ((c.tc : Thread nD τ).loc main_arg2) (ix3 (0 : Fin 1) k j)) k j := by
  unfold V gained
  after_reads_at

/-- The gates' weights, each row scaled by the norm's gain. -/
theorem host_w_gate (c : Dev nD) (k : Fin 2048) (j : Fin 4096) :
    V m c main_v10 (ix2 k j)
      = gained (m ((c.tc : Thread nD τ).loc main_arg1)) (fun k j => m ((c.tc : Thread nD τ).loc main_arg3) (ix3 (0 : Fin 1) k j)) k j := by
  unfold V gained
  after_reads_at

/-- The gates' bias. -/
theorem host_b_gate (c : Dev nD) (j : Fin 4096) :
    V m c main_v12 (ix2 (0 : Fin 1) j) = m ((c.tc : Thread nD τ).loc main_arg4) (ix2 (0 : Fin 1) j) := by
  unfold V
  after_reads_at

/-- The output projection's weights. -/
theorem host_w_out (c : Dev nD) (i j : Fin 2048) :
    V m c main_v13 (ix2 i j) = m ((c.tc : Thread nD τ).loc main_arg5) (ix3 (0 : Fin 1) i j) := by
  unfold V
  after_reads_at

end Cert.Project

end
-- ==== Proof.Project.Arr.lean ====
/- The arrays the projections' launch leaves, each at an index. -/
module

public import proofs.«01_k».proof.Proof.Project.Fourier
public import proofs.«01_k».proof.Proof.Project.Body
public import proofs.«01_k».proof.Proof.Project.Gate
public import proofs.«01_k».proof.Proof.Project.Copy
public import proofs.«01_k».proof.Proof.Project.Host

@[expose] public section

set_option maxRecDepth 16384

noncomputable section

namespace Cert.Project

open Cert.ProjIdeal Cert.ProjIdeal.Gen Idealize.ShloMosaic Idealize.ShloMosaic.TcCoe Idealize.SL.Sem

variable (m : (ℓ : Loc nD τ sig) → Buf (Elt Ideal) ℓ)

/-- A position's product with the gained weights, scaled by its reciprocal root mean square. -/
def entry {n : ℕ} (A : S8x2048x2048.Idx → EReal) (g : S1x2048.Idx → EReal) (W : Fin 2048 → Fin n → EReal) (b : Fin 8) (s : Fin 2048) (j : Fin n) : EReal :=
  (∑ k : Fin 2048, A (ix3 b s k) * (g (ix2 0 k) * W k j)) * inv fun k => A (ix3 b s k)

/-- The block that window 0 takes at a point. -/
theorem index0 : ∀ t : Fin cfg0.N, win0_0.index t = ![(grid0.coords t 0).val, 0] := (by decide +kernel : ∀ t : Fin grid0.N, _)
/-- The block that window 1 takes at a point. -/
theorem index1 : ∀ t : Fin cfg0.N, win0_1.index t = ![0, 0] := (by decide +kernel : ∀ t : Fin grid0.N, _)
/-- The block that window 2 takes at a point. -/
theorem index2 : ∀ t : Fin cfg0.N, win0_2.index t = ![0, 0] := (by decide +kernel : ∀ t : Fin grid0.N, _)
/-- The block that window 3 takes at a point. -/
theorem index3 : ∀ t : Fin cfg0.N, win0_3.index t = ![0, 0] := (by decide +kernel : ∀ t : Fin grid0.N, _)
/-- The block that window 4 takes at a point. -/
theorem index4 : ∀ t : Fin cfg0.N, win0_4.index t = ![(grid0.coords t 0).val, 0] := (by decide +kernel : ∀ t : Fin grid0.N, _)
/-- The block that window 5 takes at a point. -/
theorem index5 : ∀ t : Fin cfg0.N, win0_5.index t = ![(grid0.coords t 0).val, 0] := (by decide +kernel : ∀ t : Fin grid0.N, _)
/-- The block that window 6 takes at a point. -/
theorem index6 : ∀ t : Fin cfg0.N, win0_6.index t = ![(grid0.coords t 0).val, 0] := (by decide +kernel : ∀ t : Fin grid0.N, _)
/-- The block that window 7 takes at a point. -/
theorem index7 : ∀ t : Fin cfg0.N, win0_7.index t = ![(grid0.coords t 0).val, 0] := (by decide +kernel : ∀ t : Fin grid0.N, _)
/-- The block that window 8 takes at a point. -/
theorem index8 : ∀ t : Fin cfg0.N, win0_8.index t = ![(grid0.coords t 0).val, 0] := (by decide +kernel : ∀ t : Fin grid0.N, _)

/-- A row of the sequence's block. -/
theorem blk0 (c : Dev nD) (t : Fin cfg0.N) (r : Fin 512) (k : Fin 2048) (b : Fin 8) (s : Fin 2048)
    (h : b.val * 2048 + s.val = (grid0.coords t 0).val * 512 + r.val) :
    (iblk m c 0 t : S512x2048.Idx → EReal) (ix2 r k) = m ((c.tc : Thread nD τ).loc main_arg0) (ix3 b s k) := by
  have e : (iblk m c 0 t : S512x2048.Idx → EReal) (ix2 r k) = V m c main_v0 (ix2 (⟨b.val * 2048 + s.val, by omega⟩ : Fin 16384) k) := by
    blk_simp [iblk]
    refine congrArg (V m c main_v0) ?_
    blk_ext [index0 t, h]
  rw [e, host_x]
  have eb : (⟨(b.val * 2048 + s.val) / 2048, by omega⟩ : Fin 8) = b := Fin.ext (by dsimp only; omega)
  have es : (⟨(b.val * 2048 + s.val) % 2048, by omega⟩ : Fin 2048) = s := Fin.ext (by dsimp only; omega)
  rw [eb, es]

/-- The input projection's weights' block is all of them. -/
theorem blk1 (c : Dev nD) (t : Fin cfg0.N) : (iblk m c 1 t : S2048x2048.Idx → EReal) = V m c main_v6 := by
  funext x
  blk_simp [iblk]
  refine congrArg (V m c main_v6) ?_
  blk_ext [index1 t]

/-- The gates' weights' block is all of them. -/
theorem blk2 (c : Dev nD) (t : Fin cfg0.N) : (iblk m c 2 t : S2048x4096.Idx → EReal) = V m c main_v10 := by
  funext x
  blk_simp [iblk]
  refine congrArg (V m c main_v10) ?_
  blk_ext [index2 t]

/-- The bias's block is all of it. -/
theorem blk3 (c : Dev nD) (t : Fin cfg0.N) : (iblk m c 3 t : S1x4096.Idx → EReal) = V m c main_v12 := by
  funext x
  blk_simp [iblk]
  refine congrArg (V m c main_v12) ?_
  blk_ext [index3 t]

/-- A scaled product of the sequence's block is the entry at the position its row stands for. -/
theorem scaled_entry {n : ℕ} (c : Dev nD) (t : Fin cfg0.N) (U W : Fin 2048 → Fin n → EReal) (r : Fin 512) (b : Fin 8) (s : Fin 2048)
    (j j' : Fin n) (hj : j.val = j'.val) (h : b.val * 2048 + s.val = (grid0.coords t 0).val * 512 + r.val)
    (hU : ∀ k, U k j' = gained (m ((c.tc : Thread nD τ).loc main_arg1)) W k j') :
    scaled (iblk m c 0 t) U r j
      = entry (m ((c.tc : Thread nD τ).loc main_arg0)) (m ((c.tc : Thread nD τ).loc main_arg1)) W b s j' := by
  obtain rfl : j = j' := Fin.ext hj
  unfold scaled entry
  have e : (fun k => (iblk m c 0 t : S512x2048.Idx → EReal) (ix2 r k)) = fun k => m ((c.tc : Thread nD τ).loc main_arg0) (ix3 b s k) :=
    funext fun k => blk0 m c t r k b s h
  exact congrArg₂ (· * ·) (Finset.sum_congr rfl fun k _ => congrArg₂ (· * ·) (congrFun e k) (hU k)) (congrArg inv e)

/-- The Fourier half of the projected sequence, four positions to a row. -/
def fourierOut (A : S8x2048x2048.Idx → EReal) (g : S1x2048.Idx → EReal) (W : S1x2048x2048.Idx → EReal) : S4096x4096.Idx → EReal :=
  fun y => entry A g (fun k j => W (ix3 0 k j))
    (⟨(y 0).val / 512, by have h : (y 0).val < 4096 := (y 0).isLt; omega⟩ : Fin 8)
    (⟨(y 0).val % 512 * 4 + (y 1).val / 1024, by have h : (y 1).val < 4096 := (y 1).isLt; omega⟩ : Fin 2048)
    (⟨(y 1).val % 1024, by omega⟩ : Fin 2048)

/-- The pooling half of the projected sequence. -/
def poolOut (A : S8x2048x2048.Idx → EReal) (g : S1x2048.Idx → EReal) (W : S1x2048x2048.Idx → EReal) : S16384x1024.Idx → EReal :=
  fun y => entry A g (fun k j => W (ix3 0 k j))
    (⟨(y 0).val / 2048, by have h : (y 0).val < 16384 := (y 0).isLt; omega⟩ : Fin 8)
    (⟨(y 0).val % 2048, by omega⟩ : Fin 2048)
    (⟨1024 + (y 1).val, by have h : (y 1).val < 1024 := (y 1).isLt; omega⟩ : Fin 2048)

/-- The gates of the branches. -/
def gateOut (A : S8x2048x2048.Idx → EReal) (g : S1x2048.Idx → EReal) (W : S1x2048x4096.Idx → EReal) (B : S1x4096.Idx → EReal) : S16384x4096.Idx → EReal :=
  fun y => Ideal.logistic (entry A g (fun k j => W (ix3 0 k j))
    (⟨(y 0).val / 2048, by have h : (y 0).val < 16384 := (y 0).isLt; omega⟩ : Fin 8)
    (⟨(y 0).val % 2048, by omega⟩ : Fin 2048) (y 1) + B (ix2 0 (y 1)))

/-- The output projection's weights. -/
def copyOut (W : S1x2048x2048.Idx → EReal) : S2048x2048.Idx → EReal :=
  fun y => W (ix3 0 (y 0) (y 1))

/-- The Fourier half the launch leaves. -/
theorem fourier_arr (c : Dev nD) : (dats m 0 c).arrAt 5 cfg0.N
    = fourierOut (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  rw [after0_5, fourier_point]
  unfold fourierOut
  have e := index5 t
  have l0 : (y 0).val < 128 := (y 0).isLt
  have l1 : (y 1).val < 4096 := (y 1).isLt
  have e0 : ((win0_5.blk t).view.emb y 0).val = (grid0.coords t 0).val * 128 + (y 0).val := by blk_simp [e]
  have e1 : ((win0_5.blk t).view.emb y 1).val = (y 1).val := by blk_simp [e]
  refine scaled_entry m c t _ _ _ _ _ _ _ ?_ ?_ fun k => ?_
  · dsimp only; rw [e1]
  · dsimp only; rw [e0, e1]; omega
  · rw [blk1]; exact host_w_in m c k _

/-- The pooling half the launch leaves. -/
theorem pool_arr (c : Dev nD) : (dats m 0 c).arrAt 6 cfg0.N
    = poolOut (m ((c.tc : Thread nD τ).loc main_arg0)) (m ((c.tc : Thread nD τ).loc main_arg1)) (m ((c.tc : Thread nD τ).loc main_arg2)) := by
  refine (dats m 0 c).arrAt_eq_of_covers 6 _ (by decide +kernel) fun t _ y => ?_
  blk_simp
  rw [after0_6, pool_point]
  unfold poolOut
  have e := index6 t
  have l0 : (y 0).val < 512 := (y 0).isLt
  have e0 : ((win0_6.blk t).view.emb y 0).val = (grid0.coords t 0).val * 512 + (y 0).val := by blk_simp [e]
  have e1 : ((win0_6.blk t).view.emb y 1).val = (y 1).val := by blk_simp [e]
  refine scaled_entry m c t _ _ _ _ _ _ _ ?_ ?_ fun k => ?_
  · dsimp only; rw [e1]
  · dsimp only; rw [e0]; omega
  · rw [blk1]; exact host_w_in m c k _

/-- The gates the launch leaves. -/
theorem gate_arr (c : Dev nD) : (dats m 0 c).arrAt 7 cfg0.N
    = gateOut (m ((c.tc : Thread nD τ).loc main_arg0)) (m ((c.tc : Thread nD τ).loc main_arg1)) (m ((c.tc : Thread nD τ).loc main_arg3))
        (m ((c.tc : Thread nD τ).loc main_arg4)) := by
  refine (dats m 0 c).arrAt_eq_of_covers 7 _ (by decide +kernel) fun t _ y => ?_
  blk_simp
  rw [after0_7, gate_point]
  unfold gateOut
  have e := index7 t
  have l0 : (y 0).val < 512 := (y 0).isLt
  have e0 : ((win0_7.blk t).view.emb y 0).val = (grid0.coords t 0).val * 512 + (y 0).val := by blk_simp [e]
  have e1 : ((win0_7.blk t).view.emb y 1) = y 1 := Fin.ext (by blk_simp [e])
  refine congrArg Ideal.logistic (congrArg₂ (· + ·) (scaled_entry m c t _ _ _ _ _ _ _ ?_ ?_ fun k => ?_) ?_)
  · exact congrArg Fin.val e1.symm
  · dsimp only; rw [e0]; omega
  · rw [blk2]; exact host_w_gate m c k _
  · rw [blk3, e1]; exact host_b_gate m c _

/-- The output projection's weights the launch leaves. -/
theorem copy_arr (c : Dev nD) : (dats m 0 c).arrAt 8 cfg0.N = copyOut (m ((c.tc : Thread nD τ).loc main_arg5)) := by
  refine (dats m 0 c).arrAt_eq_of_covers 8 _ (by decide +kernel) fun t _ y => ?_
  blk_simp
  rw [after0_8, copy_point]
  unfold copyOut
  have e := index8 t
  refine Eq.trans ?_ (host_w_out m c _ _)
  blk_simp [iblk]
  refine congrArg (V m c main_v13) ?_
  blk_ext [index4 t, e]

end Cert.Project

end
-- ==== Proof.Project.Bridge.lean ====
/- The projections' launch and their reference leave the same arrays. -/
module

public import proofs.«01_k».proof.Proof.Common.Norm
public import proofs.«01_k».proof.Proof.Project.Arr
public import proofs.«01_k».proof.Proof.Mixer.Words

@[expose] public section

set_option maxRecDepth 16384

noncomputable section

namespace Cert.Project

open Cert.ProjReferenceIdeal Cert.ProjReferenceIdeal.Gen Idealize.ShloMosaic Idealize.ShloMosaic.TcCoe Idealize.SL.Sem

/-- The norm's constant is a positive real number. -/
theorem ofBits_eps : ∃ e : ℝ, 0 < e ∧ Ideal.ofBits FTy.f32 0x358637BD#32 = (e : EReal) := by
  refine ⟨(8796093 : ℝ) / 2 ^ 43, by positivity, ?_⟩
  simp [Ideal.ofBits, Ideal.ieee, -EReal.coe_mul]
  norm_num

/-- The word of 1.0 denotes one. -/
theorem ofBits_one : Ideal.ofBits FTy.f32 0x3F800000#32 = (1 : EReal) := by
  simp [Ideal.ofBits, Ideal.ieee, -EReal.coe_mul]; norm_num

/-- A row's reciprocal root mean square is a real number that is not negative. -/
theorem inv_real {n : ℕ} (x : Fin n → EReal) : ∃ r : ℝ, 0 ≤ r ∧ inv x = (r : EReal) := by
  obtain ⟨e, he, h⟩ := ofBits_eps
  obtain ⟨r, hr, h'⟩ := Cert.Common.rms_real x (c := 2048) (e := e) (by norm_num) he
  refine ⟨r, hr, ?_⟩
  unfold inv
  rw [Cert.Mixer.ofBits_length, h]
  exact h'

/-- An entry is the normed row's product with the weights. -/
theorem entry_eq {n : ℕ} (A : FVec Ideal S8x2048x2048 .f32) (g : FVec Ideal S1x2048 .f32) (W : Fin 2048 → Fin n → EReal)
    (b : Fin 8) (s : Fin 2048) (j : Fin n) : entry A g W b s j = ∑ k : Fin 2048, refNormed A g (ix3 b s k) * W k j := by
  simp only [normed_at]
  unfold entry
  obtain ⟨r, hr, h⟩ := inv_real fun k => A (ix3 b s k)
  rw [h]
  exact Cert.Common.norm_product _ _ _ hr

/-- An index of two coordinates is the pair of them. -/
theorem ix2_of {a b : ℕ} (y : Shape.Idx ⟨2, ![a, b]⟩) : ∃ (i : Fin a) (j : Fin b), y = ix2 i j :=
  ⟨y 0, y 1, by funext x; match x with | ⟨0, _⟩ => rfl | ⟨1, _⟩ => rfl⟩

/-- The Fourier half is the reference's. -/
theorem fourier_eq (A : FVec Ideal S8x2048x2048 .f32) (g : FVec Ideal S1x2048 .f32) (W : FVec Ideal S1x2048x2048 .f32) :
    (truncf .bf16 (shapeCast _ (extractStridedSlice S8x2048x1024 ![0, 0, 0] (refP (refNormed A g) W) slices_S8x2048x2048_S8x2048x1024_0_0_0) shapeCasts_S8x2048x1024_S4096x4096) bitsLt_bf16_f32 : FVec Ideal S4096x4096 .bf16)
      = fourierOut A g W := by
  funext y
  obtain ⟨i, j, rfl⟩ := ix2_of y
  rw [ref_fourier, p_at]
  exact (entry_eq A g (fun k j => W (ix3 0 k j)) _ _ _).symm

/-- The pooling half is the reference's. -/
theorem pool_eq (A : FVec Ideal S8x2048x2048 .f32) (g : FVec Ideal S1x2048 .f32) (W : FVec Ideal S1x2048x2048 .f32) :
    (truncf .bf16 (shapeCast _ (extractStridedSlice S8x2048x1024 ![0, 0, 1024] (refP (refNormed A g) W) slices_S8x2048x2048_S8x2048x1024_0_0_1024) shapeCasts_S8x2048x1024_S16384x1024) bitsLt_bf16_f32 : FVec Ideal S16384x1024 .bf16)
      = poolOut A g W := by
  funext y
  obtain ⟨i, j, rfl⟩ := ix2_of y
  rw [ref_pool, p_at]
  exact (entry_eq A g (fun k j => W (ix3 0 k j)) _ _ _).symm

/-- The logistic function written out is the logistic function. -/
theorem logistic_eq (x : EReal) : logistic x = Ideal.logistic x := by
  unfold logistic
  rw [ofBits_one]
  rfl

/-- The gates are the reference's. -/
theorem gate_eq (A : FVec Ideal S8x2048x2048 .f32) (g : FVec Ideal S1x2048 .f32) (W : FVec Ideal S1x2048x4096 .f32) (B : FVec Ideal S1x4096 .f32) :
    refGate (refNormed A g) W B = gateOut A g W B := by
  funext y
  obtain ⟨i, j, rfl⟩ := ix2_of y
  rw [ref_gate, logistic_eq]
  exact congrArg (fun e => Ideal.logistic (e + B (ix2 0 j))) (entry_eq A g (fun k j => W (ix3 0 k j)) _ _ _).symm

/-- The output projection's weights are the reference's. -/
theorem copy_eq (W : FVec Ideal S1x2048x2048 .f32) :
    (truncf .bf16 (shapeCast _ W shapeCasts_S1x2048x2048_S2048x2048) bitsLt_bf16_f32 : FVec Ideal S2048x2048 .bf16) = copyOut W := by
  funext y
  obtain ⟨i, j, rfl⟩ := ix2_of y
  unfold copyOut
  pointwise

end Cert.Project

end
-- ==== Proof.Project.Claims.lean ====
/- The claims about the projections. -/
module

public import proofs.«01_k».proof.Defs
public import proofs.«01_k».proof.Proof.Gen.Proj.Frame
public import proofs.«01_k».proof.Proof.Gen.ProjReferenceIdeal.Run
public import proofs.«01_k».proof.Proof.Project.Bridge
public import Idealize.ShloMosaic.Adequacy
public import Idealize.ShloMosaic.Init

@[expose] public section

noncomputable section

namespace Cert.Project

open Idealize.ShloMosaic Idealize.SL.Sem

/-- The kernel's frame: it runs to a quiet end and leaves its arguments as they were. -/
theorem frame_kernel : Cert.quiescent_Proj := fun m ρ _ => Cert.Proj.Gen.frame m ρ

/-- The same of the kernel read over the extended reals. -/
theorem frame_ideal : Cert.quiescent_ProjIdeal := fun m ρ _ => Cert.ProjIdeal.Gen.frame m ρ

/-- The reference's frame. -/
theorem frame_reference : Cert.quiescent_ProjReferenceIdeal := fun m ρ _ =>
  (θ_run _ _ _).mono (fun r h => ⟨fun c => (h c).2.2.2.2, funext fun e => nomatch e⟩)
    (Cert.ProjReferenceIdeal.Value.run m ρ)

/-- The kernel and the reference end with equal results from equal arguments. -/
theorem values : Cert.algebraic_ProjIdeal_ProjReferenceIdeal := by
  intro m g m' g' _ hargs
  refine ⟨fun c => fourierOut (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)),
    fun c => poolOut (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)),
    fun c => gateOut (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)),
    fun c => copyOut (m ((c.tc : Thread Cert.ProjIdeal.nD Cert.ProjIdeal.τ).loc Cert.ProjIdeal.main_arg5)), ?_, ?_⟩
  · refine (θ_run _ _ _).mono (fun r h c => ?_) (Cert.ProjIdeal.Value.run_blocks m g)
    obtain ⟨h5, h6, h7, h8, ha⟩ := h c
    exact ⟨h5.trans (fourier_arr m c), h6.trans (pool_arr m c), h7.trans (gate_arr m c), h8.trans (copy_arr m c), ha⟩
  · refine (θ_run _ _ _).mono (fun r h c => ?_) (Cert.ProjReferenceIdeal.Value.run m' g')
    obtain ⟨h0, h1, h2, h3, ha⟩ := h c
    obtain ⟨e0, e1, e2, e3, e4, e5⟩ := hargs c
    exact ⟨h0.trans ((fourier_eq _ _ _).trans (congr (congr (congrArg fourierOut e0) e1) e2)),
      h1.trans ((pool_eq _ _ _).trans (congr (congr (congrArg poolOut e0) e1) e2)),
      h2.trans ((gate_eq _ _ _ _).trans (congr (congr (congr (congrArg gateOut e0) e1) e3) e4)),
      h3.trans ((copy_eq _).trans (congrArg copyOut e5)), ha⟩

end Cert.Project

end
-- ==== Proof.Merge.Finite.lean ====
/- What the router's precondition gives: every element of both arrays is a real number. -/
module

public import proofs.«01_k».proof.Proof.Gen.Pre_finite_router
public import proofs.«01_k».proof.Proof.Mixer.Finite

@[expose] public section

set_option maxRecDepth 16384

noncomputable section

namespace Cert.Merge

open Cert.Pre_finite_router Cert.Pre_finite_router.Gen Idealize.ShloMosaic

/-- The precondition: the norm's gain and the router's weights hold real numbers. -/
theorem real_of_router (a0 a1 a2 : FVec Ideal S16384x1024 .bf16) (a3 : FVec Ideal S16384x4096 .bf16) (a4 : FVec Ideal S16384x2048 .f32)
    (a5 a6 : FVec Ideal S1024x2048 .bf16) (a7 : FVec Ideal S2048x2048 .bf16) (g : FVec Ideal S1x2048 .f32) (W : FVec Ideal S1x2048x16 .f32)
    (h : Cert.Pre_finite_router.fn a0 a1 a2 a3 a4 a5 a6 a7 g W = fun _ => 1#1) :
    (∃ r : S1x2048.Idx → ℝ, g = fun i => ((r i : ℝ) : EReal)) ∧ (∃ r : S1x2048x16.Idx → ℝ, W = fun i => ((r i : ℝ) : EReal)) := by
  have h0 := congrFun h (fun i => i.elim0)
  dsimp only [Cert.Pre_finite_router.fn] at h0
  have h1 := IntOp.andi_eq_one.1 h0
  refine ⟨Cert.Mixer.real_of_cmp g _ (fun i => ?_) fun i => Host.reduce_andi_all _ _ _ _ _ h1.1 i, Cert.Mixer.real_of_cmp W _ (fun i => ?_) fun i => Host.reduce_andi_all _ _ _ _ _ h1.2 i⟩
  · pointwise
    exact Cert.Mixer.ofBits_inf
  · pointwise
    exact Cert.Mixer.ofBits_inf

end Cert.Merge

end
-- ==== Proof.Merge.Rows.lean ====
/- The tail of the mixers, row by row: the functions that the launch and the reference both compute. -/
module

public import proofs.«01_k».proof.Proof.Project.Ref

@[expose] public section

noncomputable section

namespace Cert.Merge

open Idealize.ShloMosaic

/-- The channel half of the Fourier mixer of a row: each group of 256 channels against the two tables. -/
def zed (pc ps : Fin 1024 → EReal) (C S : Fin 256 → Fin 256 → EReal) (k : Fin 1024) : EReal :=
  (∑ c : Fin 256, pc ⟨k.val / 256 * 256 + c.val, by omega⟩ * C c ⟨k.val % 256, by omega⟩)
    - ∑ c : Fin 256, ps ⟨k.val / 256 * 256 + c.val, by omega⟩ * S c ⟨k.val % 256, by omega⟩

/-- The gated sum of a row's two branches. -/
def gated (z pl : Fin 1024 → EReal) (g : Fin 4096 → EReal) (WF WP : Fin 1024 → Fin 2048 → EReal) (d : Fin 2048) : EReal :=
  g ⟨d.val, by omega⟩ * (∑ k, z k * WF k d) + g ⟨2048 + d.val, by omega⟩ * ∑ k, pl k * WP k d

/-- The merged sequence of a row: its input and its gated branches through the output product. -/
def hid (z pl : Fin 1024 → EReal) (g : Fin 4096 → EReal) (x : Fin 2048 → EReal) (WF WP : Fin 1024 → Fin 2048 → EReal)
    (WO : Fin 2048 → Fin 2048 → EReal) (e : Fin 2048) : EReal :=
  x e + ∑ d, gated z pl g WF WP d * WO d e

end Cert.Merge

end
-- ==== Proof.Merge.Body.lean ====
/- What the values of one point of the tail's launch are, at an index. -/
module

public import proofs.«01_k».proof.Proof.Gen.TailIdeal.Value
public import proofs.«01_k».proof.Proof.Merge.Rows
public import Idealize.ShloMosaic.Lib.Pipeline.ValueKit

@[expose] public section

set_option maxRecDepth 16384

noncomputable section

namespace Cert.Merge

open Cert.TailIdeal Cert.TailIdeal.Gen Idealize.ShloMosaic Idealize.ShloMosaic.TcCoe Idealize.SL.Sem

/-- A group's two products, at a channel of the group, are the channel half at the channel's place. -/
theorem zed_group (pc ps : Fin 1024 → EReal) (C S : Fin 256 → Fin 256 → EReal) (q : Fin 4) (j : Fin 256) (k : Fin 1024)
    (h : k.val = q.val * 256 + j.val) :
    (∑ c : Fin 256, pc ⟨q.val * 256 + c.val, by omega⟩ * C c j) - (∑ c : Fin 256, ps ⟨q.val * 256 + c.val, by omega⟩ * S c j)
      = zed pc ps C S k := by
  have hk : k = ⟨q.val * 256 + j.val, by omega⟩ := Fin.ext h
  rw [hk]
  unfold zed
  have ej : (⟨(q.val * 256 + j.val) % 256, by omega⟩ : Fin 256) = j := Fin.ext (by dsimp only; omega)
  have ec (c : Fin 256) : (⟨(q.val * 256 + j.val) / 256 * 256 + c.val, by omega⟩ : Fin 1024) = ⟨q.val * 256 + c.val, by omega⟩ :=
    Fin.ext (by dsimp only; omega)
  simp only [ej, ec]

/-- The first group of the channel half. -/
theorem group0_at (x0 x1 : Vec Ideal S512x1024 .bf16) (x5 x6 : Vec Ideal S256x256 .bf16) (i : Fin 512) (j : Fin 256) (k : Fin 1024)
    (h : k.val = j.val) :
    k0_pay4 (View.ld x0 r0_0) (View.ld x5 r0_1) (View.ld x1 r0_0) (View.ld x6 r0_1) (ix2 i j)
      = zed (fun k => x0 (ix2 i k)) (fun k => x1 (ix2 i k)) (fun c d => x5 (ix2 c d)) (fun c d => x6 (ix2 c d)) k := by
  refine Eq.trans ?_ (zed_group _ _ _ _ 0 j k (by simpa using h))
  unfold k0_pay4
  pointwise

/-- The second group of the channel half. -/
theorem group1_at (x0 x1 : Vec Ideal S512x1024 .bf16) (x5 x6 : Vec Ideal S256x256 .bf16) (i : Fin 512) (j : Fin 256) (k : Fin 1024)
    (h : k.val = 256 + j.val) :
    k0_pay5 (View.ld x0 r0_2) (View.ld x5 r0_1) (View.ld x1 r0_2) (View.ld x6 r0_1) (ix2 i j)
      = zed (fun k => x0 (ix2 i k)) (fun k => x1 (ix2 i k)) (fun c d => x5 (ix2 c d)) (fun c d => x6 (ix2 c d)) k := by
  refine Eq.trans ?_ (zed_group _ _ _ _ 1 j k (by simpa using h))
  unfold k0_pay5
  pointwise

/-- The third group of the channel half. -/
theorem group2_at (x0 x1 : Vec Ideal S512x1024 .bf16) (x5 x6 : Vec Ideal S256x256 .bf16) (i : Fin 512) (j : Fin 256) (k : Fin 1024)
    (h : k.val = 512 + j.val) :
    k0_pay6 (View.ld x0 r0_3) (View.ld x5 r0_1) (View.ld x1 r0_3) (View.ld x6 r0_1) (ix2 i j)
      = zed (fun k => x0 (ix2 i k)) (fun k => x1 (ix2 i k)) (fun c d => x5 (ix2 c d)) (fun c d => x6 (ix2 c d)) k := by
  refine Eq.trans ?_ (zed_group _ _ _ _ 2 j k (by simpa using h))
  unfold k0_pay6
  pointwise

/-- The merged sequence of a row of a point's blocks. -/
def row (x0 x1 x2 : Vec Ideal S512x1024 .bf16) (x3 : Vec Ideal S512x4096 .bf16) (x4 : Vec Ideal S512x2048 .f32) (x5 x6 : Vec Ideal S256x256 .bf16)
    (x7 x8 : Vec Ideal S1024x2048 .bf16) (x9 : Vec Ideal S2048x2048 .bf16) (i : Fin 512) : Fin 2048 → EReal :=
  hid (zed (fun k => x0 (ix2 i k)) (fun k => x1 (ix2 i k)) (fun c d => x5 (ix2 c d)) (fun c d => x6 (ix2 c d)))
    (fun k => x2 (ix2 i k)) (fun d => x3 (ix2 i d)) (fun e => x4 (ix2 i e)) (fun k d => x7 (ix2 k d)) (fun k d => x8 (ix2 k d))
    (fun d e => x9 (ix2 d e))

set_option maxHeartbeats 1000000 in
/-- The merged sequence at a row and a channel, from the three first groups and the blocks. -/
theorem h_at (z0 z1 : FVec Ideal S512x256 .bf16) (z2 : FVec Ideal S512x256 .f32) (x0 x1 x2 : Vec Ideal S512x1024 .bf16)
    (x3 : Vec Ideal S512x4096 .bf16) (x4 : Vec Ideal S512x2048 .f32) (x5 x6 : Vec Ideal S256x256 .bf16)
    (x7 x8 : Vec Ideal S1024x2048 .bf16) (x9 : Vec Ideal S2048x2048 .bf16) (i : Fin 512) (e : Fin 2048)
    (h0 : ∀ (j : Fin 256) (k : Fin 1024), k.val = j.val → z0 (ix2 i j) = zed (fun k => x0 (ix2 i k)) (fun k => x1 (ix2 i k)) (fun c d => x5 (ix2 c d)) (fun c d => x6 (ix2 c d)) k)
    (h1 : ∀ (j : Fin 256) (k : Fin 1024), k.val = 256 + j.val → z1 (ix2 i j) = zed (fun k => x0 (ix2 i k)) (fun k => x1 (ix2 i k)) (fun c d => x5 (ix2 c d)) (fun c d => x6 (ix2 c d)) k)
    (h2 : ∀ (j : Fin 256) (k : Fin 1024), k.val = 512 + j.val → z2 (ix2 i j) = zed (fun k => x0 (ix2 i k)) (fun k => x1 (ix2 i k)) (fun c d => x5 (ix2 c d)) (fun c d => x6 (ix2 c d)) k) :
    k0_pay7 z0 z1 z2 (View.ld x0 r0_4) (View.ld x5 r0_1) (View.ld x1 r0_4) (View.ld x6 r0_1) (View.ld x7 r0_5) (View.ld x2 r0_6) (View.ld x8 r0_5) (View.ld x3 r0_7) (View.ld x3 r0_8) (View.ld x4 r0_9) (View.ld x9 r0_10) (ix2 i e)
      = row x0 x1 x2 x3 x4 x5 x6 x7 x8 x9 i e := by
  unfold k0_pay7 row hid gated
  pointwise
  refine congrArg₂ (· + ·) rfl (Finset.sum_congr rfl fun d _ => congrArg (· * _) (congrArg₂ (· + ·) (congrArg (_ * ·)
    (Finset.sum_congr rfl fun k _ => congrArg (· * _) ?_)) rfl))
  have hk := k.isLt
  split_ifs
  all_goals first
    | exact h0 _ k rfl
    | exact h1 _ k (show k.val = 256 + (k.val - 256) by omega)
    | exact h2 _ k (show k.val = 512 + (k.val - 256 - 256) by omega)
    | exact zed_group (fun k => x0 (ix2 i k)) (fun k => x1 (ix2 i k)) (fun c d => x5 (ix2 c d)) (fun c d => x6 (ix2 c d)) 3
        ⟨k.val - 256 - 256 - 256, by omega⟩ k (show k.val = 3 * 256 + (k.val - 256 - 256 - 256) by omega)
    | exact absurd rfl ‹¬ _ = _›

/-- The merged sequence of a point, at a row and a channel. -/
theorem merged_at (x0 x1 x2 : Vec Ideal S512x1024 .bf16) (x3 : Vec Ideal S512x4096 .bf16) (x4 : Vec Ideal S512x2048 .f32) (x5 x6 : Vec Ideal S256x256 .bf16)
    (x7 x8 : Vec Ideal S1024x2048 .bf16) (x9 : Vec Ideal S2048x2048 .bf16) (x10 : Vec Ideal S1x2048 .f32) (x11 : Vec Ideal S2048x32 .bf16) (i : Fin 512) (e : Fin 2048) :
    k0_pay11 x0 x1 x2 x3 x4 x5 x6 x7 x8 x9 x10 x11 (ix2 i e) = row x0 x1 x2 x3 x4 x5 x6 x7 x8 x9 i e :=
  h_at _ _ _ x0 x1 x2 x3 x4 x5 x6 x7 x8 x9 i e (fun j k h => group0_at x0 x1 x5 x6 i j k h) (fun j k h => group1_at x0 x1 x5 x6 i j k h)
    (fun j k h => group2_at x0 x1 x5 x6 i j k h)

/-- The normed sequence at a row and a channel. -/
theorem v_at (H : FVec Ideal S512x2048 .f32) (x10 : Vec Ideal S1x2048 .f32) (i : Fin 512) (e : Fin 2048) :
    k0_pay2 H (View.ld x10 r0_11) (ix2 i e) = H (ix2 i e) * Cert.Project.inv (fun d => H (ix2 i d)) * x10 (ix2 0 e) := by
  unfold k0_pay2 k0_pay1 Cert.Project.inv
  pointwise

/-- The router's logits at a row and an expert. -/
theorem logit_at (H : FVec Ideal S512x2048 .f32) (x11 : Vec Ideal S2048x32 .bf16) (i : Fin 512) (e : Fin 16) :
    k0_pay3 H (View.ld x11 r0_12) (ix2 i e)
      = ((∑ d, H (ix2 i d) * x11 (ix2 d ⟨e.val, by omega⟩)) + ∑ d, H (ix2 i d) * x11 (ix2 d ⟨16 + e.val, by omega⟩))
          * Cert.Project.inv (fun d => H (ix2 i d)) := by
  unfold k0_pay3 k0_pay1 Cert.Project.inv
  pointwise

/-- The merged sequence that a point leaves. -/
theorem out_h (x0 x1 x2 : Vec Ideal S512x1024 .bf16) (x3 : Vec Ideal S512x4096 .bf16) (x4 : Vec Ideal S512x2048 .f32) (x5 x6 : Vec Ideal S256x256 .bf16)
    (x7 x8 : Vec Ideal S1024x2048 .bf16) (x9 : Vec Ideal S2048x2048 .bf16) (x10 : Vec Ideal S1x2048 .f32) (x11 : Vec Ideal S2048x32 .bf16) (i : Fin 512) (e : Fin 2048) :
    out0_12 x0 x1 x2 x3 x4 x5 x6 x7 x8 x9 x10 x11 (ix2 i e) = row x0 x1 x2 x3 x4 x5 x6 x7 x8 x9 i e := by
  refine Eq.trans ?_ (merged_at x0 x1 x2 x3 x4 x5 x6 x7 x8 x9 x10 x11 i e)
  unfold out0_12
  refine Eq.trans (congrArg (View.canon _) ?_) (View.canon_cons_emb r0_9 _ _ (ix2 i e : S512x2048.Idx))
  funext a
  apply Fin.ext
  fin_cases a
  · show i.val = 0 + 1 * i.val
    omega
  · show e.val = 0 + 1 * e.val
    omega

/-- The normed sequence that a point leaves. -/
theorem out_v (x0 x1 x2 : Vec Ideal S512x1024 .bf16) (x3 : Vec Ideal S512x4096 .bf16) (x4 : Vec Ideal S512x2048 .f32) (x5 x6 : Vec Ideal S256x256 .bf16)
    (x7 x8 : Vec Ideal S1024x2048 .bf16) (x9 : Vec Ideal S2048x2048 .bf16) (x10 : Vec Ideal S1x2048 .f32) (x11 : Vec Ideal S2048x32 .bf16) (i : Fin 512) (e : Fin 2048) :
    out0_13 x0 x1 x2 x3 x4 x5 x6 x7 x8 x9 x10 x11 (ix2 i e)
      = row x0 x1 x2 x3 x4 x5 x6 x7 x8 x9 i e * Cert.Project.inv (row x0 x1 x2 x3 x4 x5 x6 x7 x8 x9 i) * x10 (ix2 0 e) := by
  have k := v_at (k0_pay11 x0 x1 x2 x3 x4 x5 x6 x7 x8 x9 x10 x11) x10 i e
  simp only [merged_at] at k
  refine Eq.trans ?_ k
  unfold out0_13
  refine Eq.trans (congrArg (View.canon _) ?_) (View.canon_cons_emb r0_9 _ _ (ix2 i e : S512x2048.Idx))
  funext a
  apply Fin.ext
  fin_cases a
  · show i.val = 0 + 1 * i.val
    omega
  · show e.val = 0 + 1 * e.val
    omega

/-- The router's logits that a point leaves. -/
theorem out_logit (x0 x1 x2 : Vec Ideal S512x1024 .bf16) (x3 : Vec Ideal S512x4096 .bf16) (x4 : Vec Ideal S512x2048 .f32) (x5 x6 : Vec Ideal S256x256 .bf16)
    (x7 x8 : Vec Ideal S1024x2048 .bf16) (x9 : Vec Ideal S2048x2048 .bf16) (x10 : Vec Ideal S1x2048 .f32) (x11 : Vec Ideal S2048x32 .bf16) (i : Fin 512) (e : Fin 16) :
    out0_14 x0 x1 x2 x3 x4 x5 x6 x7 x8 x9 x10 x11 (ix2 i e)
      = ((∑ d, row x0 x1 x2 x3 x4 x5 x6 x7 x8 x9 i d * x11 (ix2 d ⟨e.val, by omega⟩)) + ∑ d, row x0 x1 x2 x3 x4 x5 x6 x7 x8 x9 i d * x11 (ix2 d ⟨16 + e.val, by omega⟩))
          * Cert.Project.inv (row x0 x1 x2 x3 x4 x5 x6 x7 x8 x9 i) := by
  have k := logit_at (k0_pay11 x0 x1 x2 x3 x4 x5 x6 x7 x8 x9 x10 x11) x11 i e
  simp only [merged_at] at k
  refine Eq.trans ?_ k
  unfold out0_14
  refine Eq.trans (congrArg (View.canon _) ?_) (View.canon_cons_emb r0_13 _ _ (ix2 i e : S512x16.Idx))
  funext a
  apply Fin.ext
  fin_cases a
  · show i.val = 0 + 1 * i.val
    omega
  · show e.val = 0 + 1 * e.val
    omega

end Cert.Merge

end
-- ==== Proof.Merge.Words.lean ====
/- The words and constants of the channel transform's tables: the remainder of a phase and the step of the angles. -/
module

public import proofs.«01_k».proof.Proof.Mixer.Words

@[expose] public section

namespace Cert.Merge

open Real Idealize.ShloMosaic Cert.Mixer

/-- The step of the channel transform's angle: a whole turn over 256 channels. -/
noncomputable def turn : ℝ := 2 * π / 256

/-- A phase is its remainder by 256 and whole turns. -/
theorem phase_split (n : ℕ) : (n : ℝ) * turn = (n % 256 : ℕ) * turn + (n / 256 : ℕ) * (2 * π) := by
  have := Nat.mod_add_div n 256
  have h2 : (n : ℝ) = (n % 256 : ℕ) + 256 * (n / 256 : ℕ) := by exact_mod_cast this.symm
  conv_lhs => rw [h2]
  unfold turn; ring

/-- The divisor that a remainder by 256 is taken by: the group's size itself. -/
theorem group_word : Scalar.select (IntOp.cmpi CmpIPredicate.eq (256#32) 0#32) (1#32) (256#32) = 256#32 := by
  decide

/-- A sign-corrected remainder by 256 of a small natural's word is the natural's remainder. -/
theorem rem_word (a : ℕ) (ha : a < 2 ^ 31) :
    Scalar.select
      (IntOp.andi
        (IntOp.cmpi CmpIPredicate.ne
          (IntOp.cmpi CmpIPredicate.slt (IntOp.remsi ArithUnit.host (BitVec.ofNat 32 a) (256#32)) 0#32)
          (IntOp.cmpi CmpIPredicate.slt (256#32) 0#32))
        (IntOp.cmpi CmpIPredicate.ne (IntOp.remsi ArithUnit.host (BitVec.ofNat 32 a) (256#32)) 0#32))
      (IntOp.addi (IntOp.remsi ArithUnit.host (BitVec.ofNat 32 a) (256#32)) (256#32))
      (IntOp.remsi ArithUnit.host (BitVec.ofNat 32 a) (256#32)) = BitVec.ofNat 32 (a % 256) := by
  have e : IntOp.remsi ArithUnit.host (BitVec.ofNat 32 a) (256#32) = BitVec.ofNat 32 (a % 256) :=
    Routing.remsi_word .host ha (b := 256) (by norm_num) (by norm_num)
  rw [e, WordCmp.cmpi_slt_ofNat (by omega) (by norm_num),
    show IntOp.cmpi CmpIPredicate.ne (BitVec.ofBool (decide (a % 256 < 0))) (IntOp.cmpi CmpIPredicate.slt (256#32) 0#32) = 0#1 by
      rw [decide_eq_false (by omega)]; decide]
  show Scalar.select (0#1 &&& _) _ _ = _
  rw [BitVec.zero_and]
  rfl

/-- The word of a product of two channels. -/
theorem product_word (k n : ℕ) : IntOp.muli (BitVec.ofNat 32 k) (BitVec.ofNat 32 n) = BitVec.ofNat 32 (k * n) := by
  rw [BitVec.ofNat_mul]
  rfl

/-- The word of 256.0 denotes 256. -/
theorem ofBits_group : Ideal.ofBits FTy.f32 0x43800000#32 = ((256 : ℝ) : EReal) := by
  simp [Ideal.ofBits, Ideal.ieee, -EReal.coe_mul]; norm_num

/-- Twice the arc cosine of −1 over the group's size is the step of the angles. -/
theorem turn_word :
    Ideal.div (Ideal.ofBits FTy.f32 0x40000000#32 * Ideal.acos (Ideal.ofBits FTy.f32 0xBF800000#32))
      (Ideal.ofBits FTy.f32 0x43800000#32) = ((turn : ℝ) : EReal) := by
  rw [ofBits_neg_one, ofBits_two, ofBits_group, Ideal.acos_coe, if_pos (by norm_num), Real.arccos_neg_one,
    Ideal.div_coe (by norm_num), ← EReal.coe_mul, ← EReal.coe_mul]
  congr 1; unfold turn; ring

/-- The cosine table of a group's transform. -/
noncomputable def tableC (c d : Fin 256) : EReal :=
  Ideal.div ((cos ((c.val * d.val : ℕ) * turn) : ℝ) : EReal) (Ideal.ofBits FTy.f32 0x41800000#32)

/-- The sine table of a group's transform. -/
noncomputable def tableS (c d : Fin 256) : EReal :=
  Ideal.div ((sin ((c.val * d.val : ℕ) * turn) : ℝ) : EReal) (Ideal.ofBits FTy.f32 0x41800000#32)

/-- The cosine of a reduced phase is the cosine of the phase. -/
theorem cos_rem (a : ℕ) (ha : a < 2 ^ 31) :
    Ideal.cos ((FloatOps.sitofp FTy.f32 (BitVec.ofNat 32 (a % 256)) : Ideal .f32) * ((turn : ℝ) : EReal))
      = ((cos (a * turn) : ℝ) : EReal) := by
  rw [sitofp_word _ (by omega), ← EReal.coe_mul, Ideal.cos_coe, phase_split a, cos_add_nat_mul_two_pi]

/-- The sine of a reduced phase is the sine of the phase. -/
theorem sin_rem (a : ℕ) (ha : a < 2 ^ 31) :
    Ideal.sin ((FloatOps.sitofp FTy.f32 (BitVec.ofNat 32 (a % 256)) : Ideal .f32) * ((turn : ℝ) : EReal))
      = ((sin (a * turn) : ℝ) : EReal) := by
  rw [sitofp_word _ (by omega), ← EReal.coe_mul, Ideal.sin_coe, phase_split a, sin_add_nat_mul_two_pi]

/-- The cosine of an unreduced phase. -/
theorem cos_plain (a : ℕ) (ha : a < 2 ^ 31) :
    Ideal.cos ((FloatOps.sitofp FTy.f32 (BitVec.ofNat 32 a) : Ideal .f32) * ((turn : ℝ) : EReal))
      = ((cos (a * turn) : ℝ) : EReal) := by
  rw [sitofp_word _ ha, ← EReal.coe_mul, Ideal.cos_coe]

/-- The sine of an unreduced phase. -/
theorem sin_plain (a : ℕ) (ha : a < 2 ^ 31) :
    Ideal.sin ((FloatOps.sitofp FTy.f32 (BitVec.ofNat 32 a) : Ideal .f32) * ((turn : ℝ) : EReal))
      = ((sin (a * turn) : ℝ) : EReal) := by
  rw [sitofp_word _ ha, ← EReal.coe_mul, Ideal.sin_coe]

end Cert.Merge
-- ==== Proof.Merge.Host.lean ====
/- The arrays the host prepares for the merge's launch, each at an index. -/
module

public import proofs.«01_k».proof.Proof.Gen.TailIdeal.Value
public import proofs.«01_k».proof.Proof.Merge.Words
public import Idealize.ShloMosaic.Lib.StableHlo.ReadAt
public import Idealize.ShloMosaic.Lib.Pointwise

@[expose] public section

set_option maxRecDepth 16384

noncomputable section

namespace Cert.Merge

open Cert.TailIdeal Cert.TailIdeal.Gen Idealize.ShloMosaic Idealize.ShloMosaic.TcCoe Idealize.SL.Sem Cert.Mixer

variable (m : (ℓ : Loc nD τ sig) → Buf (Elt Ideal) ℓ)

/-- The norm's gain of a row times the row's router weight. -/
def routed (g : S1x2048.Idx → EReal) (W : S1x2048x16.Idx → EReal) (k : Fin 2048) (j : Fin 16) : EReal :=
  g (ix2 0 k) * W (ix3 0 k j)

/-- A router weight less itself. -/
def rest (g : S1x2048.Idx → EReal) (W : S1x2048x16.Idx → EReal) (k : Fin 2048) (j : Fin 16) : EReal :=
  routed g W k j - routed g W k j

set_option maxHeartbeats 1000000 in
/-- The cosine table. -/
theorem host_cos (c : Dev nD) (k n : Fin 256) : V m c main_v17 (ix2 k n) = tableC k n := by
  have b : k.val * n.val < 2 ^ 31 := lt_of_le_of_lt (Nat.mul_le_mul k.isLt.le n.isLt.le) (by norm_num)
  unfold V tableC
  simp only [List.flatten_cons, List.flatten_nil, List.append_assoc]
  after_reads_at
  simp only [id_eq, const_at, group_word, product_word, rem_word _ b, turn_word, cos_rem _ b]

set_option maxHeartbeats 1000000 in
/-- The sine table. -/
theorem host_sin (c : Dev nD) (k n : Fin 256) : V m c main_v20 (ix2 k n) = tableS k n := by
  have b : k.val * n.val < 2 ^ 31 := lt_of_le_of_lt (Nat.mul_le_mul k.isLt.le n.isLt.le) (by norm_num)
  unfold V tableS
  simp only [List.flatten_cons, List.flatten_nil, List.append_assoc]
  after_reads_at
  simp only [id_eq, const_at, group_word, product_word, rem_word _ b, turn_word, sin_rem _ b]

/-- The norm's gain. -/
theorem host_gain (c : Dev nD) (k : Fin 2048) :
    V m c main_v31 (ix2 (0 : Fin 1) k) = m ((c.tc : Thread nD τ).loc main_arg8) (ix2 (0 : Fin 1) k) := by
  unfold V
  simp only [List.flatten_cons, List.flatten_nil, List.append_assoc]
  after_reads_at

/-- The router's weights, each row scaled by the norm's gain. -/
theorem host_hi (c : Dev nD) (k : Fin 2048) (j : Fin 16) :
    V m c main_v32 (ix2 k (⟨j.val, by omega⟩ : Fin 32))
      = routed (m ((c.tc : Thread nD τ).loc main_arg8)) (m ((c.tc : Thread nD τ).loc main_arg9)) k j := by
  have hj := j.isLt
  unfold V routed
  simp only [List.flatten_cons, List.flatten_nil, List.append_assoc]
  after_reads_at

/-- The second half of the router's weights: each scaled weight less itself. -/
theorem host_lo (c : Dev nD) (k : Fin 2048) (j : Fin 16) :
    V m c main_v32 (ix2 k (⟨16 + j.val, by omega⟩ : Fin 32))
      = rest (m ((c.tc : Thread nD τ).loc main_arg8)) (m ((c.tc : Thread nD τ).loc main_arg9)) k j := by
  have hj := j.isLt
  unfold V rest routed
  simp only [List.flatten_cons, List.flatten_nil, List.append_assoc]
  after_reads_at

end Cert.Merge

end
-- ==== Proof.Merge.Arr.lean ====
/- The arrays the merge's launch leaves, each at an index. -/
module

public import proofs.«01_k».proof.Proof.Merge.Body
public import proofs.«01_k».proof.Proof.Merge.Host
public import proofs.«01_k».proof.Proof.Project.Bridge

@[expose] public section

set_option maxRecDepth 16384

noncomputable section

namespace Cert.Merge

open Cert.TailIdeal Cert.TailIdeal.Gen Idealize.ShloMosaic Idealize.ShloMosaic.TcCoe Idealize.SL.Sem

variable (m : (ℓ : Loc nD τ sig) → Buf (Elt Ideal) ℓ)

/-- The merged sequence of a row of the whole arrays. -/
def line (A0 A1 A2 : S16384x1024.Idx → EReal) (A3 : S16384x4096.Idx → EReal) (A4 : S16384x2048.Idx → EReal)
    (A5 A6 : S1024x2048.Idx → EReal) (A7 : S2048x2048.Idx → EReal) (i : Fin 16384) : Fin 2048 → EReal :=
  hid (zed (fun k => A0 (ix2 i k)) (fun k => A1 (ix2 i k)) tableC tableS)
    (fun k => A2 (ix2 i k)) (fun d => A3 (ix2 i d)) (fun e => A4 (ix2 i e)) (fun k d => A5 (ix2 k d)) (fun k d => A6 (ix2 k d))
    (fun d e => A7 (ix2 d e))

/-- The merged sequence. -/
def hidOut (L : Fin 16384 → Fin 2048 → EReal) : S16384x2048.Idx → EReal :=
  fun y => L (y 0) (y 1)

/-- The normed sequence. -/
def normOut (L : Fin 16384 → Fin 2048 → EReal) (g : S1x2048.Idx → EReal) : S16384x2048.Idx → EReal :=
  fun y => L (y 0) (y 1) * Cert.Project.inv (L (y 0)) * g (ix2 0 (y 1))

/-- The router's logits. -/
def logitOut (L : Fin 16384 → Fin 2048 → EReal) (g : S1x2048.Idx → EReal) (W : S1x2048x16.Idx → EReal) : S16384x16.Idx → EReal :=
  fun y => ((∑ d, L (y 0) d * routed g W d (y 1)) + ∑ d, L (y 0) d * rest g W d (y 1)) * Cert.Project.inv (L (y 0))

/-- The merged sequence of the launch's arguments. -/
def lines (c : Dev nD) : Fin 16384 → Fin 2048 → EReal :=
  line (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The block that window 0 takes at a point. -/
theorem index0 : ∀ t : Fin cfg0.N, win0_0.index t = ![(grid0.coords t 0).val, 0] := (by decide +kernel : ∀ t : Fin grid0.N, _)
/-- The block that window 1 takes at a point. -/
theorem index1 : ∀ t : Fin cfg0.N, win0_1.index t = ![(grid0.coords t 0).val, 0] := (by decide +kernel : ∀ t : Fin grid0.N, _)
/-- The block that window 2 takes at a point. -/
theorem index2 : ∀ t : Fin cfg0.N, win0_2.index t = ![(grid0.coords t 0).val, 0] := (by decide +kernel : ∀ t : Fin grid0.N, _)
/-- The block that window 3 takes at a point. -/
theorem index3 : ∀ t : Fin cfg0.N, win0_3.index t = ![(grid0.coords t 0).val, 0] := (by decide +kernel : ∀ t : Fin grid0.N, _)
/-- The block that window 4 takes at a point. -/
theorem index4 : ∀ t : Fin cfg0.N, win0_4.index t = ![(grid0.coords t 0).val, 0] := (by decide +kernel : ∀ t : Fin grid0.N, _)
/-- The block that window 5 takes at a point. -/
theorem index5 : ∀ t : Fin cfg0.N, win0_5.index t = ![0, 0] := (by decide +kernel : ∀ t : Fin grid0.N, _)
/-- The block that window 6 takes at a point. -/
theorem index6 : ∀ t : Fin cfg0.N, win0_6.index t = ![0, 0] := (by decide +kernel : ∀ t : Fin grid0.N, _)
/-- The block that window 7 takes at a point. -/
theorem index7 : ∀ t : Fin cfg0.N, win0_7.index t = ![0, 0] := (by decide +kernel : ∀ t : Fin grid0.N, _)
/-- The block that window 8 takes at a point. -/
theorem index8 : ∀ t : Fin cfg0.N, win0_8.index t = ![0, 0] := (by decide +kernel : ∀ t : Fin grid0.N, _)
/-- The block that window 9 takes at a point. -/
theorem index9 : ∀ t : Fin cfg0.N, win0_9.index t = ![0, 0] := (by decide +kernel : ∀ t : Fin grid0.N, _)
/-- The block that window 10 takes at a point. -/
theorem index10 : ∀ t : Fin cfg0.N, win0_10.index t = ![0, 0] := (by decide +kernel : ∀ t : Fin grid0.N, _)
/-- The block that window 11 takes at a point. -/
theorem index11 : ∀ t : Fin cfg0.N, win0_11.index t = ![0, 0] := (by decide +kernel : ∀ t : Fin grid0.N, _)
/-- The block that window 12 takes at a point. -/
theorem index12 : ∀ t : Fin cfg0.N, win0_12.index t = ![(grid0.coords t 0).val, 0] := (by decide +kernel : ∀ t : Fin grid0.N, _)
/-- The block that window 13 takes at a point. -/
theorem index13 : ∀ t : Fin cfg0.N, win0_13.index t = ![(grid0.coords t 0).val, 0] := (by decide +kernel : ∀ t : Fin grid0.N, _)
/-- The block that window 14 takes at a point. -/
theorem index14 : ∀ t : Fin cfg0.N, win0_14.index t = ![(grid0.coords t 0).val, 0] := (by decide +kernel : ∀ t : Fin grid0.N, _)

/-- A row of the block of the cosine half. -/
theorem blk0 (c : Dev nD) (t : Fin cfg0.N) (r : Fin 512) (i : Fin 16384) (h : i.val = (grid0.coords t 0).val * 512 + r.val) (k : Fin 1024) :
    (iblk m c 0 t : S512x1024.Idx → EReal) (ix2 r k) = m ((c.tc : Thread nD τ).loc main_arg0) (ix2 i k) := by
  blk_simp [iblk]
  refine Eq.trans ?_ (congrFun (V_main_arg0 m c) (ix2 i k))
  refine congrArg (V m c main_arg0) ?_
  blk_ext [index0 t, h]

/-- A row of the block of the sine half. -/
theorem blk1 (c : Dev nD) (t : Fin cfg0.N) (r : Fin 512) (i : Fin 16384) (h : i.val = (grid0.coords t 0).val * 512 + r.val) (k : Fin 1024) :
    (iblk m c 1 t : S512x1024.Idx → EReal) (ix2 r k) = m ((c.tc : Thread nD τ).loc main_arg1) (ix2 i k) := by
  blk_simp [iblk]
  refine Eq.trans ?_ (congrFun (V_main_arg1 m c) (ix2 i k))
  refine congrArg (V m c main_arg1) ?_
  blk_ext [index1 t, h]

/-- A row of the block of the pooled half. -/
theorem blk2 (c : Dev nD) (t : Fin cfg0.N) (r : Fin 512) (i : Fin 16384) (h : i.val = (grid0.coords t 0).val * 512 + r.val) (k : Fin 1024) :
    (iblk m c 2 t : S512x1024.Idx → EReal) (ix2 r k) = m ((c.tc : Thread nD τ).loc main_arg2) (ix2 i k) := by
  blk_simp [iblk]
  refine Eq.trans ?_ (congrFun (V_main_arg2 m c) (ix2 i k))
  refine congrArg (V m c main_arg2) ?_
  blk_ext [index2 t, h]

/-- A row of the block of the gates. -/
theorem blk3 (c : Dev nD) (t : Fin cfg0.N) (r : Fin 512) (i : Fin 16384) (h : i.val = (grid0.coords t 0).val * 512 + r.val) (k : Fin 4096) :
    (iblk m c 3 t : S512x4096.Idx → EReal) (ix2 r k) = m ((c.tc : Thread nD τ).loc main_arg3) (ix2 i k) := by
  blk_simp [iblk]
  refine Eq.trans ?_ (congrFun (V_main_arg3 m c) (ix2 i k))
  refine congrArg (V m c main_arg3) ?_
  blk_ext [index3 t, h]

/-- A row of the block of the layer's input. -/
theorem blk4 (c : Dev nD) (t : Fin cfg0.N) (r : Fin 512) (i : Fin 16384) (h : i.val = (grid0.coords t 0).val * 512 + r.val) (k : Fin 2048) :
    (iblk m c 4 t : S512x2048.Idx → EReal) (ix2 r k) = m ((c.tc : Thread nD τ).loc main_arg4) (ix2 i k) := by
  blk_simp [iblk]
  refine Eq.trans ?_ (congrFun (V_main_arg4 m c) (ix2 i k))
  refine congrArg (V m c main_arg4) ?_
  blk_ext [index4 t, h]

/-- The block of window 5 is all of its array. -/
theorem blk5 (c : Dev nD) (t : Fin cfg0.N) : (iblk m c 5 t : S256x256.Idx → EReal) = V m c main_v17 := by
  funext x
  blk_simp [iblk]
  refine congrArg (V m c main_v17) ?_
  blk_ext [index5 t]

/-- The block of window 6 is all of its array. -/
theorem blk6 (c : Dev nD) (t : Fin cfg0.N) : (iblk m c 6 t : S256x256.Idx → EReal) = V m c main_v20 := by
  funext x
  blk_simp [iblk]
  refine congrArg (V m c main_v20) ?_
  blk_ext [index6 t]

/-- The block of window 7 is all of its array. -/
theorem blk7 (c : Dev nD) (t : Fin cfg0.N) : (iblk m c 7 t : S1024x2048.Idx → EReal) = V m c main_arg5 := by
  funext x
  blk_simp [iblk]
  refine congrArg (V m c main_arg5) ?_
  blk_ext [index7 t]

/-- The block of window 8 is all of its array. -/
theorem blk8 (c : Dev nD) (t : Fin cfg0.N) : (iblk m c 8 t : S1024x2048.Idx → EReal) = V m c main_arg6 := by
  funext x
  blk_simp [iblk]
  refine congrArg (V m c main_arg6) ?_
  blk_ext [index8 t]

/-- The block of window 9 is all of its array. -/
theorem blk9 (c : Dev nD) (t : Fin cfg0.N) : (iblk m c 9 t : S2048x2048.Idx → EReal) = V m c main_arg7 := by
  funext x
  blk_simp [iblk]
  refine congrArg (V m c main_arg7) ?_
  blk_ext [index9 t]

/-- The block of window 10 is all of its array. -/
theorem blk10 (c : Dev nD) (t : Fin cfg0.N) : (iblk m c 10 t : S1x2048.Idx → EReal) = V m c main_v31 := by
  funext x
  blk_simp [iblk]
  refine congrArg (V m c main_v31) ?_
  blk_ext [index10 t]

/-- The block of window 11 is all of its array. -/
theorem blk11 (c : Dev nD) (t : Fin cfg0.N) : (iblk m c 11 t : S2048x32.Idx → EReal) = V m c main_v32 := by
  funext x
  blk_simp [iblk]
  refine congrArg (V m c main_v32) ?_
  blk_ext [index11 t]

/-- A row of a point's blocks is a row of the whole arrays. -/
theorem row_line (c : Dev nD) (t : Fin cfg0.N) (r : Fin 512) (i : Fin 16384) (h : i.val = (grid0.coords t 0).val * 512 + r.val) :
    row (iblk m c 0 t) (iblk m c 1 t) (iblk m c 2 t) (iblk m c 3 t) (iblk m c 4 t) (iblk m c 5 t) (iblk m c 6 t) (iblk m c 7 t) (iblk m c 8 t) (iblk m c 9 t) r = lines m c i := by
  unfold row lines line
  have e0 : (fun k => (iblk m c 0 t : S512x1024.Idx → EReal) (ix2 r k)) = fun k => m ((c.tc : Thread nD τ).loc main_arg0) (ix2 i k) := funext fun k => blk0 m c t r i h k
  have e1 : (fun k => (iblk m c 1 t : S512x1024.Idx → EReal) (ix2 r k)) = fun k => m ((c.tc : Thread nD τ).loc main_arg1) (ix2 i k) := funext fun k => blk1 m c t r i h k
  have e2 : (fun k => (iblk m c 2 t : S512x1024.Idx → EReal) (ix2 r k)) = fun k => m ((c.tc : Thread nD τ).loc main_arg2) (ix2 i k) := funext fun k => blk2 m c t r i h k
  have e3 : (fun k => (iblk m c 3 t : S512x4096.Idx → EReal) (ix2 r k)) = fun k => m ((c.tc : Thread nD τ).loc main_arg3) (ix2 i k) := funext fun k => blk3 m c t r i h k
  have e4 : (fun k => (iblk m c 4 t : S512x2048.Idx → EReal) (ix2 r k)) = fun k => m ((c.tc : Thread nD τ).loc main_arg4) (ix2 i k) := funext fun k => blk4 m c t r i h k
  have e5 : (fun k d => (iblk m c 5 t : S256x256.Idx → EReal) (ix2 k d)) = tableC := funext fun k => funext fun d => (congrFun (blk5 m c t) _).trans (host_cos m c k d)
  have e6 : (fun k d => (iblk m c 6 t : S256x256.Idx → EReal) (ix2 k d)) = tableS := funext fun k => funext fun d => (congrFun (blk6 m c t) _).trans (host_sin m c k d)
  have e7 : (fun k d => (iblk m c 7 t : S1024x2048.Idx → EReal) (ix2 k d)) = fun k d => m ((c.tc : Thread nD τ).loc main_arg5) (ix2 k d) := funext fun k => funext fun d => (congrFun ((blk7 m c t).trans (V_main_arg5 m c)) _)
  have e8 : (fun k d => (iblk m c 8 t : S1024x2048.Idx → EReal) (ix2 k d)) = fun k d => m ((c.tc : Thread nD τ).loc main_arg6) (ix2 k d) := funext fun k => funext fun d => (congrFun ((blk8 m c t).trans (V_main_arg6 m c)) _)
  have e9 : (fun k d => (iblk m c 9 t : S2048x2048.Idx → EReal) (ix2 k d)) = fun k d => m ((c.tc : Thread nD τ).loc main_arg7) (ix2 k d) := funext fun k => funext fun d => (congrFun ((blk9 m c t).trans (V_main_arg7 m c)) _)
  exact congr (congr (congr (congr (congr (congr (congrArg hid (congr (congr (congr (congrArg zed e0) e1) e5) e6)) e2) e3) e4) e7) e8) e9

/-- The merged sequence the launch leaves. -/
theorem hid_arr (c : Dev nD) : (dats m 0 c).arrAt 12 cfg0.N = hidOut (lines m c) := by
  refine (dats m 0 c).arrAt_eq_of_covers 12 _ (by decide +kernel) fun t _ y => ?_
  blk_simp
  have l0 : (y 0).val < 512 := (y 0).isLt
  have e := index12 t
  obtain ⟨r, j, rfl⟩ := Cert.Project.ix2_of y
  rw [after0_12, out_h]
  unfold hidOut
  have e1 : ((win0_12.blk t).view.emb (ix2 r j) 1) = j := Fin.ext (by blk_simp [e])
  rw [e1]
  exact congrFun (row_line m c t r _ (by blk_simp [e])) j

/-- The normed sequence the launch leaves. -/
theorem norm_arr (c : Dev nD) : (dats m 0 c).arrAt 13 cfg0.N = normOut (lines m c) (m ((c.tc : Thread nD τ).loc main_arg8)) := by
  refine (dats m 0 c).arrAt_eq_of_covers 13 _ (by decide +kernel) fun t _ y => ?_
  blk_simp
  have l0 : (y 0).val < 512 := (y 0).isLt
  have e := index13 t
  obtain ⟨r, j, rfl⟩ := Cert.Project.ix2_of y
  rw [after0_13, out_v]
  unfold normOut
  have e1 : ((win0_13.blk t).view.emb (ix2 r j) 1) = j := Fin.ext (by blk_simp [e])
  rw [e1]
  have k := row_line m c t r ((win0_13.blk t).view.emb (ix2 r j) 0) (by blk_simp [e])
  exact congrArg₂ (· * ·) (congrArg₂ (· * ·) (congrFun k j) (congrArg Cert.Project.inv k))
    ((congrFun (blk10 m c t) _).trans (host_gain m c j))

/-- The router's logits the launch leaves. -/
theorem logit_arr (c : Dev nD) : (dats m 0 c).arrAt 14 cfg0.N
    = logitOut (lines m c) (m ((c.tc : Thread nD τ).loc main_arg8)) (m ((c.tc : Thread nD τ).loc main_arg9)) := by
  refine (dats m 0 c).arrAt_eq_of_covers 14 _ (by decide +kernel) fun t _ y => ?_
  blk_simp
  have l0 : (y 0).val < 512 := (y 0).isLt
  have e := index14 t
  obtain ⟨r, j, rfl⟩ := Cert.Project.ix2_of y
  rw [after0_14, out_logit]
  unfold logitOut
  have e1 : ((win0_14.blk t).view.emb (ix2 r j) 1) = j := Fin.ext (by blk_simp [e])
  rw [e1]
  have k := row_line m c t r ((win0_14.blk t).view.emb (ix2 r j) 0) (by blk_simp [e])
  exact congrArg₂ (· * ·) (congrArg₂ (· + ·)
    (Finset.sum_congr rfl fun d _ => congrArg₂ (· * ·) (congrFun k d) ((congrFun (blk11 m c t) _).trans (host_hi m c d j)))
    (Finset.sum_congr rfl fun d _ => congrArg₂ (· * ·) (congrFun k d) ((congrFun (blk11 m c t) _).trans (host_lo m c d j))))
    (congrArg Cert.Project.inv k)

end Cert.Merge

end
-- ==== Proof.Merge.Ref.lean ====
/- The reference of the merge, at an index. -/
module

public import proofs.«01_k».proof.Proof.Gen.TailReferenceIdeal.Run
public import proofs.«01_k».proof.Proof.Merge.Rows
public import proofs.«01_k».proof.Proof.Merge.Words
public import Idealize.ShloMosaic.Lib.Pipeline.ValueKit

@[expose] public section

set_option maxRecDepth 16384

noncomputable section

namespace Cert.Merge

open Cert.TailReferenceIdeal Cert.TailReferenceIdeal.Gen Idealize.ShloMosaic Idealize.ShloMosaic.TcCoe Idealize.SL.Sem

/-- The reference's cosine table. -/
def refC : FVec Ideal S256x256 .f32 :=
  Host.divf (Host.cos (mulf (sitofp .f32 (muli (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (Host.divf (mulf (constant S_ .f32 0x40000000#32) (Host.acos (constant S_ .f32 0xBF800000#32))) (constant S_ .f32 0x43800000#32))))) (broadcastInDim S256x256 ![] bcast_S_S256x256 (constant S_ .f32 0x41800000#32))

/-- The reference's sine table. -/
def refS : FVec Ideal S256x256 .f32 :=
  Host.divf (Host.sin (mulf (sitofp .f32 (muli (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (Host.divf (mulf (constant S_ .f32 0x40000000#32) (Host.acos (constant S_ .f32 0xBF800000#32))) (constant S_ .f32 0x43800000#32))))) (broadcastInDim S256x256 ![] bcast_S_S256x256 (constant S_ .f32 0x41800000#32))

/-- The cosine table at an index. -/
theorem refC_at (c d : Fin 256) : refC (ix2 c d) = tableC c d := by
  have b : c.val * d.val < 2 ^ 31 := lt_of_le_of_lt (Nat.mul_le_mul c.isLt.le d.isLt.le) (by norm_num)
  unfold refC tableC
  pointwise
  simp only [product_word, turn_word, cos_plain _ b]

/-- The sine table at an index. -/
theorem refS_at (c d : Fin 256) : refS (ix2 c d) = tableS c d := by
  have b : c.val * d.val < 2 ^ 31 := lt_of_le_of_lt (Nat.mul_le_mul c.isLt.le d.isLt.le) (by norm_num)
  unfold refS tableS
  pointwise
  simp only [product_word, turn_word, sin_plain _ b]

/-- The merged sequence, as the reference writes it. -/
def refHid (a0 a1 a2 : FVec Ideal S16384x1024 .bf16) (a3 : FVec Ideal S16384x4096 .bf16) (a4 : FVec Ideal S16384x2048 .f32) (a5 a6 : FVec Ideal S1024x2048 .bf16) (a7 : FVec Ideal S2048x2048 .bf16) : FVec Ideal S16384x2048 .f32 :=
  addf a4 (Host.dotGeneral dot_S16384x2048_S2048x2048_S16384x2048_1_0_0_1_n_n none (extf .f32 (truncf .bf16 (addf (mulf (extractStridedSlice S16384x2048 ![0, 0] (extf .f32 a3 bitsLt_bf16_f32) slices_S16384x4096_S16384x2048_0_0) (Host.dotGeneral dot_S16384x1024_S1024x2048_S16384x2048_1_0_0_1_n_n none (shapeCast _ (extf .f32 (truncf .bf16 (subf (Host.dotGeneral dot_S16384x4x256_S256x256_S16384x4x256_2_0_01_1_n_n none (extf .f32 (shapeCast _ a0 shapeCasts_S16384x1024_S16384x4x256) bitsLt_bf16_f32) refC) (Host.dotGeneral dot_S16384x4x256_S256x256_S16384x4x256_2_0_01_1_n_n none (extf .f32 (shapeCast _ a1 shapeCasts_S16384x1024_S16384x4x256) bitsLt_bf16_f32) refS)) bitsLt_bf16_f32) bitsLt_bf16_f32) shapeCasts_S16384x4x256_S16384x1024) (extf .f32 a5 bitsLt_bf16_f32))) (mulf (extractStridedSlice S16384x2048 ![0, 2048] (extf .f32 a3 bitsLt_bf16_f32) slices_S16384x4096_S16384x2048_0_2048) (Host.dotGeneral dot_S16384x1024_S1024x2048_S16384x2048_1_0_0_1_n_n none (extf .f32 a2 bitsLt_bf16_f32) (extf .f32 a6 bitsLt_bf16_f32)))) bitsLt_bf16_f32) bitsLt_bf16_f32) (extf .f32 a7 bitsLt_bf16_f32))

set_option maxHeartbeats 1000000 in
/-- The merged sequence at an index. -/
theorem hid_at (a0 a1 a2 : FVec Ideal S16384x1024 .bf16) (a3 : FVec Ideal S16384x4096 .bf16) (a4 : FVec Ideal S16384x2048 .f32) (a5 a6 : FVec Ideal S1024x2048 .bf16) (a7 : FVec Ideal S2048x2048 .bf16) (i : Fin 16384) (e : Fin 2048) :
    refHid a0 a1 a2 a3 a4 a5 a6 a7 (ix2 i e)
      = hid (zed (fun k => a0 (ix2 i k)) (fun k => a1 (ix2 i k)) (fun c d => refC (ix2 c d)) (fun c d => refS (ix2 c d)))
          (fun k => a2 (ix2 i k)) (fun d => a3 (ix2 i d)) (fun e => a4 (ix2 i e)) (fun k d => a5 (ix2 k d)) (fun k d => a6 (ix2 k d))
          (fun d e => a7 (ix2 d e)) e := by
  unfold refHid hid gated zed
  pointwise

/-- The normed sequence, as the reference writes it. -/
def refNorm (H : FVec Ideal S16384x2048 .f32) (a8 : FVec Ideal S1x2048 .f32) : FVec Ideal S16384x2048 .f32 :=
  mulf (mulf H (broadcastInDim S16384x2048 ![0, 1] bcast_S16384x1_S16384x2048_0_1 (Host.rsqrt (addf (Host.divf (broadcastInDim S16384x1 ![0] bcast_S16384_S16384x1_0 (Host.reduceAdd (mulf H H) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ a8 shapeCasts_S1x2048_S2048)))

/-- The normed sequence at an index. -/
theorem norm_at (H : FVec Ideal S16384x2048 .f32) (a8 : FVec Ideal S1x2048 .f32) (i : Fin 16384) (e : Fin 2048) :
    refNorm H a8 (ix2 i e) = H (ix2 i e) * Cert.Project.inv (fun d => H (ix2 i d)) * a8 (ix2 0 e) := by
  unfold refNorm Cert.Project.inv
  pointwise

/-- The router's logits, as the reference writes them. -/
def refLogit (N : FVec Ideal S16384x2048 .f32) (a9 : FVec Ideal S1x2048x16 .f32) : FVec Ideal S16384x16 .f32 :=
  Host.dotGeneral dot_S16384x2048_S2048x16_S16384x16_1_0_0_1_n_n none N (shapeCast _ a9 shapeCasts_S1x2048x16_S2048x16)

/-- The router's logits at an index. -/
theorem logits_at (N : FVec Ideal S16384x2048 .f32) (a9 : FVec Ideal S1x2048x16 .f32) (i : Fin 16384) (e : Fin 16) :
    refLogit N a9 (ix2 i e) = ∑ d, N (ix2 i d) * a9 (ix3 0 d e) := by
  unfold refLogit
  pointwise

end Cert.Merge

end
-- ==== Proof.Merge.Bridge.lean ====
/- The merge's launch and its reference leave the same arrays. -/
module

public import proofs.«01_k».proof.Proof.Common.Norm
public import proofs.«01_k».proof.Proof.Merge.Arr
public import proofs.«01_k».proof.Proof.Merge.Ref
public import proofs.«01_k».proof.Proof.Project.Bridge

@[expose] public section

set_option maxRecDepth 16384

noncomputable section

namespace Cert.Merge

open Cert.TailReferenceIdeal Cert.TailReferenceIdeal.Gen Idealize.ShloMosaic Idealize.ShloMosaic.TcCoe Idealize.SL.Sem

/-- The reference's merged sequence is the rows' merged sequence. -/
theorem hid_line (a0 a1 a2 : FVec Ideal S16384x1024 .bf16) (a3 : FVec Ideal S16384x4096 .bf16) (a4 : FVec Ideal S16384x2048 .f32) (a5 a6 : FVec Ideal S1024x2048 .bf16) (a7 : FVec Ideal S2048x2048 .bf16) (i : Fin 16384) (e : Fin 2048) :
    refHid a0 a1 a2 a3 a4 a5 a6 a7 (ix2 i e) = line a0 a1 a2 a3 a4 a5 a6 a7 i e := by
  rw [hid_at]
  unfold line
  simp only [refC_at, refS_at]

/-- The merged sequence is the reference's. -/
theorem hid_eq (a0 a1 a2 : FVec Ideal S16384x1024 .bf16) (a3 : FVec Ideal S16384x4096 .bf16) (a4 : FVec Ideal S16384x2048 .f32) (a5 a6 : FVec Ideal S1024x2048 .bf16) (a7 : FVec Ideal S2048x2048 .bf16) :
    refHid a0 a1 a2 a3 a4 a5 a6 a7 = hidOut (line a0 a1 a2 a3 a4 a5 a6 a7) := by
  funext y
  obtain ⟨i, j, rfl⟩ := Cert.Project.ix2_of y
  exact hid_line a0 a1 a2 a3 a4 a5 a6 a7 i j

/-- The normed sequence is the reference's. -/
theorem norm_eq (L : Fin 16384 → Fin 2048 → EReal) (g : FVec Ideal S1x2048 .f32) : refNorm (hidOut L) g = normOut L g := by
  funext y
  obtain ⟨i, j, rfl⟩ := Cert.Project.ix2_of y
  exact norm_at (hidOut L) g i j

/-- A real router weight less itself is zero. -/
theorem rest_zero (g : FVec Ideal S1x2048 .f32) (W : FVec Ideal S1x2048x16 .f32) (rg : S1x2048.Idx → ℝ) (rw' : S1x2048x16.Idx → ℝ)
    (hg : g = fun i => ((rg i : ℝ) : EReal)) (hW : W = fun i => ((rw' i : ℝ) : EReal)) (d : Fin 2048) (e : Fin 16) : rest g W d e = 0 := by
  subst hg hW
  unfold rest routed
  rw [← EReal.coe_mul, ← EReal.coe_sub, sub_self, EReal.coe_zero]

/-- The router's logits are the reference's, when the gain and the router's weights are real numbers. -/
theorem logit_eq (L : Fin 16384 → Fin 2048 → EReal) (g : FVec Ideal S1x2048 .f32) (W : FVec Ideal S1x2048x16 .f32)
    (hg : ∃ r : S1x2048.Idx → ℝ, g = fun i => ((r i : ℝ) : EReal)) (hW : ∃ r : S1x2048x16.Idx → ℝ, W = fun i => ((r i : ℝ) : EReal)) :
    refLogit (normOut L g) W = logitOut L g W := by
  funext y
  obtain ⟨i, j, rfl⟩ := Cert.Project.ix2_of y
  obtain ⟨rg, hg⟩ := hg
  obtain ⟨rw', hW⟩ := hW
  rw [logits_at]
  obtain ⟨r, hr, h⟩ := Cert.Project.inv_real (L i)
  have hz : ∑ d, L i d * rest g W d j = 0 := Finset.sum_eq_zero fun d _ => by rw [rest_zero g W rg rw' hg hW, mul_zero]
  show ∑ d, L i d * Cert.Project.inv (L i) * g (ix2 0 d) * W (ix3 0 d j)
    = ((∑ d, L i d * routed g W d j) + ∑ d, L i d * rest g W d j) * Cert.Project.inv (L i)
  rw [hz, add_zero, h]
  exact (Cert.Common.norm_product (L i) (fun d => g (ix2 0 d)) (fun d => W (ix3 0 d j)) hr).symm

/-- The reference's second result. -/
theorem result_norm (m : (ℓ : Loc nD τ sig) → Buf (Elt Ideal) ℓ) (c : Dev nD) :
    Cert.TailReferenceIdeal.Value.res_main_v58 m c
      = refNorm (refHid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) := rfl

/-- The reference's third result. -/
theorem result_logit (m : (ℓ : Loc nD τ sig) → Buf (Elt Ideal) ℓ) (c : Dev nD) :
    Cert.TailReferenceIdeal.Value.res_main_v60 m c
      = refLogit (refNorm (refHid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))) (m ((c.tc : Thread nD τ).loc main_arg9)) := rfl

end Cert.Merge

end
-- ==== Proof.Merge.Claims.lean ====
/- The claims about the merge. -/
module

public import proofs.«01_k».proof.Defs
public import proofs.«01_k».proof.Proof.Gen.Tail.Frame
public import proofs.«01_k».proof.Proof.Gen.TailReferenceIdeal.Run
public import proofs.«01_k».proof.Proof.Merge.Finite
public import proofs.«01_k».proof.Proof.Merge.Bridge
public import Idealize.ShloMosaic.Adequacy
public import Idealize.ShloMosaic.Init

@[expose] public section

set_option maxRecDepth 16384

noncomputable section

namespace Cert.Merge

open Idealize.ShloMosaic Idealize.SL.Sem

/-- The kernel's frame: it runs to a quiet end and leaves its arguments as they were. -/
theorem frame_kernel : Cert.quiescent_Tail := fun m ρ _ => Cert.Tail.Gen.frame m ρ

/-- The same of the kernel read over the extended reals. -/
theorem frame_ideal : Cert.quiescent_TailIdeal := fun m ρ _ => Cert.TailIdeal.Gen.frame m ρ

/-- The same under the precondition. -/
theorem frame_ideal_pre : Cert.quiescent_TailIdeal_pre_finite_router := fun m ρ _ => Cert.TailIdeal.Gen.frame m ρ

/-- The reference's frame. -/
theorem frame_reference : Cert.quiescent_TailReferenceIdeal := fun m ρ _ =>
  (θ_run _ _ _).mono (fun r h => ⟨fun c => (h c).2.2.2, funext fun e => nomatch e⟩)
    (Cert.TailReferenceIdeal.Value.run m ρ)

/-- The reference's frame under the precondition. -/
theorem frame_reference_pre : Cert.quiescent_TailReferenceIdeal_pre_finite_router := fun m ρ _ =>
  frame_reference m ρ trivial

/-- The kernel and the reference end with equal results from equal arguments, the gain and the router's weights real. -/
theorem values : Cert.algebraic_TailIdeal_TailReferenceIdeal_pre_finite_router := by
  intro m g m' g' hpre hargs
  refine ⟨fun c => hidOut (lines m c), fun c => normOut (lines m c) (m ((c.tc : Thread Cert.TailIdeal.nD Cert.TailIdeal.τ).loc Cert.TailIdeal.main_arg8)),
    fun c => logitOut (lines m c) (m ((c.tc : Thread Cert.TailIdeal.nD Cert.TailIdeal.τ).loc Cert.TailIdeal.main_arg8)) (m ((c.tc : Thread Cert.TailIdeal.nD Cert.TailIdeal.τ).loc Cert.TailIdeal.main_arg9)), ?_, ?_⟩
  · refine (θ_run _ _ _).mono (fun r h c => ?_) (Cert.TailIdeal.Value.run_blocks m g)
    obtain ⟨h0, h1, h2, ha⟩ := h c
    exact ⟨h0.trans (hid_arr m c), h1.trans (norm_arr m c), h2.trans (logit_arr m c), ha⟩
  · refine (θ_run _ _ _).mono (fun r h c => ?_) (Cert.TailReferenceIdeal.Value.run m' g')
    obtain ⟨h0, h1, h2, ha⟩ := h c
    obtain ⟨e0, e1, e2, e3, e4, e5, e6, e7, e8, e9⟩ := hargs c
    obtain ⟨hg, hW⟩ := real_of_router _ _ _ _ _ _ _ _ _ _ (hpre c)
    have k := (hid_eq _ _ _ _ _ _ _ _).trans (congrArg hidOut (congr (congr (congr (congr (congr (congr (congr (congrArg line e0) e1) e2) e3) e4) e5) e6) e7))
    have k1 := (congr (congrArg refNorm k) e8).trans (norm_eq (lines m c) (m ((c.tc : Thread Cert.TailIdeal.nD Cert.TailIdeal.τ).loc Cert.TailIdeal.main_arg8)))
    exact ⟨h0.trans k, h1.trans ((result_norm m' c).trans k1),
      h2.trans ((result_logit m' c).trans ((congr (congrArg refLogit k1) e9).trans (logit_eq _ _ _ hg hW))), ha⟩

end Cert.Merge

end
-- ==== Proof.Weights.Arr.lean ====
/- What a point of the weights' launch leaves, what the host prepares for it, and the arrays it leaves. -/
module

public import proofs.«01_k».proof.Proof.Gen.FoldIdeal.Value
public import proofs.«01_k».proof.Proof.Project.Bridge
public import Idealize.ShloMosaic.Lib.StableHlo.ReadAt
public import Idealize.ShloMosaic.Lib.Pointwise

@[expose] public section

set_option maxRecDepth 16384

noncomputable section

namespace Cert.Weights

open Cert.FoldIdeal Cert.FoldIdeal.Gen Idealize.ShloMosaic Idealize.ShloMosaic.TcCoe Idealize.SL.Sem

variable (m : (ℓ : Loc nD τ sig) → Buf (Elt Ideal) ℓ)

/-- A group's map times its rows of the Fourier branch's weights. -/
theorem k0_pay1_at (x0 : Vec Ideal S1x256x256 .f32) (x1 : Vec Ideal S256x2048 .f32) (i : Fin 256) (e : Fin 2048) :
    k0_pay1 (View.ld x0 r0_0) (View.ld x1 r0_1) (ix2 i e) = ∑ d : Fin 256, x0 (ix3 0 i d) * x1 (ix2 d e) := by
  unfold k0_pay1
  pointwise

/-- A group's map, scaled by channel, times its rows of the pooling branch's weights. -/
theorem k0_pay2_at (x2 : Vec Ideal S1x256x256 .f32) (x3 : Vec Ideal S1x256 .f32) (x4 : Vec Ideal S256x2048 .f32) (i : Fin 256) (e : Fin 2048) :
    k0_pay2 (View.ld x2 r0_0) (View.ld x3 r0_2) (View.ld x4 r0_1) (ix2 i e)
      = ∑ d : Fin 256, (x2 (ix3 0 i d) * x3 (ix2 0 d)) * x4 (ix2 d e) := by
  unfold k0_pay2
  pointwise

/-- The Fourier branch's block that a point leaves. -/
theorem out_f (x0 : Vec Ideal S1x256x256 .f32) (x1 : Vec Ideal S256x2048 .f32) (x2 : Vec Ideal S1x256x256 .f32) (x3 : Vec Ideal S1x256 .f32)
    (x4 : Vec Ideal S256x2048 .f32) (i : Fin 256) (e : Fin 2048) :
    out0_5 x0 x1 x2 x3 x4 (ix2 i e) = ∑ d : Fin 256, x0 (ix3 0 i d) * x1 (ix2 d e) := by
  refine Eq.trans ?_ (k0_pay1_at x0 x1 i e)
  unfold out0_5
  refine Eq.trans (congrArg (View.canon _) ?_) (View.canon_cons_emb r0_1 _ _ (ix2 i e : S256x2048.Idx))
  funext a
  apply Fin.ext
  fin_cases a
  · show i.val = 0 + 1 * i.val
    omega
  · show e.val = 0 + 1 * e.val
    omega

/-- The pooling branch's block that a point leaves. -/
theorem out_p (x0 : Vec Ideal S1x256x256 .f32) (x1 : Vec Ideal S256x2048 .f32) (x2 : Vec Ideal S1x256x256 .f32) (x3 : Vec Ideal S1x256 .f32)
    (x4 : Vec Ideal S256x2048 .f32) (i : Fin 256) (e : Fin 2048) :
    out0_6 x0 x1 x2 x3 x4 (ix2 i e) = ∑ d : Fin 256, (x2 (ix3 0 i d) * x3 (ix2 0 d)) * x4 (ix2 d e) := by
  refine Eq.trans ?_ (k0_pay2_at x2 x3 x4 i e)
  unfold out0_6
  refine Eq.trans (congrArg (View.canon _) ?_) (View.canon_cons_emb r0_1 _ _ (ix2 i e : S256x2048.Idx))
  funext a
  apply Fin.ext
  fin_cases a
  · show i.val = 0 + 1 * i.val
    omega
  · show e.val = 0 + 1 * e.val
    omega

/-- The Fourier branch's maps. -/
theorem host_f (c : Dev nD) (g : Fin 4) (i j : Fin 256) :
    V m c main_v0 (ix3 g i j) = m ((c.tc : Thread nD τ).loc main_arg0) (ix4 (0 : Fin 1) g i j) := by
  unfold V
  after_reads_at

/-- The Fourier branch's weights. -/
theorem host_wf (c : Dev nD) (i : Fin 1024) (j : Fin 2048) :
    V m c main_v1 (ix2 i j) = m ((c.tc : Thread nD τ).loc main_arg1) (ix3 (0 : Fin 1) i j) := by
  unfold V
  after_reads_at

/-- The pooling branch's maps. -/
theorem host_p (c : Dev nD) (g : Fin 4) (i j : Fin 256) :
    V m c main_v2 (ix3 g i j) = m ((c.tc : Thread nD τ).loc main_arg2) (ix4 (0 : Fin 1) g i j) := by
  unfold V
  after_reads_at

/-- The pooling branch's scale. -/
theorem host_s (c : Dev nD) (j : Fin 1024) :
    V m c main_v4 (ix2 (0 : Fin 1) j) = m ((c.tc : Thread nD τ).loc main_arg3) (ix2 (0 : Fin 1) j) := by
  unfold V
  after_reads_at

/-- The pooling branch's weights. -/
theorem host_wp (c : Dev nD) (i : Fin 1024) (j : Fin 2048) :
    V m c main_v5 (ix2 i j) = m ((c.tc : Thread nD τ).loc main_arg4) (ix3 (0 : Fin 1) i j) := by
  unfold V
  after_reads_at

/-- The block that window 0 takes at a point. -/
theorem index0 : ∀ t : Fin cfg0.N, win0_0.index t = ![(grid0.coords t 0).val, 0, 0] := (by decide +kernel : ∀ t : Fin grid0.N, _)
/-- The block that window 1 takes at a point. -/
theorem index1 : ∀ t : Fin cfg0.N, win0_1.index t = ![(grid0.coords t 0).val, 0] := (by decide +kernel : ∀ t : Fin grid0.N, _)
/-- The block that window 2 takes at a point. -/
theorem index2 : ∀ t : Fin cfg0.N, win0_2.index t = ![(grid0.coords t 0).val, 0, 0] := (by decide +kernel : ∀ t : Fin grid0.N, _)
/-- The block that window 3 takes at a point. -/
theorem index3 : ∀ t : Fin cfg0.N, win0_3.index t = ![0, (grid0.coords t 0).val] := (by decide +kernel : ∀ t : Fin grid0.N, _)
/-- The block that window 4 takes at a point. -/
theorem index4 : ∀ t : Fin cfg0.N, win0_4.index t = ![(grid0.coords t 0).val, 0] := (by decide +kernel : ∀ t : Fin grid0.N, _)
/-- The block that window 5 takes at a point. -/
theorem index5 : ∀ t : Fin cfg0.N, win0_5.index t = ![(grid0.coords t 0).val, 0] := (by decide +kernel : ∀ t : Fin grid0.N, _)
/-- The block that window 6 takes at a point. -/
theorem index6 : ∀ t : Fin cfg0.N, win0_6.index t = ![(grid0.coords t 0).val, 0] := (by decide +kernel : ∀ t : Fin grid0.N, _)

/-- A point's coordinate is a group. -/
theorem coord_lt : ∀ t : Fin cfg0.N, (grid0.coords t 0).val < 4 := (by decide +kernel : ∀ t : Fin grid0.N, _)

/-- The Fourier branch's map at a point is the point's group's. -/
theorem blk0 (c : Dev nD) (t : Fin cfg0.N) (g : Fin 4) (h : g.val = (grid0.coords t 0).val) (i j : Fin 256) :
    (iblk m c 0 t : S1x256x256.Idx → EReal) (ix3 0 i j) = m ((c.tc : Thread nD τ).loc main_arg0) (ix4 (0 : Fin 1) g i j) := by
  refine Eq.trans ?_ (host_f m c g i j)
  blk_simp [iblk]
  refine congrArg (V m c main_v0) ?_
  blk_ext [index0 t, h]

/-- The pooling branch's map at a point is the point's group's. -/
theorem blk2 (c : Dev nD) (t : Fin cfg0.N) (g : Fin 4) (h : g.val = (grid0.coords t 0).val) (i j : Fin 256) :
    (iblk m c 2 t : S1x256x256.Idx → EReal) (ix3 0 i j) = m ((c.tc : Thread nD τ).loc main_arg2) (ix4 (0 : Fin 1) g i j) := by
  refine Eq.trans ?_ (host_p m c g i j)
  blk_simp [iblk]
  refine congrArg (V m c main_v2) ?_
  blk_ext [index2 t, h]

/-- The Fourier branch's rows at a point are the point's group's. -/
theorem blk1 (c : Dev nD) (t : Fin cfg0.N) (i : Fin 256) (k : Fin 1024) (h : k.val = (grid0.coords t 0).val * 256 + i.val) (j : Fin 2048) :
    (iblk m c 1 t : S256x2048.Idx → EReal) (ix2 i j) = m ((c.tc : Thread nD τ).loc main_arg1) (ix3 (0 : Fin 1) k j) := by
  refine Eq.trans ?_ (host_wf m c k j)
  blk_simp [iblk]
  refine congrArg (V m c main_v1) ?_
  blk_ext [index1 t, h]

/-- The pooling branch's rows at a point are the point's group's. -/
theorem blk4 (c : Dev nD) (t : Fin cfg0.N) (i : Fin 256) (k : Fin 1024) (h : k.val = (grid0.coords t 0).val * 256 + i.val) (j : Fin 2048) :
    (iblk m c 4 t : S256x2048.Idx → EReal) (ix2 i j) = m ((c.tc : Thread nD τ).loc main_arg4) (ix3 (0 : Fin 1) k j) := by
  refine Eq.trans ?_ (host_wp m c k j)
  blk_simp [iblk]
  refine congrArg (V m c main_v5) ?_
  blk_ext [index4 t, h]

/-- The scale at a point is the point's group's. -/
theorem blk3 (c : Dev nD) (t : Fin cfg0.N) (j : Fin 256) (k : Fin 1024) (h : k.val = (grid0.coords t 0).val * 256 + j.val) :
    (iblk m c 3 t : S1x256.Idx → EReal) (ix2 0 j) = m ((c.tc : Thread nD τ).loc main_arg3) (ix2 (0 : Fin 1) k) := by
  refine Eq.trans ?_ (host_s m c k)
  blk_simp [iblk]
  refine congrArg (V m c main_v4) ?_
  blk_ext [index3 t, h]

/-- The Fourier branch's weights: each group's map times the group's rows. -/
def fOut (A : S1x4x256x256.Idx → EReal) (W : S1x1024x2048.Idx → EReal) (i : Fin 1024) (e : Fin 2048) : EReal :=
  ∑ d : Fin 256, A (ix4 0 ⟨i.val / 256, by omega⟩ ⟨i.val % 256, by omega⟩ d) * W (ix3 0 ⟨i.val / 256 * 256 + d.val, by omega⟩ e)

/-- The pooling branch's weights: each group's map, scaled by channel, times the group's rows. -/
def pOut (A : S1x4x256x256.Idx → EReal) (s : S1x1024.Idx → EReal) (W : S1x1024x2048.Idx → EReal) (i : Fin 1024) (e : Fin 2048) : EReal :=
  ∑ d : Fin 256, (A (ix4 0 ⟨i.val / 256, by omega⟩ ⟨i.val % 256, by omega⟩ d) * s (ix2 0 ⟨i.val / 256 * 256 + d.val, by omega⟩))
    * W (ix3 0 ⟨i.val / 256 * 256 + d.val, by omega⟩ e)

/-- An array of rows and columns. -/
def table (f : Fin 1024 → Fin 2048 → EReal) : S1024x2048.Idx → EReal := fun y => f (y 0) (y 1)

/-- What a point leaves of the Fourier branch's weights. -/
theorem f_point (c : Dev nD) (t : Fin cfg0.N) (i : Fin 256) (j : Fin 2048) (k : Fin 1024) (h : k.val = (grid0.coords t 0).val * 256 + i.val) :
    out0_5 (iblk m c 0 t) (iblk m c 1 t) (iblk m c 2 t) (iblk m c 3 t) (iblk m c 4 t) (ix2 i j) = fOut (m ((c.tc : Thread nD τ).loc main_arg0)) (m ((c.tc : Thread nD τ).loc main_arg1)) k j := by
  have hi := i.isLt
  rw [out_f]
  unfold fOut
  have ei : (⟨k.val % 256, by omega⟩ : Fin 256) = i := Fin.ext (by dsimp only; omega)
  refine Finset.sum_congr rfl fun d _ => congrArg₂ (· * ·) ((blk0 m c t ⟨k.val / 256, by omega⟩ ?_ i d).trans ?_) (blk1 m c t d _ ?_ j)
  · dsimp only; omega
  · rw [ei]
  · dsimp only; omega

/-- What a point leaves of the pooling branch's weights. -/
theorem p_point (c : Dev nD) (t : Fin cfg0.N) (i : Fin 256) (j : Fin 2048) (k : Fin 1024) (h : k.val = (grid0.coords t 0).val * 256 + i.val) :
    out0_6 (iblk m c 0 t) (iblk m c 1 t) (iblk m c 2 t) (iblk m c 3 t) (iblk m c 4 t) (ix2 i j) = pOut (m ((c.tc : Thread nD τ).loc main_arg2)) (m ((c.tc : Thread nD τ).loc main_arg3)) (m ((c.tc : Thread nD τ).loc main_arg4)) k j := by
  have hi := i.isLt
  rw [out_p]
  unfold pOut
  have ei : (⟨k.val % 256, by omega⟩ : Fin 256) = i := Fin.ext (by dsimp only; omega)
  refine Finset.sum_congr rfl fun d _ => congrArg₂ (· * ·) (congrArg₂ (· * ·) ((blk2 m c t ⟨k.val / 256, by omega⟩ ?_ i d).trans ?_) (blk3 m c t d _ ?_)) (blk4 m c t d _ ?_ j)
  · dsimp only; omega
  · rw [ei]
  · dsimp only; omega
  · dsimp only; omega

/-- The Fourier branch's weights the launch leaves. -/
theorem f_arr (c : Dev nD) : (dats m 0 c).arrAt 5 cfg0.N = table (fOut (m ((c.tc : Thread nD τ).loc main_arg0)) (m ((c.tc : Thread nD τ).loc main_arg1))) := by
  refine (dats m 0 c).arrAt_eq_of_covers 5 _ (by decide +kernel) fun t _ y => ?_
  blk_simp
  have e := index5 t
  obtain ⟨i, j, rfl⟩ := Cert.Project.ix2_of y
  rw [after0_5]
  unfold table
  have e1 : ((win0_5.blk t).view.emb (ix2 i j) 1) = j := Fin.ext (by blk_simp [e])
  rw [e1]
  exact f_point m c t i j _ (by blk_simp [e])

/-- The pooling branch's weights the launch leaves. -/
theorem p_arr (c : Dev nD) : (dats m 0 c).arrAt 6 cfg0.N = table (pOut (m ((c.tc : Thread nD τ).loc main_arg2)) (m ((c.tc : Thread nD τ).loc main_arg3)) (m ((c.tc : Thread nD τ).loc main_arg4))) := by
  refine (dats m 0 c).arrAt_eq_of_covers 6 _ (by decide +kernel) fun t _ y => ?_
  blk_simp
  have e := index6 t
  obtain ⟨i, j, rfl⟩ := Cert.Project.ix2_of y
  rw [after0_6]
  unfold table
  have e1 : ((win0_6.blk t).view.emb (ix2 i j) 1) = j := Fin.ext (by blk_simp [e])
  rw [e1]
  exact p_point m c t i j _ (by blk_simp [e])

end Cert.Weights

end
-- ==== Proof.Weights.Bridge.lean ====
/- The weights' launch and its reference leave the same arrays. -/
module

public import proofs.«01_k».proof.Proof.Gen.FoldReferenceIdeal.Run
public import proofs.«01_k».proof.Proof.Weights.Arr
public import Idealize.ShloMosaic.Lib.Pipeline.ValueKit

@[expose] public section

set_option maxRecDepth 16384

noncomputable section

namespace Cert.Weights

open Cert.FoldReferenceIdeal Cert.FoldReferenceIdeal.Gen Idealize.ShloMosaic Idealize.ShloMosaic.TcCoe Idealize.SL.Sem

/-- The reference's weights of the Fourier branch. -/
def refF (a0 : FVec Ideal S1x4x256x256 .f32) (a1 : FVec Ideal S1x1024x2048 .f32) : FVec Ideal S1024x2048 .bf16 :=
  truncf .bf16 (shapeCast _ (Host.dotGeneral dot_S4x256x256_S4x256x2048_S4x256x2048_2_1_1_2_0_0 none (shapeCast _ a0 shapeCasts_S1x4x256x256_S4x256x256) (shapeCast _ (shapeCast _ a1 shapeCasts_S1x1024x2048_S1024x2048) shapeCasts_S1024x2048_S4x256x2048)) shapeCasts_S4x256x2048_S1024x2048) bitsLt_bf16_f32

/-- The reference's weights of the pooling branch. -/
def refP (a2 : FVec Ideal S1x4x256x256 .f32) (a3 : FVec Ideal S1x1024 .f32) (a4 : FVec Ideal S1x1024x2048 .f32) : FVec Ideal S1024x2048 .bf16 :=
  truncf .bf16 (shapeCast _ (Host.dotGeneral dot_S4x256x256_S4x256x2048_S4x256x2048_2_1_1_2_0_0 none (mulf (shapeCast _ a2 shapeCasts_S1x4x256x256_S4x256x256) (broadcastInDim S4x256x256 ![0, 1, 2] bcast_S4x1x256_S4x256x256_0_1_2 (shapeCast _ (shapeCast _ a3 shapeCasts_S1x1024_S1024) shapeCasts_S1024_S4x1x256))) (shapeCast _ (shapeCast _ a4 shapeCasts_S1x1024x2048_S1024x2048) shapeCasts_S1024x2048_S4x256x2048)) shapeCasts_S4x256x2048_S1024x2048) bitsLt_bf16_f32

/-- The Fourier branch's weights are the reference's. -/
theorem f_eq (a0 : FVec Ideal S1x4x256x256 .f32) (a1 : FVec Ideal S1x1024x2048 .f32) : refF a0 a1 = table (fOut a0 a1) := by
  funext y
  obtain ⟨i, j, rfl⟩ := Cert.Project.ix2_of y
  show _ = fOut a0 a1 i j
  unfold refF fOut
  pointwise

/-- The pooling branch's weights are the reference's. -/
theorem p_eq (a2 : FVec Ideal S1x4x256x256 .f32) (a3 : FVec Ideal S1x1024 .f32) (a4 : FVec Ideal S1x1024x2048 .f32) :
    refP a2 a3 a4 = table (pOut a2 a3 a4) := by
  funext y
  obtain ⟨i, j, rfl⟩ := Cert.Project.ix2_of y
  show _ = pOut a2 a3 a4 i j
  unfold refP pOut
  pointwise

end Cert.Weights

end
-- ==== Proof.Weights.Claims.lean ====
/- The claims about the branches' weights. -/
module

public import proofs.«01_k».proof.Defs
public import proofs.«01_k».proof.Proof.Gen.Fold.Frame
public import proofs.«01_k».proof.Proof.Weights.Bridge
public import Idealize.ShloMosaic.Adequacy
public import Idealize.ShloMosaic.Init

@[expose] public section

set_option maxRecDepth 16384

noncomputable section

namespace Cert.Weights

open Idealize.ShloMosaic Idealize.SL.Sem

/-- The kernel's frame: it runs to a quiet end and leaves its arguments as they were. -/
theorem frame_kernel : Cert.quiescent_Fold := fun m ρ _ => Cert.Fold.Gen.frame m ρ

/-- The same of the kernel read over the extended reals. -/
theorem frame_ideal : Cert.quiescent_FoldIdeal := fun m ρ _ => Cert.FoldIdeal.Gen.frame m ρ

/-- The reference's frame. -/
theorem frame_reference : Cert.quiescent_FoldReferenceIdeal := fun m ρ _ =>
  (θ_run _ _ _).mono (fun r h => ⟨fun c => (h c).2.2, funext fun e => nomatch e⟩)
    (Cert.FoldReferenceIdeal.Value.run m ρ)

/-- The kernel and the reference end with equal results from equal arguments. -/
theorem values : Cert.algebraic_FoldIdeal_FoldReferenceIdeal := by
  intro m g m' g' _ hargs
  refine ⟨fun c => table (fOut (m ((c.tc : Thread Cert.FoldIdeal.nD Cert.FoldIdeal.τ).loc Cert.FoldIdeal.main_arg0)) (m ((c.tc : Thread Cert.FoldIdeal.nD Cert.FoldIdeal.τ).loc Cert.FoldIdeal.main_arg1))),
    fun c => table (pOut (m ((c.tc : Thread Cert.FoldIdeal.nD Cert.FoldIdeal.τ).loc Cert.FoldIdeal.main_arg2)) (m ((c.tc : Thread Cert.FoldIdeal.nD Cert.FoldIdeal.τ).loc Cert.FoldIdeal.main_arg3)) (m ((c.tc : Thread Cert.FoldIdeal.nD Cert.FoldIdeal.τ).loc Cert.FoldIdeal.main_arg4))), ?_, ?_⟩
  · refine (θ_run _ _ _).mono (fun r h c => ?_) (Cert.FoldIdeal.Value.run_blocks m g)
    obtain ⟨h0, h1, ha⟩ := h c
    exact ⟨h0.trans (f_arr m c), h1.trans (p_arr m c), ha⟩
  · refine (θ_run _ _ _).mono (fun r h c => ?_) (Cert.FoldReferenceIdeal.Value.run m' g')
    obtain ⟨h0, h1, ha⟩ := h c
    obtain ⟨e0, e1, e2, e3, e4⟩ := hargs c
    exact ⟨h0.trans ((f_eq _ _).trans (congrArg table (congr (congrArg fOut e0) e1))),
      h1.trans ((p_eq _ _ _).trans (congrArg table (congr (congr (congrArg pOut e2) e3) e4))), ha⟩

end Cert.Weights

end
-- ==== Proof.lean ====
module

public import proofs.«01_k».proof.Proof.Mixer.Claims
public import proofs.«01_k».proof.Proof.Project.Claims
public import proofs.«01_k».proof.Proof.Merge.Claims
public import proofs.«01_k».proof.Proof.Weights.Claims
public import proofs.«01_k».proof.Proof.Gen.Route.Frame

@[expose] public section

noncomputable section

namespace Cert.Proof

open Idealize.ShloMosaic Idealize.SL.Sem

/-- Everything the certificate claims. -/
theorem claim : Cert.Claim :=
  ⟨Cert.Seqmix.Gen.facts, Cert.SeqmixIdeal.Gen.facts, Cert.SeqmixReferenceIdeal.Gen.facts,
    Cert.Proj.Gen.facts, Cert.ProjIdeal.Gen.facts, Cert.ProjReferenceIdeal.Gen.facts,
    Cert.Tail.Gen.facts, Cert.TailIdeal.Gen.facts, Cert.TailReferenceIdeal.Gen.facts,
    Cert.Fold.Gen.facts, Cert.FoldIdeal.Gen.facts, Cert.FoldReferenceIdeal.Gen.facts,
    Cert.Route.Gen.facts,
    Cert.Pre_finite_mixer_inputs.Gen.facts, Cert.Pre_finite_router.Gen.facts,
    Cert.Mixer.frame_kernel, Cert.Mixer.frame_ideal, Cert.Mixer.frame_ideal_pre, Cert.Mixer.frame_reference, Cert.Mixer.frame_reference_pre,
    Cert.Project.frame_kernel, Cert.Project.frame_ideal, Cert.Project.frame_reference,
    Cert.Merge.frame_kernel, Cert.Merge.frame_ideal, Cert.Merge.frame_ideal_pre, Cert.Merge.frame_reference, Cert.Merge.frame_reference_pre,
    Cert.Weights.frame_kernel, Cert.Weights.frame_ideal, Cert.Weights.frame_reference,
    (fun m ρ _ => Cert.Route.Gen.frame m ρ),
    trivial, Cert.Mixer.values, trivial, Cert.Project.values, trivial, Cert.Merge.values, trivial, Cert.Weights.values⟩

end Cert.Proof

end
